-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v31_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x6144x8192 : Shape := ⟨3, ![2, 6144, 8192]⟩
abbrev S2x6144 : Shape := ⟨2, ![2, 6144]⟩
abbrev S2x6144x16 : Shape := ⟨3, ![2, 6144, 16]⟩
abbrev S8192x16 : Shape := ⟨2, ![8192, 16]⟩
abbrev S8192 : Shape := ⟨1, ![8192]⟩
abbrev S_ : Shape := ⟨0, ![]⟩

class Facts : Prop where
  bcast_S_S2x6144 : S_.BroadcastsInDim S2x6144 (![] : Fin 0 → Fin S2x6144.rank)
  reducesTo_S2x6144_S_d0_1 : S2x6144.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S2x6144x8192 .fp8e4m3) (main_arg1 : FVec F S2x6144 .f32) (main_arg2 : FVec F S2x6144x8192 .fp8e4m3) (main_arg3 : FVec F S2x6144 .f32) (main_arg4 : FVec F S2x6144x16 .fp8e4m3) (main_arg5 : FVec F S2x6144 .f32) (main_arg6 : FVec F S2x6144x16 .fp8e4m3) (main_arg7 : FVec F S2x6144 .f32) (main_arg8 : FVec F S2x6144x8192 .bf16) (main_arg9 : FVec F S8192x16 .f32) (main_arg10 : FVec F S8192 .f32) (main_arg11 : FVec F S8192 .f32) (main_arg12 : IVec S2x6144 32) : IVec S_ 1 :=
  let main_c : IVec S_ 32 := constantI S_ 32 0#32
  let main_v0 : IVec S2x6144 32 := broadcastInDim S2x6144 ![] bcast_S_S2x6144 main_c
  let main_v1 : IVec S2x6144 1 := cmpi .eq main_arg12 main_v0
  let main_c_0 : IVec S_ 32 := constantI S_ 32 1#32
  let main_v2 : IVec S2x6144 32 := broadcastInDim S2x6144 ![] bcast_S_S2x6144 main_c_0
  let main_v3 : IVec S2x6144 1 := cmpi .eq main_arg12 main_v2
  let main_v4 : IVec S2x6144 1 := ori main_v1 main_v3
  let main_c_1 : IVec S_ 1 := constantI S_ 1 1#1
  let main_v5 : IVec S_ 1 := (fun x v => Host.reduce IntOp.andi x v reducesTo_S2x6144_S_d0_1 h_S_) main_v4 main_c_1
  let main_v6 : FVec F S8192x16 .f32 := Host.exp main_arg9
  let main_cst : FVec F S_ .f32 := constant S_ .f32 0x00800000#32
  let main_v7 : FVec F S8192x16 .f32 := broadcastInDim S8192x16 ![] bcast_S_S8192x16 main_cst
  let main_v8 : IVec S8192x16 1 := cmpf .oge main_v6 main_v7
  let main_c_2 : IVec S_ 1 := constantI S_ 1 1#1
  let main_v9 : IVec S_ 1 := (fun x v => Host.reduce IntOp.andi x v reducesTo_S8192x16_S_d0_1 h_S_) main_v8 main_c_2
  let main_v10 : IVec S_ 1 := andi main_v5 main_v9
  main_v10
-- ==== Kernel.lean ====
abbrev S2x6144x8192 : Shape := ⟨3, ![2, 6144, 8192]⟩
abbrev S2x6144 : Shape := ⟨2, ![2, 6144]⟩
abbrev S2x6144x16 : Shape := ⟨3, ![2, 6144, 16]⟩
abbrev S8192x16 : Shape := ⟨2, ![8192, 16]⟩
abbrev S8192 : Shape := ⟨1, ![8192]⟩
abbrev S_ : Shape := ⟨0, ![]⟩
abbrev S2x6144x1 : Shape := ⟨3, ![2, 6144, 1]⟩
abbrev S2x6144x4 : Shape := ⟨3, ![2, 6144, 4]⟩
abbrev S2x96x64x16 : Shape := ⟨4, ![2, 96, 64, 16]⟩
abbrev S2x96x16x64 : Shape := ⟨4, ![2, 96, 16, 64]⟩
abbrev S2x96x1x64 : Shape := ⟨4, ![2, 96, 1, 64]⟩
abbrev S16x8192 : Shape := ⟨2, ![16, 8192]⟩
abbrev S1x8192 : Shape := ⟨2, ![1, 8192]⟩
abbrev S2x16x8192 : Shape := ⟨3, ![2, 16, 8192]⟩
abbrev S1x64x8192 : Shape := ⟨3, ![1, 64, 8192]⟩
abbrev S1x64x4 : Shape := ⟨3, ![1, 64, 4]⟩
abbrev S1x1x16x64 : Shape := ⟨4, ![1, 1, 16, 64]⟩
abbrev S1x1x1x64 : Shape := ⟨4, ![1, 1, 1, 64]⟩
abbrev S1x16x8192 : Shape := ⟨3, ![1, 16, 8192]⟩
abbrev S64x16x128 : Shape := ⟨3, ![64, 16, 128]⟩
abbrev S4x64x128 : Shape := ⟨3, ![4, 64, 128]⟩
abbrev S64x512 : Shape := ⟨2, ![64, 512]⟩
abbrev S4x200x128 : Shape := ⟨3, ![4, 200, 128]⟩
abbrev S16x64 : Shape := ⟨2, ![16, 64]⟩
abbrev S1x64 : Shape := ⟨2, ![1, 64]⟩
abbrev S16x1 : Shape := ⟨2, ![16, 1]⟩
abbrev S16x128 : Shape := ⟨2, ![16, 128]⟩
abbrev S1x16x128 : Shape := ⟨3, ![1, 16, 128]⟩
abbrev S64x4 : Shape := ⟨2, ![64, 4]⟩
abbrev S1x64x512 : Shape := ⟨3, ![1, 64, 512]⟩
abbrev S64x1 : Shape := ⟨2, ![64, 1]⟩
abbrev S1x512 : Shape := ⟨2, ![1, 512]⟩
abbrev S64x128 : Shape := ⟨2, ![64, 128]⟩
abbrev S1x64x128 : Shape := ⟨3, ![1, 64, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩

abbrev nBuf : Space → Nat
  | .hbm => 43
  | .vmem => 30
  | .smem => 0
  | _ => 0

abbrev bufTy : (tb : Table) → Fin (tcTables nBuf tb) → BufTy
  | .hbm, ⟨0, _⟩ => ⟨S2x6144x8192, .fp8e4m3⟩
  | .hbm, ⟨1, _⟩ => ⟨S2x6144, .f32⟩
  | .hbm, ⟨2, _⟩ => ⟨S2x6144x8192, .fp8e4m3⟩
  | .hbm, ⟨3, _⟩ => ⟨S2x6144, .f32⟩
  | .hbm, ⟨4, _⟩ => ⟨S2x6144x16, .fp8e4m3⟩
  | .hbm, ⟨5, _⟩ => ⟨S2x6144, .f32⟩
  | .hbm, ⟨6, _⟩ => ⟨S2x6144x16, .fp8e4m3⟩
  | .hbm, ⟨7, _⟩ => ⟨S2x6144, .f32⟩
  | .hbm, ⟨8, _⟩ => ⟨S2x6144x8192, .bf16⟩
  | .hbm, ⟨9, _⟩ => ⟨S8192x16, .f32⟩
  | .hbm, ⟨10, _⟩ => ⟨S8192, .f32⟩
  | .hbm, ⟨11, _⟩ => ⟨S8192, .f32⟩
  | .hbm, ⟨12, _⟩ => ⟨S2x6144, .i32⟩
  | .hbm, ⟨13, _⟩ => ⟨S_, .i32⟩
  | .hbm, ⟨14, _⟩ => ⟨S2x6144, .i32⟩
  | .hbm, ⟨15, _⟩ => ⟨S2x6144, .i1⟩
  | .hbm, ⟨16, _⟩ => ⟨S_, .f32⟩
  | .hbm, ⟨17, _⟩ => ⟨S_, .f32⟩
  | .hbm, ⟨18, _⟩ => ⟨S2x6144, .f32⟩
  | .hbm, ⟨19, _⟩ => ⟨S2x6144, .f32⟩
  | .hbm, ⟨20, _⟩ => ⟨S2x6144, .f32⟩
  | .hbm, ⟨21, _⟩ => ⟨S2x6144, .f32⟩
  | .hbm, ⟨22, _⟩ => ⟨S2x6144x1, .f32⟩
  | .hbm, ⟨23, _⟩ => ⟨S2x6144x1, .f32⟩
  | .hbm, ⟨24, _⟩ => ⟨S2x6144x1, .f32⟩
  | .hbm, ⟨25, _⟩ => ⟨S2x6144x1, .f32⟩
  | .hbm, ⟨26, _⟩ => ⟨S2x6144x4, .f32⟩
  | .hbm, ⟨27, _⟩ => ⟨S2x96x64x16, .fp8e4m3⟩
  | .hbm, ⟨28, _⟩ => ⟨S2x96x16x64, .fp8e4m3⟩
  | .hbm, ⟨29, _⟩ => ⟨S2x96x64x16, .fp8e4m3⟩
  | .hbm, ⟨30, _⟩ => ⟨S2x96x16x64, .fp8e4m3⟩
  | .hbm, ⟨31, _⟩ => ⟨S2x96x1x64, .f32⟩
  | .hbm, ⟨32, _⟩ => ⟨S2x96x1x64, .f32⟩
  | .hbm, ⟨33, _⟩ => ⟨S8192x16, .f32⟩
  | .hbm, ⟨34, _⟩ => ⟨S8192x16, .f32⟩
  | .hbm, ⟨35, _⟩ => ⟨S_, .f32⟩
  | .hbm, ⟨36, _⟩ => ⟨S8192x16, .f32⟩
  | .hbm, ⟨37, _⟩ => ⟨S8192x16, .f32⟩
  | .hbm, ⟨38, _⟩ => ⟨S16x8192, .f32⟩
  | .hbm, ⟨39, _⟩ => ⟨S1x8192, .f32⟩
  | .hbm, ⟨40, _⟩ => ⟨S1x8192, .f32⟩
  | .hbm, ⟨41, _⟩ => ⟨S2x6144x8192, .bf16⟩
  | .hbm, ⟨42, _⟩ => ⟨S2x16x8192, .f32⟩
  | .local _ .vmem, ⟨0, _⟩ => ⟨S1x64x8192, .fp8e4m3⟩
  | .local _ .vmem, ⟨1, _⟩ => ⟨S1x64x8192, .fp8e4m3⟩
  | .local _ .vmem, ⟨2, _⟩ => ⟨S1x64x8192, .fp8e4m3⟩
  | .local _ .vmem, ⟨3, _⟩ => ⟨S1x64x8192, .fp8e4m3⟩
  | .local _ .vmem, ⟨4, _⟩ => ⟨S1x64x8192, .bf16⟩
  | .local _ .vmem, ⟨5, _⟩ => ⟨S1x64x8192, .bf16⟩
  | .local _ .vmem, ⟨6, _⟩ => ⟨S1x64x4, .f32⟩
  | .local _ .vmem, ⟨7, _⟩ => ⟨S1x64x4, .f32⟩
  | .local _ .vmem, ⟨8, _⟩ => ⟨S1x1x16x64, .fp8e4m3⟩
  | .local _ .vmem, ⟨9, _⟩ => ⟨S1x1x16x64, .fp8e4m3⟩
  | .local _ .vmem, ⟨10, _⟩ => ⟨S1x1x1x64, .f32⟩
  | .local _ .vmem, ⟨11, _⟩ => ⟨S1x1x1x64, .f32⟩
  | .local _ .vmem, ⟨12, _⟩ => ⟨S1x1x16x64, .fp8e4m3⟩
  | .local _ .vmem, ⟨13, _⟩ => ⟨S1x1x16x64, .fp8e4m3⟩
  | .local _ .vmem, ⟨14, _⟩ => ⟨S1x1x1x64, .f32⟩
  | .local _ .vmem, ⟨15, _⟩ => ⟨S1x1x1x64, .f32⟩
  | .local _ .vmem, ⟨16, _⟩ => ⟨S16x8192, .f32⟩
  | .local _ .vmem, ⟨17, _⟩ => ⟨S1x8192, .f32⟩
  | .local _ .vmem, ⟨18, _⟩ => ⟨S1x8192, .f32⟩
  | .local _ .vmem, ⟨19, _⟩ => ⟨S1x64x8192, .bf16⟩
  | .local _ .vmem, ⟨20, _⟩ => ⟨S1x64x8192, .bf16⟩
  | .local _ .vmem, ⟨21, _⟩ => ⟨S1x16x8192, .f32⟩
  | .local _ .vmem, ⟨22, _⟩ => ⟨S1x16x8192, .f32⟩
  | .local _ .vmem, ⟨23, _⟩ => ⟨S64x16x128, .f32⟩
  | .local _ .vmem, ⟨24, _⟩ => ⟨S64x16x128, .f32⟩
  | .local _ .vmem, ⟨25, _⟩ => ⟨S4x64x128, .f32⟩
  | .local _ .vmem, ⟨26, _⟩ => ⟨S4x64x128, .f32⟩
  | .local _ .vmem, ⟨27, _⟩ => ⟨S64x512, .f32⟩
  | .local _ .vmem, ⟨28, _⟩ => ⟨S64x512, .f32⟩
  | .local _ .vmem, ⟨29, _⟩ => ⟨S4x200x128, .f32⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22_0 : Ref sig .tc := ⟨.hbm, 41, rfl⟩
abbrev main_v22_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 96], ![false, false]⟩

@[reducible] def k0_t1_loop : Scf.Loop 32 :=
  let c0_i32_337 : BitVec 32 := 0#32
  let c16_i32 : BitVec 32 := 16#32
  let v785 : BitVec 32 := Scalar.addi c0_i32_337 c16_i32
  let c1_i32 : BitVec 32 := 1#32
  ⟨c0_i32_337, v785, c1_i32⟩
def k0_mult1 (k0_t1 : Fin k0_t1_loop.trips) : BitVec 32 :=
  let c0_i32_337 : BitVec 32 := 0#32
  let c1_i32 : BitVec 32 := 1#32
  let arg22 : BitVec 32 := Scf.iv c0_i32_337 c1_i32 k0_t1
  let c512_i32 : BitVec 32 := 512#32
  let v786 : BitVec 32 := Scalar.muli arg22 c512_i32
  v786
def k0_off1 (k0_t1 : Fin k0_t1_loop.trips) : Fin 3 → Nat :=
  let c0_342 : Index := 0#32
  let c0_343 : Index := 0#32
  let c0_i32_337 : BitVec 32 := 0#32
  let c1_i32 : BitVec 32 := 1#32
  let arg22 : BitVec 32 := Scf.iv c0_i32_337 c1_i32 k0_t1
  let c512_i32 : BitVec 32 := 512#32
  let v786 : BitVec 32 := Scalar.muli arg22 c512_i32
  let v787 : BitVec 32 := v786
  let v790 : Index := Scalar.indexCast v787
  ![0, 0, v790.toNat]
def k0_off2 (k0_t1 : Fin k0_t1_loop.trips) : Fin 2 → Nat :=
  let c0_344 : Index := 0#32
  let c0_i32_337 : BitVec 32 := 0#32
  let c1_i32 : BitVec 32 := 1#32
  let arg22 : BitVec 32 := Scf.iv c0_i32_337 c1_i32 k0_t1
  let c512_i32 : BitVec 32 := 512#32
  let v786 : BitVec 32 := Scalar.muli arg22 c512_i32
  let v787 : BitVec 32 := v786
  let v799 : Index := Scalar.indexCast v787
  ![0, v799.toNat]
def k0_off3 (k0_t1 : Fin k0_t1_loop.trips) (c0_i32_385 : BitVec 32) : Fin 2 → Nat :=
  let c0_386 : Index := 0#32
  let c0_i32_337 : BitVec 32 := 0#32
  let c1_i32 : BitVec 32 := 1#32
  let arg22 : BitVec 32 := Scf.iv c0_i32_337 c1_i32 k0_t1
  let c512_i32 : BitVec 32 := 512#32
  let v786 : BitVec 32 := Scalar.muli arg22 c512_i32
  let v787 : BitVec 32 := v786
  let v907 : BitVec 32 := Scalar.addi v787 c0_i32_385
  let v908 : Index := Scalar.indexCast v907
  ![0, v908.toNat]
def k0_off4 (k0_t1 : Fin k0_t1_loop.trips) (c0_i32_387 : BitVec 32) : Fin 2 → Nat :=
  let c8_388 : Index := 8#32
  let c0_i32_337 : BitVec 32 := 0#32
  let c1_i32 : BitVec 32 := 1#32
  let arg22 : BitVec 32 := Scf.iv c0_i32_337 c1_i32 k0_t1
  let c512_i32 : BitVec 32 := 512#32
  let v786 : BitVec 32 := Scalar.muli arg22 c512_i32
  let v787 : BitVec 32 := v786
  let v911 : BitVec 32 := Scalar.addi v787 c0_i32_387
  let v912 : Index := Scalar.indexCast v911
  ![8, v912.toNat]
def k0_off5 (k0_t1 : Fin k0_t1_loop.trips) (c0_i32_398 : BitVec 32) : Fin 3 → Nat :=
  let c0_399 : Index := 0#32
  let c0_400 : Index := 0#32
  let c0_i32_337 : BitVec 32 := 0#32
  let c1_i32 : BitVec 32 := 1#32
  let arg22 : BitVec 32 := Scf.iv c0_i32_337 c1_i32 k0_t1
  let c512_i32 : BitVec 32 := 512#32
  let v786 : BitVec 32 := Scalar.muli arg22 c512_i32
  let v787 : BitVec 32 := v786
  let v939 : BitVec 32 := Scalar.addi v787 c0_i32_398
  let v940 : Index := Scalar.indexCast v939
  ![0, 0, v940.toNat]
def k0_off6 (k0_t1 : Fin k0_t1_loop.trips) (c0_i32_401 : BitVec 32) : Fin 3 → Nat :=
  let c0_402 : Index := 0#32
  let c8_403 : Index := 8#32
  let c0_i32_337 : BitVec 32 := 0#32
  let c1_i32 : BitVec 32 := 1#32
  let arg22 : BitVec 32 := Scf.iv c0_i32_337 c1_i32 k0_t1
  let c512_i32 : BitVec 32 := 512#32
  let v786 : BitVec 32 := Scalar.muli arg22 c512_i32
  let v787 : BitVec 32 := v786
  let v943 : BitVec 32 := Scalar.addi v787 c0_i32_401
  let v944 : Index := Scalar.indexCast v943
  ![0, 8, v944.toNat]
@[reducible] def k0_t2_loop : Scf.Loop 32 :=
  let c0_i32_422 : BitVec 32 := 0#32
  let c8_i32 : BitVec 32 := 8#32
  let v971 : BitVec 32 := Scalar.addi c0_i32_422 c8_i32
  let c1_i32_423 : BitVec 32 := 1#32
  ⟨c0_i32_422, v971, c1_i32_423⟩
def k0_off7 (k0_t2 : Fin k0_t2_loop.trips) (c0_i32_460 : BitVec 32) : Fin 3 → Nat :=
  let c0_461 : Index := 0#32
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v1034 : BitVec 32 := Scalar.addi v1033 c0_i32_460
  let v1035 : Index := Scalar.indexCast v1034
  let c0_462 : Index := 0#32
  ![0, v1035.toNat, 0]
def k0_off8 (k0_t2 : Fin k0_t2_loop.trips) (c0_i32_466 : BitVec 32) : Fin 3 → Nat :=
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v1049 : BitVec 32 := Scalar.addi v1033 c0_i32_466
  let v1050 : Index := Scalar.indexCast v1049
  let c0_467 : Index := 0#32
  let c0_468 : Index := 0#32
  ![v1050.toNat, 0, 0]
def k0_off9 (k0_t2 : Fin k0_t2_loop.trips) (c0_i32_472 : BitVec 32) : Fin 3 → Nat :=
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v1063 : BitVec 32 := Scalar.addi v1033 c0_i32_472
  let v1064 : Index := Scalar.indexCast v1063
  let c8_473 : Index := 8#32
  let c0_474 : Index := 0#32
  ![v1064.toNat, 8, 0]
def k0_off10 (k0_t2 : Fin k0_t2_loop.trips) (c0_i32_481 : BitVec 32) : Fin 3 → Nat :=
  let c1_482 : Index := 1#32
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v1078 : BitVec 32 := Scalar.addi v1033 c0_i32_481
  let v1079 : Index := Scalar.indexCast v1078
  let c0_483 : Index := 0#32
  ![1, v1079.toNat, 0]
def k0_off11 (k0_t2 : Fin k0_t2_loop.trips) (c0_i32_502 : BitVec 32) : Fin 3 → Nat :=
  let c2_503 : Index := 2#32
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v1122 : BitVec 32 := Scalar.addi v1033 c0_i32_502
  let v1123 : Index := Scalar.indexCast v1122
  let c0_504 : Index := 0#32
  ![2, v1123.toNat, 0]
def k0_off12 (k0_t2 : Fin k0_t2_loop.trips) (c0_i32_523 : BitVec 32) : Fin 3 → Nat :=
  let c3_524 : Index := 3#32
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v1166 : BitVec 32 := Scalar.addi v1033 c0_i32_523
  let v1167 : Index := Scalar.indexCast v1166
  let c0_525 : Index := 0#32
  ![3, v1167.toNat, 0]
def k0_off13 (k0_t2 : Fin k0_t2_loop.trips) : Fin 2 → Nat :=
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v2465 : Index := Scalar.indexCast v1033
  let c0_1145 : Index := 0#32
  ![v2465.toNat, 0]
def k0_off14 (k0_t2 : Fin k0_t2_loop.trips) : Fin 2 → Nat :=
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v2492 : Index := Scalar.indexCast v1033
  let c128 : Index := 128#32
  ![v2492.toNat, 128]
def k0_off15 (k0_t2 : Fin k0_t2_loop.trips) : Fin 2 → Nat :=
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v2519 : Index := Scalar.indexCast v1033
  let c256 : Index := 256#32
  ![v2519.toNat, 256]
def k0_off16 (k0_t2 : Fin k0_t2_loop.trips) : Fin 2 → Nat :=
  let c0_i32_422 : BitVec 32 := 0#32
  let c1_i32_423 : BitVec 32 := 1#32
  let arg23 : BitVec 32 := Scf.iv c0_i32_422 c1_i32_423 k0_t2
  let c8_i32_459 : BitVec 32 := 8#32
  let v1033 : BitVec 32 := Scalar.muli arg23 c8_i32_459
  let v2546 : Index := Scalar.indexCast v1033
  let c384 : Index := 384#32
  ![v2546.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x64 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x64 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S16x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S2x6144x8192 : Shape := ⟨3, ![2, 6144, 8192]⟩
abbrev S2x6144 : Shape := ⟨2, ![2, 6144]⟩
abbrev S2x6144x16 : Shape := ⟨3, ![2, 6144, 16]⟩
abbrev S8192x16 : Shape := ⟨2, ![8192, 16]⟩
abbrev S8192 : Shape := ⟨1, ![8192]⟩
abbrev S2x6144x1 : Shape := ⟨3, ![2, 6144, 1]⟩
abbrev S1x1x8192 : Shape := ⟨3, ![1, 1, 8192]⟩
abbrev S_ : Shape := ⟨0, ![]⟩
abbrev S16x8192 : Shape := ⟨2, ![16, 8192]⟩
abbrev S2x16x8192 : Shape := ⟨3, ![2, 16, 8192]⟩
abbrev S6144x2x8192 : Shape := ⟨3, ![6144, 2, 8192]⟩
abbrev S6144x2x16 : Shape := ⟨3, ![6144, 2, 16]⟩
abbrev S6144x2 : Shape := ⟨2, ![6144, 2]⟩
abbrev S1x2x8192 : Shape := ⟨3, ![1, 2, 8192]⟩
abbrev S2x8192 : Shape := ⟨2, ![2, 8192]⟩
abbrev S1x2x16 : Shape := ⟨3, ![1, 2, 16]⟩
abbrev S2x16 : Shape := ⟨2, ![2, 16]⟩
abbrev S1x2 : Shape := ⟨2, ![1, 2]⟩
abbrev S2 : Shape := ⟨1, ![2]⟩
abbrev S2x1x8192 : Shape := ⟨3, ![2, 1, 8192]⟩
abbrev S1x16x8192 : Shape := ⟨3, ![1, 16, 8192]⟩
abbrev S2x1x1 : Shape := ⟨3, ![2, 1, 1]⟩
abbrev S2x16x1 : Shape := ⟨3, ![2, 16, 1]⟩

abbrev nBuf : Space → Nat
  | .hbm => 138
  | .vmem => 8
  | .smem => 0
  | _ => 0

abbrev hbmTy0_0 (i : Nat) : BufTy := match i % 128 with
  | 0 => ⟨S2x6144x8192, .fp8e4m3⟩
  | 1 => ⟨S2x6144, .f32⟩
  | 2 => ⟨S2x6144x8192, .fp8e4m3⟩
  | 3 => ⟨S2x6144, .f32⟩
  | 4 => ⟨S2x6144x16, .fp8e4m3⟩
  | 5 => ⟨S2x6144, .f32⟩
  | 6 => ⟨S2x6144x16, .fp8e4m3⟩
  | 7 => ⟨S2x6144, .f32⟩
  | 8 => ⟨S2x6144x8192, .bf16⟩
  | 9 => ⟨S8192x16, .f32⟩
  | 10 => ⟨S8192, .f32⟩
  | 11 => ⟨S8192, .f32⟩
  | 12 => ⟨S2x6144, .i32⟩
  | 13 => ⟨S2x6144x8192, .f32⟩
  | 14 => ⟨S2x6144x8192, .f32⟩
  | 15 => ⟨S2x6144x16, .f32⟩
  | 16 => ⟨S2x6144x16, .f32⟩
  | 17 => ⟨S2x6144x1, .f32⟩
  | 18 => ⟨S2x6144x8192, .f32⟩
  | 19 => ⟨S2x6144x8192, .f32⟩
  | 20 => ⟨S2x6144x1, .f32⟩
  | 21 => ⟨S2x6144x8192, .f32⟩
  | 22 => ⟨S2x6144x8192, .f32⟩
  | 23 => ⟨S2x6144x1, .f32⟩
  | 24 => ⟨S2x6144x16, .f32⟩
  | 25 => ⟨S2x6144x16, .f32⟩
  | 26 => ⟨S2x6144x1, .f32⟩
  | 27 => ⟨S2x6144x16, .f32⟩
  | 28 => ⟨S2x6144x16, .f32⟩
  | 29 => ⟨S1x1x8192, .f32⟩
  | 30 => ⟨S2x6144x8192, .f32⟩
  | 31 => ⟨S2x6144x8192, .f32⟩
  | 32 => ⟨S_, .f32⟩
  | 33 => ⟨S2x6144x8192, .f32⟩
  | 34 => ⟨S2x6144x8192, .f32⟩
  | 35 => ⟨S2x6144x8192, .f32⟩
  | 36 => ⟨S2x6144x8192, .f32⟩
  | 37 => ⟨S2x6144x8192, .i1⟩
  | 38 => ⟨S2x6144x8192, .f32⟩
  | 39 => ⟨S2x6144x8192, .f32⟩
  | 40 => ⟨S2x6144x8192, .f32⟩
  | 41 => ⟨S2x6144x8192, .f32⟩
  | 42 => ⟨S2x6144x8192, .f32⟩
  | 43 => ⟨S2x6144x8192, .f32⟩
  | 44 => ⟨S2x6144x8192, .f32⟩
  | 45 => ⟨S2x6144x8192, .f32⟩
  | 46 => ⟨S8192x16, .f32⟩
  | 47 => ⟨S8192x16, .f32⟩
  | 48 => ⟨S16x8192, .f32⟩
  | 49 => ⟨S2x6144x8192, .f32⟩
  | 50 => ⟨S_, .i32⟩
  | 51 => ⟨S2x6144, .i32⟩
  | 52 => ⟨S2x6144, .i32⟩
  | 53 => ⟨S2x6144, .f32⟩
  | 54 => ⟨S_, .f32⟩
  | 55 => ⟨S2x16x8192, .f32⟩
  | 56 => ⟨S6144x2x8192, .f32⟩
  | 57 => ⟨S6144x2x8192, .f32⟩
  | 58 => ⟨S6144x2x16, .f32⟩
  | 59 => ⟨S6144x2x16, .f32⟩
  | 60 => ⟨S6144x2, .f32⟩
  | 61 => ⟨S_, .f32⟩
  | 62 => ⟨S6144x2x8192, .f32⟩
  | 63 => ⟨S_, .i32⟩
  | 64 => ⟨S6144x2x8192, .f32⟩
  | 65 => ⟨S6144x2x8192, .f32⟩
  | 66 => ⟨S6144x2x16, .f32⟩
  | 67 => ⟨S6144x2x16, .f32⟩
  | 68 => ⟨S6144x2, .f32⟩
  | 69 => ⟨S16x8192, .f32⟩
  | 70 => ⟨S_, .i32⟩
  | 71 => ⟨S2x16x8192, .f32⟩
  | 72 => ⟨S6144x2x8192, .f32⟩
  | 73 => ⟨S_, .i32⟩
  | 74 => ⟨S_, .i1⟩
  | 75 => ⟨S_, .i32⟩
  | 76 => ⟨S_, .i32⟩
  | 77 => ⟨S1x2x8192, .f32⟩
  | 78 => ⟨S2x8192, .f32⟩
  | 79 => ⟨S_, .i32⟩
  | 80 => ⟨S_, .i32⟩
  | 81 => ⟨S1x2x8192, .f32⟩
  | 82 => ⟨S2x8192, .f32⟩
  | 83 => ⟨S_, .i32⟩
  | 84 => ⟨S_, .i32⟩
  | 85 => ⟨S1x2x16, .f32⟩
  | 86 => ⟨S2x16, .f32⟩
  | 87 => ⟨S_, .i32⟩
  | 88 => ⟨S_, .i32⟩
  | 89 => ⟨S1x2x16, .f32⟩
  | 90 => ⟨S2x16, .f32⟩
  | 91 => ⟨S_, .i32⟩
  | 92 => ⟨S1x2, .f32⟩
  | 93 => ⟨S2, .f32⟩
  | 94 => ⟨S2x1x8192, .f32⟩
  | 95 => ⟨S1x16x8192, .f32⟩
  | 96 => ⟨S2x16x8192, .f32⟩
  | 97 => ⟨S2x16x8192, .f32⟩
  | 98 => ⟨S2x16x8192, .f32⟩
  | 99 => ⟨S2x16x8192, .f32⟩
  | 100 => ⟨S2x16x8192, .f32⟩
  | 101 => ⟨S2x1x1, .f32⟩
  | 102 => ⟨S2x16x8192, .f32⟩
  | 103 => ⟨S2x16x8192, .f32⟩
  | 104 => ⟨S2x1x8192, .f32⟩
  | 105 => ⟨S2x16x1, .f32⟩
  | 106 => ⟨S2x16x8192, .f32⟩
  | 107 => ⟨S2x16x8192, .f32⟩
  | 108 => ⟨S2x16x8192, .f32⟩
  | 109 => ⟨S2x16x8192, .f32⟩
  | 110 => ⟨S2x16x1, .f32⟩
  | 111 => ⟨S2x16x8192, .f32⟩
  | 112 => ⟨S2x16x8192, .f32⟩
  | 113 => ⟨S_, .f32⟩
  | 114 => ⟨S2x8192, .f32⟩
  | 115 => ⟨S1x2x8192, .f32⟩
  | 116 => ⟨S_, .i32⟩
  | 117 => ⟨S_, .i32⟩
  | 118 => ⟨S6144x2x8192, .f32⟩
  | 119 => ⟨S_, .i32⟩
  | 120 => ⟨S_, .i32⟩
  | 121 => ⟨S2x6144x8192, .f32⟩
  | 122 => ⟨S1x1x8192, .f32⟩
  | 123 => ⟨S2x6144x8192, .f32⟩
  | 124 => ⟨S2x6144x8192, .f32⟩
  | 125 => ⟨S2x6144x8192, .f32⟩
  | 126 => ⟨S2x6144x8192, .f32⟩
  | 127 => ⟨S2x6144x8192, .f32⟩
  | _ => ⟨S2x6144x8192, .fp8e4m3⟩

abbrev hbmTy0_1 (i : Nat) : BufTy := match i % 128 with
  | 0 => ⟨S2x6144x8192, .f32⟩
  | 1 => ⟨S_, .f32⟩
  | 2 => ⟨S2x6144x8192, .f32⟩
  | 3 => ⟨S2x6144x8192, .f32⟩
  | 4 => ⟨S_, .f32⟩
  | 5 => ⟨S2x6144x8192, .f32⟩
  | 6 => ⟨S2x6144x8192, .f32⟩
  | 7 => ⟨S2x6144x8192, .f32⟩
  | 8 => ⟨S2x6144x8192, .f32⟩
  | 9 => ⟨S2x6144x8192, .bf16⟩
  | _ => ⟨S2x6144x8192, .fp8e4m3⟩

abbrev hbmTy (i : Nat) : BufTy := match i / 128 with
  | 0 => hbmTy0_0 i
  | 1 => hbmTy0_1 i
  | _ => ⟨S2x6144x8192, .fp8e4m3⟩

abbrev bufTy : (tb : Table) → Fin (tcTables nBuf tb) → BufTy
  | .hbm, ⟨i, _⟩ => hbmTy i
  | .local _ .vmem, ⟨0, _⟩ => ⟨S2x6144x8192, .fp8e4m3⟩
  | .local _ .vmem, ⟨1, _⟩ => ⟨S2x6144x8192, .fp8e4m3⟩
  | .local _ .vmem, ⟨2, _⟩ => ⟨S2x6144x16, .fp8e4m3⟩
  | .local _ .vmem, ⟨3, _⟩ => ⟨S2x6144x16, .fp8e4m3⟩
  | .local _ .vmem, ⟨4, _⟩ => ⟨S2x6144x8192, .f32⟩
  | .local _ .vmem, ⟨5, _⟩ => ⟨S2x6144x8192, .f32⟩
  | .local _ .vmem, ⟨6, _⟩ => ⟨S2x6144x16, .f32⟩
  | .local _ .vmem, ⟨7, _⟩ => ⟨S2x6144x16, .f32⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_0 : Ref sig .tc := ⟨.hbm, 61, rfl⟩
abbrev main_v30 : Ref sig .tc := ⟨.hbm, 62, rfl⟩
abbrev main_c_1 : Ref sig .tc := ⟨.hbm, 63, rfl⟩
abbrev main_v31_0 : Ref sig .tc := ⟨.hbm, 64, rfl⟩
abbrev main_v31_1 : Ref sig .tc := ⟨.hbm, 65, rfl⟩
abbrev main_v31_2 : Ref sig .tc := ⟨.hbm, 66, rfl⟩
abbrev main_v31_3 : Ref sig .tc := ⟨.hbm, 67, rfl⟩
abbrev main_v31_4 : Ref sig .tc := ⟨.hbm, 68, rfl⟩
abbrev main_v31_5 : Ref sig .tc := ⟨.hbm, 69, rfl⟩
abbrev main_v31_6 : Ref sig .tc := ⟨.hbm, 70, rfl⟩
abbrev main_v31_7 : Ref sig .tc := ⟨.hbm, 71, rfl⟩
abbrev main_v31_8 : Ref sig .tc := ⟨.hbm, 72, rfl⟩
abbrev main_while0c_c_10 : Ref sig .tc := ⟨.hbm, 73, rfl⟩
abbrev main_while0c_v41 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_call1_v0 : Ref sig .tc := ⟨.hbm, 77, rfl⟩
abbrev main_while0b_v41 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_v0 : Ref sig .tc := ⟨.hbm, 81, rfl⟩
abbrev main_while0b_v42 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_v0 : Ref sig .tc := ⟨.hbm, 85, rfl⟩
abbrev main_while0b_v43 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_v0 : Ref sig .tc := ⟨.hbm, 89, rfl⟩
abbrev main_while0b_v44 : Ref sig .tc := ⟨.hbm, 90, rfl⟩
abbrev main_while0b_call5_c : Ref sig .tc := ⟨.hbm, 91, rfl⟩
abbrev main_while0b_call5_v0 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_v57 : Ref sig .tc := ⟨.hbm, 105, rfl⟩
abbrev main_while0b_v58 : Ref sig .tc := ⟨.hbm, 106, rfl⟩
abbrev main_while0b_v59 : Ref sig .tc := ⟨.hbm, 107, rfl⟩
abbrev main_while0b_v60 : Ref sig .tc := ⟨.hbm, 108, rfl⟩
abbrev main_while0b_v61 : Ref sig .tc := ⟨.hbm, 109, rfl⟩
abbrev main_while0b_v62 : Ref sig .tc := ⟨.hbm, 110, rfl⟩
abbrev main_while0b_v63 : Ref sig .tc := ⟨.hbm, 111, rfl⟩
abbrev main_while0b_v64 : Ref sig .tc := ⟨.hbm, 112, rfl⟩
abbrev main_while0b_cst_10 : Ref sig .tc := ⟨.hbm, 113, rfl⟩
abbrev main_while0b_v65 : Ref sig .tc := ⟨.hbm, 114, rfl⟩
abbrev main_while0b_call6_v0 : Ref sig .tc := ⟨.hbm, 115, rfl⟩
abbrev main_while0b_call6_c : Ref sig .tc := ⟨.hbm, 116, rfl⟩
abbrev main_while0b_call6_c_0 : Ref sig .tc := ⟨.hbm, 117, rfl⟩
abbrev main_while0b_v66 : Ref sig .tc := ⟨.hbm, 118, rfl⟩
abbrev main_while0b_c_11 : Ref sig .tc := ⟨.hbm, 119, rfl⟩
abbrev main_while0b_v67 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_call7_v0 : Ref sig .tc := ⟨.hbm, 127, rfl⟩
abbrev main_call7_v1 : Ref sig .tc := ⟨.hbm, 128, rfl⟩
abbrev main_call7_cst : Ref sig .tc := ⟨.hbm, 129, rfl⟩
abbrev main_call7_v2 : Ref sig .tc := ⟨.hbm, 130, rfl⟩
abbrev main_call7_v3 : Ref sig .tc := ⟨.hbm, 131, rfl⟩
abbrev main_call7_cst_0 : Ref sig .tc := ⟨.hbm, 132, rfl⟩
abbrev main_call7_v4 : Ref sig .tc := ⟨.hbm, 133, rfl⟩
abbrev main_call7_v5 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev main_while0_count : Scf.Loop 32 := ⟨0#32, 6144#32, 1#32⟩

abbrev grid0 : Pipeline.Grid := .none

abbrev stage0_0 : Fin 1 → Memref sig .tc .vmem S2x6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144x16 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144x16 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6144x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x6144x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Regular.lean ====
/- The kernel's group trip written regularly: eight tokens of four lane blocks each, then the four column sums. -/
module

public import proofs.«01_k».proof.Proof.Gen.Kernel.Skeleton

@[expose] public section

set_option maxRecDepth 65536

noncomputable section

namespace Cert.Proof.Kernel

open Cert.Kernel Cert.Kernel.Gen
open Idealize.ShloMosaic Idealize.SL.Sem

variable {F : FTy → Type} [FloatOps F]

/-- The rectangle of `yb` that token `t` of a group writes in lane block `k`: rows `25 t + 3 n`. -/
theorem ybRow_inb (k t : ℕ) (hk : k < 4) (ht : t < 8) :
    ∀ a, S1x8x128.size a = 0 ∨ (![k, 25 * t, 0] : Fin 3 → Nat) a + (![1, 3, 1] : Fin 3 → Nat) a * (S1x8x128.size a - 1) < S4x200x128.size a := by
  intro a
  match a with
  | ⟨0, _⟩ => right; show k + 1 * 0 < 4; omega
  | ⟨1, _⟩ => right; show 25 * t + 3 * 7 < 200; omega
  | ⟨2, _⟩ => right; show 0 + 1 * 127 < 128; omega

/-- The rectangle of `yb` that the sum over state row `n` reads in lane block `k`: rows `25 t + 3 n`, all tokens. -/
theorem ybCol_inb (k n : ℕ) (hk : k < 4) (hn : n < 8) :
    ∀ a, S1x8x128.size a = 0 ∨ (![k, 3 * n, 0] : Fin 3 → Nat) a + (![1, 25, 1] : Fin 3 → Nat) a * (S1x8x128.size a - 1) < S4x200x128.size a := by
  intro a
  match a with
  | ⟨0, _⟩ => right; show k + 1 * 0 < 4; omega
  | ⟨1, _⟩ => right; show 3 * n + 25 * 7 < 200; omega
  | ⟨2, _⟩ => right; show 0 + 1 * 127 < 128; omega

/-- The rectangle of a token's write. -/
abbrev ybRow (k t : ℕ) (hk : k < 4) (ht : t < 8) : LoadRect S4x200x128 := ⟨![k, 25 * t, 0], S1x8x128.size, ![1, 3, 1], ybRow_inb k t hk ht⟩
/-- The rectangle of a column's read. -/
abbrev ybCol (k n : ℕ) (hk : k < 4) (hn : n < 8) : LoadRect S4x200x128 := ⟨![k, 3 * n, 0], S1x8x128.size, ![1, 25, 1], ybCol_inb k n hk hn⟩

/-- One token in one lane block: the decay and the input row, the two halves of `B` and `C`, the new state halves,
    and the token's products written to `yb`. -/
def cell (bb cb : Memref sig .tc .vmem S64x16x128 .f32) (de u : Memref sig .tc .vmem S4x64x128 .f32) (yb : Memref sig .tc .vmem S4x200x128 .f32)
    (k t : ℕ) (hk : k < 4) (ht : t < 8)
    (od : Fin 3 → Nat) (hd : ∀ a, od a + S1x1x128.size a ≤ S4x64x128.size a)
    (ol : Fin 3 → Nat) (hl : ∀ a, ol a + S1x8x128.size a ≤ S64x16x128.size a)
    (oh : Fin 3 → Nat) (hh : ∀ a, oh a + S1x8x128.size a ≤ S64x16x128.size a)
    (aLo aHi : FVec F S8x128 .f32) (h : FVec F S8x128 .f32 × FVec F S8x128 .f32) :
    Prog (TpuEff nD τ sig (Elt F) Λ₀ .tc) (FVec F S8x128 .f32 × FVec F S8x128 .f32) := do
  let vd : Vec F S1x1x128 .f32 ← Prog.lift (.load de (Rect.unit (s := S4x64x128) od S1x1x128.size hd).toLoadRect (View.loadsAt_vmem h_S1x1x128))
  let vu : Vec F S1x1x128 .f32 ← Prog.lift (.load u (Rect.unit (s := S4x64x128) od S1x1x128.size hd).toLoadRect (View.loadsAt_vmem h_S1x1x128))
  let bl : Vec F S1x8x128 .f32 ← Prog.lift (.load bb (Rect.unit (s := S64x16x128) ol S1x8x128.size hl).toLoadRect (View.loadsAt_vmem h_S1x8x128))
  let cl : Vec F S1x8x128 .f32 ← Prog.lift (.load cb (Rect.unit (s := S64x16x128) ol S1x8x128.size hl).toLoadRect (View.loadsAt_vmem h_S1x8x128))
  let bh : Vec F S1x8x128 .f32 ← Prog.lift (.load bb (Rect.unit (s := S64x16x128) oh S1x8x128.size hh).toLoadRect (View.loadsAt_vmem h_S1x8x128))
  let ch : Vec F S1x8x128 .f32 ← Prog.lift (.load cb (Rect.unit (s := S64x16x128) oh S1x8x128.size hh).toLoadRect (View.loadsAt_vmem h_S1x8x128))
  let _w : Vec F S1x8x128 .f32 ← Prog.lift (.load yb (ybRow k t hk ht) (View.loadsAt_vmem h_S1x8x128))
  Prog.lift (.store yb ⟨ybRow k t hk ht, spos_1_3_1⟩ (k0_pay8 (k0_pay5 aLo h.1 vd vu bl cl) (k0_pay6 aHi h.2 vd vu bh) (k0_pay7 ch)) Finset.univ (View.stores_vmem_bits_univ h_S1x8x128 rfl) (.inl rfl))
  pure (k0_pay4 aLo h.1 vd vu bl, k0_pay6 aHi h.2 vd vu bh)

/-- Eight state halves: low and high rows of each lane block. -/
abbrev St (F : FTy → Type) : Type := FVec F S8x128 .f32 × FVec F S8x128 .f32 × FVec F S8x128 .f32 × FVec F S8x128 .f32 × FVec F S8x128 .f32 × FVec F S8x128 .f32 × FVec F S8x128 .f32 × FVec F S8x128 .f32

/-- One token: its four lane blocks. -/
def token (bb cb : Memref sig .tc .vmem S64x16x128 .f32) (de u : Memref sig .tc .vmem S4x64x128 .f32) (yb : Memref sig .tc .vmem S4x200x128 .f32)
    (g : Fin k0_t2_loop.trips) (t : Fin 8) (a h : St F) : Prog (TpuEff nD τ sig (Elt F) Λ₀ .tc) (St F) := do
  let p0 ← cell bb cb de u yb 0 t.val (by decide) t.isLt _ (k0_off7_inb g t) _ (k0_off8_inb g t) _ (k0_off9_inb g t) a.1 a.2.1 (h.1, h.2.1)
  let p1 ← cell bb cb de u yb 1 t.val (by decide) t.isLt _ (k0_off10_inb g t) _ (k0_off8_inb g t) _ (k0_off9_inb g t) a.2.2.1 a.2.2.2.1 (h.2.2.1, h.2.2.2.1)
  let p2 ← cell bb cb de u yb 2 t.val (by decide) t.isLt _ (k0_off11_inb g t) _ (k0_off8_inb g t) _ (k0_off9_inb g t) a.2.2.2.2.1 a.2.2.2.2.2.1 (h.2.2.2.2.1, h.2.2.2.2.2.1)
  let p3 ← cell bb cb de u yb 3 t.val (by decide) t.isLt _ (k0_off12_inb g t) _ (k0_off8_inb g t) _ (k0_off9_inb g t) a.2.2.2.2.2.2.1 a.2.2.2.2.2.2.2 (h.2.2.2.2.2.2.1, h.2.2.2.2.2.2.2)
  pure (p0.1, p0.2, p1.1, p1.2, p2.1, p2.2, p3.1, p3.2)

/-- One lane block's column sums, into `yt`. -/
def column (yb : Memref sig .tc .vmem S4x200x128 .f32) (yt : Memref sig .tc .vmem S64x512 .f32) (k : ℕ) (hk : k < 4)
    (o : Fin 2 → Nat) (ho : ∀ a, o a + S8x128.size a ≤ S64x512.size a) : Prog (TpuEff nD τ sig (Elt F) Λ₀ .tc) PUnit := do
  let r0 : Vec F S1x8x128 .f32 ← Prog.lift (.load yb (ybCol k 0 hk (by decide)) (View.loadsAt_vmem h_S1x8x128))
  let r1 : Vec F S1x8x128 .f32 ← Prog.lift (.load yb (ybCol k 1 hk (by decide)) (View.loadsAt_vmem h_S1x8x128))
  let r2 : Vec F S1x8x128 .f32 ← Prog.lift (.load yb (ybCol k 2 hk (by decide)) (View.loadsAt_vmem h_S1x8x128))
  let r3 : Vec F S1x8x128 .f32 ← Prog.lift (.load yb (ybCol k 3 hk (by decide)) (View.loadsAt_vmem h_S1x8x128))
  let r4 : Vec F S1x8x128 .f32 ← Prog.lift (.load yb (ybCol k 4 hk (by decide)) (View.loadsAt_vmem h_S1x8x128))
  let r5 : Vec F S1x8x128 .f32 ← Prog.lift (.load yb (ybCol k 5 hk (by decide)) (View.loadsAt_vmem h_S1x8x128))
  let r6 : Vec F S1x8x128 .f32 ← Prog.lift (.load yb (ybCol k 6 hk (by decide)) (View.loadsAt_vmem h_S1x8x128))
  let r7 : Vec F S1x8x128 .f32 ← Prog.lift (.load yb (ybCol k 7 hk (by decide)) (View.loadsAt_vmem h_S1x8x128))
  let _w : Vec F S8x128 .f32 ← Prog.lift (.load yt (Rect.unit (s := S64x512) o S8x128.size ho).toLoadRect (View.loadsAt_vmem h_S8x128))
  Prog.lift (.store yt (Rect.unit (s := S64x512) o S8x128.size ho) (k0_pay198 r0 r1 r2 r3 r4 r5 r6 r7) Finset.univ (View.stores_vmem_bits_univ h_S8x128 rfl) (.inl rfl))

/-- One group: its eight tokens, then the four columns. -/
def group (bb cb : Memref sig .tc .vmem S64x16x128 .f32) (de u : Memref sig .tc .vmem S4x64x128 .f32) (yt : Memref sig .tc .vmem S64x512 .f32) (yb : Memref sig .tc .vmem S4x200x128 .f32)
    (g : Fin k0_t2_loop.trips) (a h : St F) : Prog (TpuEff nD τ sig (Elt F) Λ₀ .tc) (St F) := do
  let h ← token bb cb de u yb g 0 a h
  let h ← token bb cb de u yb g 1 a h
  let h ← token bb cb de u yb g 2 a h
  let h ← token bb cb de u yb g 3 a h
  let h ← token bb cb de u yb g 4 a h
  let h ← token bb cb de u yb g 5 a h
  let h ← token bb cb de u yb g 6 a h
  let h ← token bb cb de u yb g 7 a h
  column yb yt 0 (by decide) _ (k0_off13_inb g)
  column yb yt 1 (by decide) _ (k0_off14_inb g)
  column yb yt 2 (by decide) _ (k0_off15_inb g)
  column yb yt 3 (by decide) _ (k0_off16_inb g)
  pure h

end Cert.Proof.Kernel
-- ==== Proof.Kernel.Spec.lean ====
/- The scan's values as functions of natural-number coordinates, and what each named payload of the printed loop
   computes of them. -/
module

public import proofs.«01_k».proof.Proof.Kernel.Regular
public import Idealize.ShloMosaic.Lib.Pipeline.Value
public import Idealize.ShloMosaic.Lib.ValueLayout

@[expose] public section

set_option maxRecDepth 16384

noncomputable section

namespace Cert.Proof.Kernel

open Cert.Kernel Cert.Kernel.Gen
open Idealize.ShloMosaic

variable {F : FTy → Type} [FloatOps F]

/-- A value table over two coordinates (token or state row first, lane second). -/
abbrev Tab (F : FTy → Type) : Type := ℕ → ℕ → F .f32

/-- One step of the recurrence at token `T`: the decayed state plus the input. -/
def stepH (A D U B : Tab F) (T : ℕ) (hs : Tab F) : Tab F := fun n l =>
  FloatOps.addf (FloatOps.mulf (FloatOps.exp2 (FloatOps.mulf (D T l) (A n l))) (hs n l)) (FloatOps.mulf (U T l) (B T n))

/-- The state before token `T`. -/
def hst (A D U B H0 : Tab F) : ℕ → Tab F
  | 0 => H0
  | T + 1 => stepH A D U B T (hst A D U B H0 T)

/-- The two products of a token's state with `C` that one row of `yb` holds. -/
def prd (C : Tab F) (hs : Tab F) (T i l : ℕ) : F .f32 :=
  FloatOps.addf (FloatOps.mulf (hs i l) (C T i)) (FloatOps.mulf (hs (8 + i) l) (C T (8 + i)))

/-- Eight terms added from the left. -/
def sum8 (p : ℕ → F .f32) : F .f32 :=
  FloatOps.addf (FloatOps.addf (FloatOps.addf (FloatOps.addf (FloatOps.addf (FloatOps.addf (FloatOps.addf (p 0) (p 1)) (p 2)) (p 3)) (p 4)) (p 5)) (p 6)) (p 7)

/-- The scan's output before the skip and the gate. -/
def ysum (A D U B C H0 : Tab F) (T l : ℕ) : F .f32 := sum8 fun i => prd C (hst A D U B H0 (T + 1)) T i l

/-- Rows 0–7 of a table in lane block `k`. -/
def loV (X : Tab F) (k : ℕ) : FVec F S8x128 .f32 := fun i => X (i 0).val (128 * k + (i 1).val)
/-- Rows 8–15 of a table in lane block `k`. -/
def hiV (X : Tab F) (k : ℕ) : FVec F S8x128 .f32 := fun i => X (8 + (i 0).val) (128 * k + (i 1).val)
/-- The eight halves of a table. -/
def stV (X : Tab F) : St F := (loV X 0, hiV X 0, loV X 1, hiV X 1, loV X 2, hiV X 2, loV X 3, hiV X 3)

theorem cast_drop (v : Vec F S1x8x128 .f32) (X : ℕ → ℕ → F .f32) (h : ∀ x, v x = X (x 1).val (x 2).val) (i : S8x128.Idx) :
    shapeCast S8x128 v shapeCasts_S1x8x128_S8x128 i = X (i 0).val (i 1).val :=
  (shapeCast_dropUnit_apply ![8, 128] v shapeCasts_S1x8x128_S8x128 i).trans (h _)

theorem cast_add (v : FVec F S8x128 .f32) (X : ℕ → ℕ → F .f32) (h : ∀ i, v i = X (i 0).val (i 1).val) (x : S1x8x128.Idx) :
    shapeCast S1x8x128 v shapeCasts_S8x128_S1x8x128 x = X (x 1).val (x 2).val :=
  (shapeCast_addUnit_apply ![8, 128] v shapeCasts_S8x128_S1x8x128 x).trans (h _)

theorem pay2_apply (v : Vec F S1x1x128 .f32) (X : ℕ → F .f32) (h : ∀ x, v x = X (x 2).val) (i : S8x128.Idx) :
    k0_pay2 v i = X (i 1).val := by
  unfold k0_pay2
  dsimp only
  rw [shapeCast_self]
  unfold broadcastTo
  exact (shapeCast_dropUnit_apply ![1, 128] v shapeCasts_S1x1x128_S1x128 _).trans (h _)

theorem pay3_apply (v : Vec F S1x1x128 .f32) (X : ℕ → F .f32) (h : ∀ x, v x = X (x 2).val) (i : S8x128.Idx) :
    k0_pay3 v i = X (i 1).val := pay2_apply v X h i

section
variable (A D U B C : Tab F) (hs : Tab F) (T k : ℕ)
  (vd vu : Vec F S1x1x128 .f32) (bl cl bh ch : Vec F S1x8x128 .f32)
  (hd : ∀ x, vd x = D T (128 * k + (x 2).val)) (hu : ∀ x, vu x = U T (128 * k + (x 2).val))
  (hbl : ∀ x, bl x = B T (x 1).val) (hcl : ∀ x, cl x = C T (x 1).val)
  (hbh : ∀ x, bh x = B T (8 + (x 1).val)) (hch : ∀ x, ch x = C T (8 + (x 1).val))

include hd hu hbl in
theorem pay4_lo : k0_pay4 (loV A k) (loV hs k) vd vu bl = loV (stepH A D U B T hs) k := by
  funext i
  show FloatOps.addf (FloatOps.mulf (FloatOps.exp2 (FloatOps.mulf (k0_pay2 vd i) _)) _) (FloatOps.mulf (k0_pay3 vu i) (shapeCast S8x128 bl shapeCasts_S1x8x128_S8x128 i)) = _
  rw [pay2_apply vd (fun l => D T (128 * k + l)) hd, pay3_apply vu (fun l => U T (128 * k + l)) hu, cast_drop bl (fun a _ => B T a) hbl]
  rfl

include hd hu hbh in
theorem pay6_hi : k0_pay6 (hiV A k) (hiV hs k) vd vu bh = hiV (stepH A D U B T hs) k := by
  funext i
  show FloatOps.addf (FloatOps.mulf (FloatOps.exp2 (FloatOps.mulf (k0_pay2 vd i) _)) _) (FloatOps.mulf (k0_pay3 vu i) (shapeCast S8x128 bh shapeCasts_S1x8x128_S8x128 i)) = _
  rw [pay2_apply vd (fun l => D T (128 * k + l)) hd, pay3_apply vu (fun l => U T (128 * k + l)) hu, cast_drop bh (fun a _ => B T (8 + a)) hbh]
  rfl

include hd hu hbl hcl hbh hch in
theorem pay8_prd (x : S1x8x128.Idx) :
    k0_pay8 (k0_pay5 (loV A k) (loV hs k) vd vu bl cl) (k0_pay6 (hiV A k) (hiV hs k) vd vu bh) (k0_pay7 ch) x
      = prd C (stepH A D U B T hs) T (x 1).val (128 * k + (x 2).val) := by
  have e5 : k0_pay5 (loV A k) (loV hs k) vd vu bl cl = mulf (loV (stepH A D U B T hs) k) (shapeCast S8x128 cl shapeCasts_S1x8x128_S8x128) := by
    rw [← pay4_lo A D U B hs T k vd vu bl hd hu hbl]; rfl
  rw [e5, pay6_hi A D U B hs T k vd vu bh hd hu hbh]
  unfold k0_pay8
  dsimp only
  refine cast_add _ (fun a b => prd C (stepH A D U B T hs) T a (128 * k + b)) (fun i => ?_) x
  show FloatOps.addf (FloatOps.mulf _ (shapeCast S8x128 cl shapeCasts_S1x8x128_S8x128 i)) (FloatOps.mulf _ (shapeCast S8x128 ch shapeCasts_S1x8x128_S8x128 i)) = _
  rw [cast_drop cl (fun a _ => C T a) hcl, cast_drop ch (fun a _ => C T (8 + a)) hch]
  rfl
end

/-- A column's eight reads summed. -/
theorem pay198_sum (p : ℕ → ℕ → ℕ → F .f32) (r0 r1 r2 r3 r4 r5 r6 r7 : Vec F S1x8x128 .f32)
    (h0 : ∀ x, r0 x = p 0 (x 1).val (x 2).val) (h1 : ∀ x, r1 x = p 1 (x 1).val (x 2).val) (h2 : ∀ x, r2 x = p 2 (x 1).val (x 2).val) (h3 : ∀ x, r3 x = p 3 (x 1).val (x 2).val)
    (h4 : ∀ x, r4 x = p 4 (x 1).val (x 2).val) (h5 : ∀ x, r5 x = p 5 (x 1).val (x 2).val) (h6 : ∀ x, r6 x = p 6 (x 1).val (x 2).val) (h7 : ∀ x, r7 x = p 7 (x 1).val (x 2).val)
    (i : S8x128.Idx) : k0_pay198 r0 r1 r2 r3 r4 r5 r6 r7 i = sum8 fun n => p n (i 0).val (i 1).val := by
  unfold k0_pay198
  dsimp only
  rw [shapeCast_self]
  simp only [addf]
  rw [cast_drop r0 _ h0, cast_drop r1 _ h1, cast_drop r2 _ h2, cast_drop r3 _ h3, cast_drop r4 _ h4, cast_drop r5 _ h5, cast_drop r6 _ h6, cast_drop r7 _ h7]
  rfl

end Cert.Proof.Kernel
-- ==== Proof.Kernel.Cell.lean ====
/- Triples of the regular program's pieces, at any contents. -/
module

public import proofs.«01_k».proof.Proof.Kernel.Spec
public import Idealize.ShloMosaic.Lib.Exec
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Bf (F := F) c M) : sProp 𝕄 :=
  M.view.loc (c : Thread nD τ) ↦[M.view.set]{fullShare} f

abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The rows of `yb` that the first `n` cells of group `g` have written. -/
def YbOk (p : ℕ → ℕ → ℕ → F .f32) (g n : ℕ) (Y : Vec F S4x200x128 .f32) : Prop :=
  ∀ (y : S4x200x128.Idx) (t i : ℕ), t < 8 → i < 8 → (y 1).val = 25 * t + 3 * i → 4 * t + (y 0).val < n →
    Y y = p (8 * g + t) i (128 * (y 0).val + (y 2).val)

theorem ybOk_zero (p : ℕ → ℕ → ℕ → F .f32) (g : ℕ) (Y : Vec F S4x200x128 .f32) : YbOk p g 0 Y :=
  fun y t i _ _ _ h => absurd h (Nat.not_lt_zero _)

/-- A cell's store extends them. -/
theorem ybOk_store (c : Dev nD) (yb : Memref sig .tc .vmem S4x200x128 .f32) (p : ℕ → ℕ → ℕ → F .f32) (g k t : ℕ) (hk : k < 4) (ht : t < 8)
    (f : Bf (F := F) c yb) (h : YbOk p g (4 * t + k) (yb.view.read (Elt F) f)) (w : Vec F S1x8x128 .f32)
    (hw : ∀ x, w x = p (8 * g + t) (x 1).val (128 * k + (x 2).val)) :
    YbOk p g (4 * t + k + 1) (yb.view.read (Elt F) (yb.view.writes (Elt F) f [⟨⟨ybRow k t hk ht, spos_1_3_1⟩, w⟩])) := by
  intro y t' i' ht' hi' hy hlt
  have hy0 : (y 0).val < 4 := (y 0).isLt
  by_cases hc : t' = t ∧ (y 0).val = k
  · obtain ⟨rfl, hk'⟩ := hc
    have e : (⟨ybRow k t' hk ht, spos_1_3_1⟩ : Rect S4x200x128).emb (fun a => match a with | ⟨0, _⟩ => ⟨0, Nat.one_pos⟩ | ⟨1, _⟩ => ⟨i', hi'⟩ | ⟨2, _⟩ => ⟨(y 2).val, (y 2).isLt⟩ : S1x8x128.Idx) = y := by
      refine Rect.emb_eq_of_coords _ _ _ fun a => ?_
      match a with
      | ⟨0, _⟩ => show (y 0).val = k + 1 * 0; omega
      | ⟨1, _⟩ => show (y 1).val = 25 * t' + 3 * i'; omega
      | ⟨2, _⟩ => show (y 2).val = 0 + 1 * (y 2).val; omega
    refine (congrArg _ e.symm).trans ((View.read_writes_cons_emb _ _ _ _ _ _).trans ((hw _).trans ?_))
    rw [hk']
  · rw [View.read_writes_cons_miss]
    · exact h y t' i' ht' hi' hy (by omega)
    · intro hm
      have h0 := (LoadRect.mem_set _).mp hm (0 : Fin 3)
      have h1 := (LoadRect.mem_set _).mp hm (1 : Fin 3)
      obtain ⟨j0, hj0, e0⟩ := h0
      obtain ⟨j1, hj1, e1⟩ := h1
      have e0 : (y 0).val = k + 1 * j0 := e0
      have e1 : (y 1).val = 25 * t + 3 * j1 := e1
      have hj0 : j0 < 1 := hj0
      have hj1 : j1 < 8 := hj1
      omega

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

/-- The products the scan writes to `yb`. -/
abbrev prods (T i l : ℕ) : F .f32 := prd C (hst A D U B H0 (T + 1)) T i l

/-- What the cells hold: the four inputs at their contents and `yb` after `n` cells of group `g`. -/
def cellR (g n : ℕ) : sProp 𝕄 :=
  iprop(held c bb fb ∗ held c cb fc ∗ held c de fd ∗ held c u fu ∗ ∃ fy, ⌜YbOk (prods A D U B C H0) g n (yb.view.read (Elt F) fy)⌝ ∗ held c yb fy)

include hb hc hd hu in
theorem wp_cell (g k t : ℕ) (hk : k < 4) (ht : t < 8)
    (od : Fin 3 → Nat) (ho : ∀ a, od a + S1x1x128.size a ≤ S4x64x128.size a)
    (ol : Fin 3 → Nat) (hl : ∀ a, ol a + S1x8x128.size a ≤ S64x16x128.size a)
    (oh : Fin 3 → Nat) (hh : ∀ a, oh a + S1x8x128.size a ≤ S64x16x128.size a)
    (eod : od = ![k, 8 * g + t, 0]) (eol : ol = ![8 * g + t, 0, 0]) (eoh : oh = ![8 * g + t, 8, 0])
    (Q : FVec F S8x128 .f32 × FVec F S8x128 .f32 → sProp 𝕄) :
    iprop(cellR c bb cb de u yb A D U B C H0 fb fc fd fu g (4 * t + k) ∗
      (cellR c bb cb de u yb A D U B C H0 fb fc fd fu g (4 * t + k + 1) -∗
        Q (loV (hst A D U B H0 (8 * g + t + 1)) k, hiV (hst A D U B H0 (8 * g + t + 1)) k)))
      ⊢ wpc c (cell bb cb de u yb k t hk ht od ho ol hl oh hh (loV A k) (hiV A k) (loV (hst A D U B H0 (8 * g + t)) k, hiV (hst A D U B H0 (8 * g + t)) k)) Q := by
  have rd : ∀ x : S1x1x128.Idx, View.readAt (Elt F) de.view (Rect.unit (s := S4x64x128) od S1x1x128.size ho).toLoadRect fd x = D (8 * g + t) (128 * k + (x 2).val) := fun x => by
    subst eod
    refine (hd _).trans ?_
    have h0 : (x 0).val < 1 := (x 0).isLt
    have h1 : (x 1).val < 1 := (x 1).isLt
    show D (8 * g + t + 1 * (x 1).val) (128 * (k + 1 * (x 0).val) + (0 + 1 * (x 2).val)) = _
    congr 1 <;> omega
  have ru : ∀ x : S1x1x128.Idx, View.readAt (Elt F) u.view (Rect.unit (s := S4x64x128) od S1x1x128.size ho).toLoadRect fu x = U (8 * g + t) (128 * k + (x 2).val) := fun x => by
    subst eod
    refine (hu _).trans ?_
    have h0 : (x 0).val < 1 := (x 0).isLt
    have h1 : (x 1).val < 1 := (x 1).isLt
    show U (8 * g + t + 1 * (x 1).val) (128 * (k + 1 * (x 0).val) + (0 + 1 * (x 2).val)) = _
    congr 1 <;> omega
  have low : ∀ (M : Memref sig .tc .vmem S64x16x128 .f32) (X : Tab F) (f : Bf (F := F) c M) (hX : ∀ x, M.view.read (Elt F) f x = X (x 0).val (x 1).val) (x : S1x8x128.Idx),
      View.readAt (Elt F) M.view (Rect.unit (s := S64x16x128) ol S1x8x128.size hl).toLoadRect f x = X (8 * g + t) (x 1).val := fun M X f hX x => by
    subst eol
    refine (hX _).trans ?_
    have h0 : (x 0).val < 1 := (x 0).isLt
    show X (8 * g + t + 1 * (x 0).val) (0 + 1 * (x 1).val) = _
    congr 1 <;> omega
  have high : ∀ (M : Memref sig .tc .vmem S64x16x128 .f32) (X : Tab F) (f : Bf (F := F) c M) (hX : ∀ x, M.view.read (Elt F) f x = X (x 0).val (x 1).val) (x : S1x8x128.Idx),
      View.readAt (Elt F) M.view (Rect.unit (s := S64x16x128) oh S1x8x128.size hh).toLoadRect f x = X (8 * g + t) (8 + (x 1).val) := fun M X f hX x => by
    subst eoh
    refine (hX _).trans ?_
    have h0 : (x 0).val < 1 := (x 0).isLt
    show X (8 * g + t + 1 * (x 0).val) (8 + 1 * (x 1).val) = _
    congr 1 <;> omega
  unfold wpc cell cellR
  iintro ⟨⟨Hb, Hc, Hd, Hu, ⟨%fy, %hy, Hy⟩⟩, HK⟩
  sl_exec
  sl_step
  have e4 : _ = loV (hst A D U B H0 (8 * g + t + 1)) k := pay4_lo A D U B (hst A D U B H0 (8 * g + t)) (8 * g + t) k _ _ _ rd ru (low bb B fb hb)
  have e6 : _ = hiV (hst A D U B H0 (8 * g + t + 1)) k := pay6_hi A D U B (hst A D U B H0 (8 * g + t)) (8 * g + t) k _ _ _ rd ru (high bb B fb hb)
  have e8 := pay8_prd A D U B C (hst A D U B H0 (8 * g + t)) (8 * g + t) k _ _ _ _ _ _ rd ru (low bb B fb hb) (low cb C fc hc) (high bb B fb hb) (high cb C fc hc)
  have hy' := ybOk_store c yb (prods A D U B C H0) g k t hk ht fy hy _ e8
  dsimp only
  rw [e4, e6]
  rw [e6] at hy'
  iapply HK
  isplitl [Hb]; · iexact Hb
  isplitl [Hc]; · iexact Hc
  isplitl [Hd]; · iexact Hd
  isplitl [Hu]; · iexact Hu
  iexists _
  isplitr
  swap; · iexact Hy
  ipureintro
  exact hy'
end

end Cert.Proof.Kernel
-- ==== Proof.Kernel.Group.lean ====
/- Triples of a token, a column and a whole group. -/
module

public import proofs.«01_k».proof.Proof.Kernel.Cell
public import Idealize.ShloMosaic.Lib.Exec
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

include hb hc hd hu in
theorem wp_token (g : Fin k0_t2_loop.trips) (t : Fin 8) (Q : St F → sProp 𝕄) :
    iprop(cellR c bb cb de u yb A D U B C H0 fb fc fd fu g.val (4 * t.val) ∗
      (cellR c bb cb de u yb A D U B C H0 fb fc fd fu g.val (4 * (t.val + 1)) -∗ Q (stV (hst A D U B H0 (8 * g.val + t.val + 1)))))
      ⊢ wpc c (token bb cb de u yb g t (stV A) (stV (hst A D U B H0 (8 * g.val + t.val)))) Q := by
  unfold wpc token stV
  dsimp only
  iintro ⟨HR, HK⟩
  rw [wp_bind]
  iapply (wp_cell c bb cb de u yb A D U B C H0 fb fc fd fu hb hc hd hu g.val 0 t.val _ t.isLt _ _ _ _ _ _ (k0_off7_eq g t) (k0_off8_eq g t) (k0_off9_eq g t) _)
  isplitl [HR]; · iexact HR
  iintro HR
  dsimp only
  rw [wp_bind]
  iapply (wp_cell c bb cb de u yb A D U B C H0 fb fc fd fu hb hc hd hu g.val 1 t.val _ t.isLt _ _ _ _ _ _ (k0_off10_eq g t) (k0_off8_eq g t) (k0_off9_eq g t) _)
  isplitl [HR]; · iexact HR
  iintro HR
  dsimp only
  rw [wp_bind]
  iapply (wp_cell c bb cb de u yb A D U B C H0 fb fc fd fu hb hc hd hu g.val 2 t.val _ t.isLt _ _ _ _ _ _ (k0_off11_eq g t) (k0_off8_eq g t) (k0_off9_eq g t) _)
  isplitl [HR]; · iexact HR
  iintro HR
  dsimp only
  rw [wp_bind]
  iapply (wp_cell c bb cb de u yb A D U B C H0 fb fc fd fu hb hc hd hu g.val 3 t.val _ t.isLt _ _ _ _ _ _ (k0_off12_eq g t) (k0_off8_eq g t) (k0_off9_eq g t) _)
  isplitl [HR]; · iexact HR
  iintro HR
  dsimp only
  sl_step
  iapply HK
  iexact HR
end

/-- The rows of `yt` summed so far: all of the groups before `g`, and of group `g` its first `n` lane blocks. -/
def YtOk (s : ℕ → ℕ → F .f32) (g n : ℕ) (Y : Vec F S64x512 .f32) : Prop :=
  ∀ y : S64x512.Idx, (y 0).val < 8 * g ∨ ((y 0).val < 8 * (g + 1) ∧ (y 1).val < 128 * n) → Y y = s (y 0).val (y 1).val

theorem ytOk_store (c : Dev nD) (yt : Memref sig .tc .vmem S64x512 .f32) (s : ℕ → ℕ → F .f32) (g k : ℕ) (f : Bf (F := F) c yt)
    (h : YtOk s g k (yt.view.read (Elt F) f)) (o : Fin 2 → Nat) (ho : ∀ a, o a + S8x128.size a ≤ S64x512.size a) (eo : o = ![8 * g, 128 * k])
    (w : FVec F S8x128 .f32) (hw : ∀ x, w x = s (8 * g + (x 0).val) (128 * k + (x 1).val)) :
    YtOk s g (k + 1) (yt.view.read (Elt F) (yt.view.writes (Elt F) f [⟨Rect.unit (s := S64x512) o S8x128.size ho, w⟩])) := by
  subst eo
  intro y hy
  by_cases hc : 8 * g ≤ (y 0).val ∧ 128 * k ≤ (y 1).val
  · have e : (Rect.unit (s := S64x512) ![8 * g, 128 * k] S8x128.size ho).emb (fun a => match a with | ⟨0, _⟩ => ⟨(y 0).val - 8 * g, by show _ < 8; omega⟩ | ⟨1, _⟩ => ⟨(y 1).val - 128 * k, by show _ < 128; omega⟩ : S8x128.Idx) = y := by
      refine Rect.emb_eq_of_coords _ _ _ fun a => ?_
      match a with
      | ⟨0, _⟩ => show (y 0).val = 8 * g + 1 * ((y 0).val - 8 * g); omega
      | ⟨1, _⟩ => show (y 1).val = 128 * k + 1 * ((y 1).val - 128 * k); omega
    refine (congrArg _ e.symm).trans ((View.read_writes_cons_emb _ _ _ _ _ _).trans ((hw _).trans ?_))
    show s (8 * g + ((y 0).val - 8 * g)) (128 * k + ((y 1).val - 128 * k)) = _
    congr 1 <;> omega
  · rw [View.read_writes_cons_miss]
    · exact h y (by omega)
    · intro hm
      obtain ⟨j0, hj0, e0⟩ := (LoadRect.mem_set _).mp hm (0 : Fin 2)
      obtain ⟨j1, hj1, e1⟩ := (LoadRect.mem_set _).mp hm (1 : Fin 2)
      have e0 : (y 0).val = 8 * g + 1 * j0 := e0
      have e1 : (y 1).val = 128 * k + 1 * j1 := e1
      omega

set_option maxHeartbeats 400000 in
theorem wp_column (c : Dev nD) (yb : Memref sig .tc .vmem S4x200x128 .f32) (yt : Memref sig .tc .vmem S64x512 .f32) (p : ℕ → ℕ → ℕ → F .f32) (g k : ℕ) (hk : k < 4)
    (o : Fin 2 → Nat) (ho : ∀ a, o a + S8x128.size a ≤ S64x512.size a) (eo : o = ![8 * g, 128 * k])
    (fy : Bf (F := F) c yb) (hy : YbOk p g 32 (yb.view.read (Elt F) fy)) (ft : Bf (F := F) c yt) (hft : YtOk (fun T l => sum8 fun i => p T i l) g k (yt.view.read (Elt F) ft))
    (Q : PUnit → sProp 𝕄) :
    iprop(held c yb fy ∗ held c yt ft ∗ (∀ ft', ⌜YtOk (fun T l => sum8 fun i => p T i l) g (k + 1) (yt.view.read (Elt F) ft')⌝ -∗ held c yb fy -∗ held c yt ft' -∗ Q ⟨⟩))
      ⊢ wpc c (column yb yt k hk o ho) Q := by
  have rd : ∀ (n : ℕ) (hn : n < 8) (x : S1x8x128.Idx), View.readAt (Elt F) yb.view (ybCol k n hk hn) fy x = p (8 * g + (x 1).val) n (128 * k + (x 2).val) := fun n hn x => by
    have h0 : (x 0).val < 1 := (x 0).isLt
    have h1 : (x 1).val < 8 := (x 1).isLt
    refine (hy _ (x 1).val n h1 hn ?_ ?_).trans ?_
    · show 3 * n + 25 * (x 1).val = _; omega
    · show 4 * (x 1).val + (k + 1 * (x 0).val) < 32; omega
    · show p (8 * g + (x 1).val) n (128 * (k + 1 * (x 0).val) + (0 + 1 * (x 2).val)) = _
      congr 1; omega
  have e := pay198_sum (fun n a b => p (8 * g + a) n (128 * k + b)) _ _ _ _ _ _ _ _ (rd 0 (by decide)) (rd 1 (by decide)) (rd 2 (by decide)) (rd 3 (by decide)) (rd 4 (by decide)) (rd 5 (by decide)) (rd 6 (by decide)) (rd 7 (by decide))
  have h' := ytOk_store c yt _ g k ft hft o ho eo _ e
  unfold wpc column
  iintro ⟨Hy, Ht, HK⟩
  sl_exec
  sl_step
  iapply HK $$ %_ %h' [Hy] [Ht]
  · iexact Hy
  · iexact Ht

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

/-- What the groups hold before group `g`. -/
def groupR (g : ℕ) : sProp 𝕄 :=
  iprop(held c bb fb ∗ held c cb fc ∗ held c de fd ∗ held c u fu ∗ (∃ fy, held c yb fy) ∗
    ∃ ft, ⌜YtOk (ysum A D U B C H0) g 0 (yt.view.read (Elt F) ft)⌝ ∗ held c yt ft)

theorem ytOk_next (s : ℕ → ℕ → F .f32) (g : ℕ) (Y : Vec F S64x512 .f32) (h : YtOk s g 4 Y) : YtOk s (g + 1) 0 Y :=
  fun y hy => h y (by have : (y 1).val < 512 := (y 1).isLt; omega)

include hb hc hd hu in
set_option maxHeartbeats 1000000 in
theorem wp_group (g : Fin k0_t2_loop.trips) (Q : St F → sProp 𝕄) :
    iprop(groupR c bb cb de u yt yb A D U B C H0 fb fc fd fu g.val ∗
      (groupR c bb cb de u yt yb A D U B C H0 fb fc fd fu (g.val + 1) -∗ Q (stV (hst A D U B H0 (8 * (g.val + 1))))))
      ⊢ wpc c (group bb cb de u yt yb g (stV A) (stV (hst A D U B H0 (8 * g.val)))) Q := by
  unfold wpc group groupR
  iintro ⟨⟨Hb, Hc, Hd, Hu, ⟨%fy, Hy⟩, ⟨%ft, %hft, Ht⟩⟩, HK⟩
  rw [wp_bind]
  iapply (wp_token c bb cb de u yb A D U B C H0 fb fc fd fu hb hc hd hu g 0 _)
  isplitl [Hb Hc Hd Hu Hy]
  · unfold cellR
    isplitl [Hb]; · iexact Hb
    isplitl [Hc]; · iexact Hc
    isplitl [Hd]; · iexact Hd
    isplitl [Hu]; · iexact Hu
    iexists _
    isplitr
    swap; · iexact Hy
    ipureintro; exact ybOk_zero _ _ _
  iintro HR
  rw [wp_bind]
  iapply (wp_token c bb cb de u yb A D U B C H0 fb fc fd fu hb hc hd hu g 1 _)
  isplitl [HR]; · iexact HR
  iintro HR
  rw [wp_bind]
  iapply (wp_token c bb cb de u yb A D U B C H0 fb fc fd fu hb hc hd hu g 2 _)
  isplitl [HR]; · iexact HR
  iintro HR
  rw [wp_bind]
  iapply (wp_token c bb cb de u yb A D U B C H0 fb fc fd fu hb hc hd hu g 3 _)
  isplitl [HR]; · iexact HR
  iintro HR
  rw [wp_bind]
  iapply (wp_token c bb cb de u yb A D U B C H0 fb fc fd fu hb hc hd hu g 4 _)
  isplitl [HR]; · iexact HR
  iintro HR
  rw [wp_bind]
  iapply (wp_token c bb cb de u yb A D U B C H0 fb fc fd fu hb hc hd hu g 5 _)
  isplitl [HR]; · iexact HR
  iintro HR
  rw [wp_bind]
  iapply (wp_token c bb cb de u yb A D U B C H0 fb fc fd fu hb hc hd hu g 6 _)
  isplitl [HR]; · iexact HR
  iintro HR
  rw [wp_bind]
  iapply (wp_token c bb cb de u yb A D U B C H0 fb fc fd fu hb hc hd hu g 7 _)
  isplitl [HR]; · iexact HR
  iintro HR
  unfold cellR
  icases HR with ⟨Hb, Hc, Hd, Hu, ⟨%fy', %hy, Hy⟩⟩
  rw [wp_bind]
  iapply (wp_column c yb yt (prods A D U B C H0) g.val 0 _ _ _ (k0_off13_eq g) _ hy _ hft _)
  isplitl [Hy]; · iexact Hy
  isplitl [Ht]; · iexact Ht
  iintro %ft0 %h0 Hy Ht
  rw [wp_bind]
  iapply (wp_column c yb yt (prods A D U B C H0) g.val 1 _ _ _ (k0_off14_eq g) _ hy _ h0 _)
  isplitl [Hy]; · iexact Hy
  isplitl [Ht]; · iexact Ht
  iintro %ft1 %h1 Hy Ht
  rw [wp_bind]
  iapply (wp_column c yb yt (prods A D U B C H0) g.val 2 _ _ _ (k0_off15_eq g) _ hy _ h1 _)
  isplitl [Hy]; · iexact Hy
  isplitl [Ht]; · iexact Ht
  iintro %ft2 %h2 Hy Ht
  rw [wp_bind]
  iapply (wp_column c yb yt (prods A D U B C H0) g.val 3 _ _ _ (k0_off16_eq g) _ hy _ h2 _)
  isplitl [Hy]; · iexact Hy
  isplitl [Ht]; · iexact Ht
  iintro %ft3 %h3 Hy Ht
  sl_step
  iapply HK
  isplitl [Hb]; · iexact Hb
  isplitl [Hc]; · iexact Hc
  isplitl [Hd]; · iexact Hd
  isplitl [Hu]; · iexact Hu
  isplitl [Hy]; · iexists _; iexact Hy
  iexists _
  isplitr
  swap; · iexact Ht
  ipureintro
  exact ytOk_next _ _ _ h3
end

end Cert.Proof.Kernel
-- ==== Proof.Kernel.ChunkSpec.lean ====
/- One chunk's scalar functions, and what each named payload of the printed chunk computes of its loads. -/
module

public import proofs.«01_k».proof.Proof.Kernel.Spec

@[expose] public section

set_option maxRecDepth 16384

noncomputable section

namespace Cert.Proof.Kernel

open Cert.Kernel Cert.Kernel.Gen
open Idealize.ShloMosaic

variable {F : FTy → Type} [FloatOps F]

/-- The kernel's base-two logarithm of Euler's number, its negation and the natural logarithm of two. -/
def cLog2e : F .f32 := Scalar.ofBits .f32 0x3FB8AA3B#32
def cNegLog2e : F .f32 := Scalar.ofBits .f32 0xBFB8AA3B#32
def cLn2 : F .f32 := Scalar.ofBits .f32 0x3F317218#32
def cZero : F .f32 := Scalar.ofBits .f32 0x00000000#32
def cOne : F .f32 := Scalar.ofBits .f32 0x3F800000#32

/-- The step size of one token and lane, scaled by the base-two logarithm of Euler's number. -/
def dlS (dt : F .fp8e4m3) (s b : F .f32) : F .f32 :=
  let v := FloatOps.addf (FloatOps.mulf (FloatOps.extf .f32 bitsLt_fp8e4m3_f32 dt) (FloatOps.mulf s cLog2e)) (FloatOps.mulf b cLog2e)
  let e := FloatOps.exp2 (FloatOps.subf cZero (FloatOps.absf v))
  let w := FloatOps.addf cOne e
  FloatOps.addf (FloatOps.maximumf v cZero) (FloatOps.addf (FloatOps.mulf (FloatOps.log w) cLog2e) (FloatOps.mulf (FloatOps.subf e (FloatOps.subf w cOne)) cLog2e))

/-- The decay's exponent factor: the step size, or infinity at a reset. -/
def deS (dl r : F .f32) : F .f32 := FloatOps.maximumf dl r
/-- The input's factor. -/
def uS (x : F .fp8e4m3) (s dl : F .f32) : F .f32 :=
  FloatOps.mulf (FloatOps.mulf (FloatOps.extf .f32 bitsLt_fp8e4m3_f32 x) (FloatOps.mulf s cLn2)) dl
/-- The skip term. -/
def xfS (x : F .fp8e4m3) (s d : F .f32) : F .f32 := FloatOps.mulf (FloatOps.mulf (FloatOps.extf .f32 bitsLt_fp8e4m3_f32 x) s) d
/-- The gated output. -/
def outS (z : F .bf16) (y xf : F .f32) : F .bf16 :=
  let zf : F .f32 := FloatOps.extf .f32 bitsLt_bf16_f32 z
  FloatOps.truncf .bf16 bitsLt_bf16_f32 (FloatOps.mulf (FloatOps.addf y xf)
    (FloatOps.mulf zf (FloatOps.reciprocal true (FloatOps.addf cOne (FloatOps.exp2 (FloatOps.mulf zf cNegLog2e))))))

theorem bcol (w : FVec F S64x1 .f32) (X : ℕ → F .f32) (h : ∀ i, w i = X (i 0).val) (j : S64x512.Idx) :
    broadcastTo S64x512 w broadcasts_S64x1_S64x512 j = X (j 0).val := h _
theorem brow (w : FVec F S1x512 .f32) (X : ℕ → F .f32) (h : ∀ i, w i = X (i 1).val) (j : S64x512.Idx) :
    broadcastTo S64x512 w broadcasts_S1x512_S64x512 j = X (j 1).val := h _

theorem pay202_apply (v : Vec F S1x64x4 .f32) (SC : Tab F) (h : ∀ x, v x = SC (x 1).val (x 2).val) (i : S64x4.Idx) :
    k0_pay202 v i = SC (i 0).val (i 1).val :=
  (shapeCast_dropUnit_apply ![64, 4] v shapeCasts_S1x64x4_S64x4 i).trans (h _)

theorem pay204_apply (v : Vec F S1x64x512 .fp8e4m3) (X : ℕ → ℕ → F .fp8e4m3) (h : ∀ x, v x = X (x 1).val (x 2).val) (i : S64x512.Idx) :
    k0_pay204 v i = FloatOps.extf .f32 bitsLt_fp8e4m3_f32 (X (i 0).val (i 1).val) :=
  congrArg (FloatOps.extf .f32 bitsLt_fp8e4m3_f32) ((shapeCast_dropUnit_apply ![64, 512] v shapeCasts_S1x64x512_S64x512 i).trans (h _))

theorem pay203_apply (vs : Vec F S1x64x4 .f32) (vd : Vec F S1x64x512 .fp8e4m3) (vb : Vec F S1x512 .f32) (SC : Tab F) (DT : ℕ → ℕ → F .fp8e4m3) (BI : ℕ → F .f32)
    (hs : ∀ x, vs x = SC (x 1).val (x 2).val) (hd : ∀ x, vd x = DT (x 1).val (x 2).val) (hb : ∀ x, vb x = BI (x 1).val) (j : S64x512.Idx) :
    k0_pay203 vs vd vb j = dlS (DT (j 0).val (j 1).val) (SC (j 0).val 0) (BI (j 1).val) := by
  have e1 : shapeCast S64x512 vd shapeCasts_S1x64x512_S64x512 j = DT (j 0).val (j 1).val :=
    (shapeCast_dropUnit_apply ![64, 512] vd shapeCasts_S1x64x512_S64x512 j).trans (hd _)
  have e2 : broadcastTo S64x512 (mulf (extractStridedSlice S64x1 ![0, 0] (k0_pay202 vs) slices_S64x4_o0_0_S64x1) (broadcast S64x1 (cLog2e : F .f32))) broadcasts_S64x1_S64x512 j = FloatOps.mulf (SC (j 0).val 0) cLog2e :=
    bcol _ (fun a => FloatOps.mulf (SC a 0) cLog2e) (fun i => congrArg (fun z => FloatOps.mulf z cLog2e) ((pay202_apply vs SC hs _).trans (by
      have h1 : (i 1).val < 1 := (i 1).isLt
      show SC (0 + (i 0).val) (0 + (i 1).val) = _
      congr 1 <;> omega))) j
  have e3 : broadcastTo S64x512 (mulf (shapeCast S1x512 vb shapeCasts_S1x512_S1x512) (broadcast S1x512 (cLog2e : F .f32))) broadcasts_S1x512_S64x512 j = FloatOps.mulf (BI (j 1).val) cLog2e :=
    brow _ (fun a => FloatOps.mulf (BI a) cLog2e) (fun i => congrArg (fun z => FloatOps.mulf z cLog2e) (by rw [shapeCast_self]; exact hb _)) j
  have e := congrArg₂ (fun p q : F .f32 => FloatOps.addf p q) (congrArg₂ (fun (p : F .fp8e4m3) (q : F .f32) => FloatOps.mulf (FloatOps.extf .f32 bitsLt_fp8e4m3_f32 p) q) e1 e2) e3
  exact congrArg (fun v : F .f32 =>
    let e := FloatOps.exp2 (FloatOps.subf cZero (FloatOps.absf v))
    let w := FloatOps.addf cOne e
    FloatOps.addf (FloatOps.maximumf v cZero) (FloatOps.addf (FloatOps.mulf (FloatOps.log w) cLog2e) (FloatOps.mulf (FloatOps.subf e (FloatOps.subf w cOne)) cLog2e))) e

section
variable (vs : FVec F S64x4 .f32) (vl vx : FVec F S64x512 .f32) (SC DL : Tab F) (X : ℕ → ℕ → F .fp8e4m3)
  (hs : ∀ i, vs i = SC (i 0).val (i 1).val) (hl : ∀ i, vl i = DL (i 0).val (i 1).val)
  (hx : ∀ i, vx i = FloatOps.extf .f32 bitsLt_fp8e4m3_f32 (X (i 0).val (i 1).val))

theorem cast64 (v : FVec F S64x128 .f32) (G : Tab F) (h : ∀ i, v i = G (i 0).val (i 1).val) (x : S1x64x128.Idx) :
    shapeCast S1x64x128 v shapeCasts_S64x128_S1x64x128 x = G (x 1).val (x 2).val :=
  (shapeCast_addUnit_apply ![64, 128] v shapeCasts_S64x128_S1x64x128 x).trans (h _)

include hs in
theorem bcol3 (j : S64x512.Idx) : broadcastTo S64x512 (extractStridedSlice S64x1 ![0, 3] vs slices_S64x4_o0_3_S64x1) broadcasts_S64x1_S64x512 j = SC (j 0).val 3 :=
  bcol _ (fun a => SC a 3) (fun i => (hs _).trans (by
    have h1 : (i 1).val < 1 := (i 1).isLt
    show SC (0 + (i 0).val) (3 + (i 1).val) = _
    congr 1 <;> omega)) j

include hs in
theorem bcol1 (j : S64x512.Idx) : broadcastTo S64x512 (extractStridedSlice S64x1 ![0, 1] vs slices_S64x4_o0_1_S64x1) broadcasts_S64x1_S64x512 j = SC (j 0).val 1 :=
  bcol _ (fun a => SC a 1) (fun i => (hs _).trans (by
    have h1 : (i 1).val < 1 := (i 1).isLt
    show SC (0 + (i 0).val) (1 + (i 1).val) = _
    congr 1 <;> omega)) j

include hs in
theorem bcol2 (j : S64x512.Idx) : broadcastTo S64x512 (mulf (extractStridedSlice S64x1 ![0, 2] vs slices_S64x4_o0_2_S64x1) (broadcast S64x1 (cLn2 : F .f32))) broadcasts_S64x1_S64x512 j = FloatOps.mulf (SC (j 0).val 2) cLn2 :=
  bcol _ (fun a => FloatOps.mulf (SC a 2) cLn2) (fun i => congrArg (fun z => FloatOps.mulf z cLn2) ((hs _).trans (by
    have h1 : (i 1).val < 1 := (i 1).isLt
    show SC (0 + (i 0).val) (2 + (i 1).val) = _
    congr 1 <;> omega))) j

include hs hl in
theorem de_full (j : S64x512.Idx) : maximumf vl (broadcastTo S64x512 (extractStridedSlice S64x1 ![0, 3] vs slices_S64x4_o0_3_S64x1) broadcasts_S64x1_S64x512) j
    = deS (DL (j 0).val (j 1).val) (SC (j 0).val 3) :=
  congrArg₂ (fun p q : F .f32 => FloatOps.maximumf p q) (hl j) (bcol3 vs SC hs j)

include hs hl hx in
theorem u_full (j : S64x512.Idx) : mulf (mulf vx (broadcastTo S64x512 (mulf (extractStridedSlice S64x1 ![0, 2] vs slices_S64x4_o0_2_S64x1) (broadcast S64x1 (cLn2 : F .f32))) broadcasts_S64x1_S64x512)) vl j
    = uS (X (j 0).val (j 1).val) (SC (j 0).val 2) (DL (j 0).val (j 1).val) :=
  congrArg₂ (fun p q : F .f32 => FloatOps.mulf p q) (congrArg₂ (fun p q : F .f32 => FloatOps.mulf p q) (hx j) (bcol2 vs SC hs j)) (hl j)

theorem slice_apply (w : FVec F S64x512 .f32) (G : Tab F) (hw : ∀ j, w j = G (j 0).val (j 1).val) (o : ℕ) (h : S64x512.Slices ![0, o] S64x128) (x : S1x64x128.Idx) :
    shapeCast S1x64x128 (extractStridedSlice S64x128 ![0, o] w h) shapeCasts_S64x128_S1x64x128 x = G (x 1).val (o + (x 2).val) :=
  cast64 _ (fun a b => G a (o + b)) (fun i => (hw _).trans (by
    show G (0 + (i 0).val) (o + (i 1).val) = _
    congr 1; omega)) x

include hs hl in
theorem de_pieces (x : S1x64x128.Idx) :
    k0_pay205 vs vl x = deS (DL (x 1).val (0 + (x 2).val)) (SC (x 1).val 3)
    ∧ k0_pay207 vs vl x = deS (DL (x 1).val (128 + (x 2).val)) (SC (x 1).val 3)
    ∧ k0_pay210 (k0_pay209 vs vl) x = deS (DL (x 1).val (256 + (x 2).val)) (SC (x 1).val 3)
    ∧ k0_pay212 vs vl x = deS (DL (x 1).val (384 + (x 2).val)) (SC (x 1).val 3) :=
  have h := de_full vs vl SC DL hs hl
  ⟨slice_apply _ (fun a b => deS (DL a b) (SC a 3)) h 0 slices_S64x512_o0_0_S64x128 x, slice_apply _ (fun a b => deS (DL a b) (SC a 3)) h 128 slices_S64x512_o0_128_S64x128 x,
    slice_apply _ (fun a b => deS (DL a b) (SC a 3)) h 256 slices_S64x512_o0_256_S64x128 x, slice_apply _ (fun a b => deS (DL a b) (SC a 3)) h 384 slices_S64x512_o0_384_S64x128 x⟩

include hs hl hx in
theorem u_pieces (x : S1x64x128.Idx) :
    k0_pay206 vs vl vx x = uS (X (x 1).val (0 + (x 2).val)) (SC (x 1).val 2) (DL (x 1).val (0 + (x 2).val))
    ∧ k0_pay208 vs vl vx x = uS (X (x 1).val (128 + (x 2).val)) (SC (x 1).val 2) (DL (x 1).val (128 + (x 2).val))
    ∧ k0_pay211 vs vl vx x = uS (X (x 1).val (256 + (x 2).val)) (SC (x 1).val 2) (DL (x 1).val (256 + (x 2).val))
    ∧ k0_pay213 vs vl vx x = uS (X (x 1).val (384 + (x 2).val)) (SC (x 1).val 2) (DL (x 1).val (384 + (x 2).val)) :=
  have h := u_full vs vl vx SC DL X hs hl hx
  ⟨slice_apply _ (fun a b => uS (X a b) (SC a 2) (DL a b)) h 0 slices_S64x512_o0_0_S64x128 x, slice_apply _ (fun a b => uS (X a b) (SC a 2) (DL a b)) h 128 slices_S64x512_o0_128_S64x128 x,
    slice_apply _ (fun a b => uS (X a b) (SC a 2) (DL a b)) h 256 slices_S64x512_o0_256_S64x128 x, slice_apply _ (fun a b => uS (X a b) (SC a 2) (DL a b)) h 384 slices_S64x512_o0_384_S64x128 x⟩

include hs hx in
theorem pay214_apply (vd : Vec F S1x512 .f32) (DD : ℕ → F .f32) (hd : ∀ x, vd x = DD (x 1).val) (j : S64x512.Idx) :
    k0_pay214 vs vx vd j = xfS (X (j 0).val (j 1).val) (SC (j 0).val 1) (DD (j 1).val) := by
  unfold k0_pay214
  dsimp only
  rw [shapeCast_self, shapeCast_self]
  exact congrArg₂ (fun p q : F .f32 => FloatOps.mulf p q) (congrArg₂ (fun p q : F .f32 => FloatOps.mulf p q) (hx j) (bcol1 vs SC hs j)) (brow vd DD hd j)
end

theorem pay1_apply (vz : Vec F S1x64x512 .bf16) (vy vx : Vec F S64x512 .f32) (Z : ℕ → ℕ → F .bf16) (Y X : Tab F)
    (hz : ∀ x, vz x = Z (x 1).val (x 2).val) (hy : ∀ i, vy i = Y (i 0).val (i 1).val) (hx : ∀ i, vx i = X (i 0).val (i 1).val) (x : S1x64x512.Idx) :
    k0_pay1 vz vy vx x = outS (Z (x 1).val (x 2).val) (Y (x 1).val (x 2).val) (X (x 1).val (x 2).val) := by
  have hz' : ∀ i : S64x512.Idx, shapeCast S64x512 vz shapeCasts_S1x64x512_S64x512 i = Z (i 0).val (i 1).val := fun i =>
    (shapeCast_dropUnit_apply ![64, 512] vz shapeCasts_S1x64x512_S64x512 i).trans (hz _)
  unfold k0_pay1
  dsimp only
  have key : ∀ (w : FVec F S64x512 .bf16) (G : ℕ → ℕ → F .bf16), (∀ i, w i = G (i 0).val (i 1).val) → shapeCast S1x64x512 w shapeCasts_S64x512_S1x64x512 x = G (x 1).val (x 2).val :=
    fun w G h => (shapeCast_addUnit_apply ![64, 512] w shapeCasts_S64x512_S1x64x512 x).trans (h _)
  refine key _ (fun a b => outS (Z a b) (Y a b) (X a b)) fun i => ?_
  show outS (shapeCast S64x512 vz shapeCasts_S1x64x512_S64x512 i) (vy i) (vx i) = _
  rw [hz' i, hy, hx]

end Cert.Proof.Kernel
-- ==== Proof.Kernel.Tables.lean ====
/- The tables one grid point reads, the values it computes of them, and what its buffers hold as stores accumulate. -/
module

public import proofs.«01_k».proof.Proof.Kernel.Group
public import proofs.«01_k».proof.Proof.Kernel.ChunkSpec
public import Idealize.ShloMosaic.Lib.Exec
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of the input windows, as functions of token (or state row) and lane. -/
structure Tabs (F : FTy → Type) where
  X : ℕ → ℕ → F .fp8e4m3
  DT : ℕ → ℕ → F .fp8e4m3
  Z : ℕ → ℕ → F .bf16
  SC : Tab F
  A : Tab F
  B : Tab F
  C : Tab F
  H0 : Tab F
  DD : ℕ → F .f32
  BI : ℕ → F .f32

namespace Tabs

def DL (W : Tabs F) : Tab F := fun T l => dlS (W.DT T l) (W.SC T 0) (W.BI l)
def DE (W : Tabs F) : Tab F := fun T l => deS (W.DL T l) (W.SC T 3)
def U (W : Tabs F) : Tab F := fun T l => uS (W.X T l) (W.SC T 2) (W.DL T l)
def XF (W : Tabs F) : Tab F := fun T l => xfS (W.X T l) (W.SC T 1) (W.DD l)
/-- The state before token `T`. -/
def HS (W : Tabs F) (T : ℕ) : Tab F := hst W.A W.DE W.U W.B W.H0 T
def YS (W : Tabs F) : Tab F := ysum W.A W.DE W.U W.B W.C W.H0
/-- The output. -/
def OUT (W : Tabs F) : ℕ → ℕ → F .bf16 := fun T l => outS (W.Z T l) (W.YS T l) (W.XF T l)

/-- The tables seen from chunk `j` of 512 lanes. -/
def sh (j : ℕ) (W : Tabs F) : Tabs F where
  X T l := W.X T (512 * j + l)
  DT T l := W.DT T (512 * j + l)
  Z T l := W.Z T (512 * j + l)
  SC := W.SC
  A n l := W.A n (512 * j + l)
  B := W.B
  C := W.C
  H0 n l := W.H0 n (512 * j + l)
  DD l := W.DD (512 * j + l)
  BI l := W.BI (512 * j + l)

theorem sh_HS (j : ℕ) (W : Tabs F) (T : ℕ) : (W.sh j).HS T = fun n l => W.HS T n (512 * j + l) := by
  induction T with
  | zero => rfl
  | succ T ih =>
    show stepH _ _ _ _ T ((W.sh j).HS T) = _
    rw [ih]; rfl

theorem sh_YS (j : ℕ) (W : Tabs F) : (W.sh j).YS = fun T l => W.YS T (512 * j + l) := by
  funext T l
  show sum8 (fun i => prd (W.sh j).C ((W.sh j).HS (T + 1)) T i l) = _
  rw [sh_HS]; rfl

/-- The tables seen from token `t₀` on: the state starts at the state before that token. -/
def from_ (t₀ : ℕ) (W : Tabs F) : Tabs F where
  X T l := W.X (t₀ + T) l
  DT T l := W.DT (t₀ + T) l
  Z T l := W.Z (t₀ + T) l
  SC T k := W.SC (t₀ + T) k
  A := W.A
  B T n := W.B (t₀ + T) n
  C T n := W.C (t₀ + T) n
  H0 := W.HS t₀
  DD := W.DD
  BI := W.BI

theorem from_HS (t₀ : ℕ) (W : Tabs F) (T : ℕ) : (W.from_ t₀).HS T = W.HS (t₀ + T) := by
  induction T with
  | zero => rfl
  | succ T ih =>
    show stepH _ _ _ _ T ((W.from_ t₀).HS T) = _
    rw [ih]; rfl

theorem from_OUT (t₀ : ℕ) (W : Tabs F) (T l : ℕ) : (W.from_ t₀).OUT T l = W.OUT (t₀ + T) l := by
  have e : (W.from_ t₀).YS T l = W.YS (t₀ + T) l := by
    show sum8 (fun i => prd (W.from_ t₀).C ((W.from_ t₀).HS (T + 1)) T i l) = _
    rw [from_HS]; rfl
  show outS _ ((W.from_ t₀).YS T l) _ = outS _ (W.YS (t₀ + T) l) _
  rw [e]; rfl

end Tabs

/-! ## Loads -/

section
variable (c : Dev nD)

theorem rd_win {e : EltTy} (M : Memref sig .tc .vmem S1x64x8192 e) (f : Bf (F := F) c M) (G : ℕ → ℕ → Elt F e)
    (h : ∀ x, M.view.read (Elt F) f x = G (x 1).val (x 2).val) (q : ℕ) (o : Fin 3 → ℕ) (ho : ∀ a, o a + S1x64x512.size a ≤ S1x64x8192.size a) (eo : o = ![0, 0, q])
    (x : S1x64x512.Idx) : View.readAt (Elt F) M.view (Rect.unit (s := S1x64x8192) o S1x64x512.size ho).toLoadRect f x = G (x 1).val (q + (x 2).val) := by
  subst eo
  refine (h _).trans ?_
  show G (0 + 1 * (x 1).val) (q + 1 * (x 2).val) = _
  congr 1 <;> omega

theorem rd_row (M : Memref sig .tc .vmem S1x8192 .f32) (f : Bf (F := F) c M) (G : ℕ → F .f32)
    (h : ∀ x, M.view.read (Elt F) f x = G (x 1).val) (q : ℕ) (o : Fin 2 → ℕ) (ho : ∀ a, o a + S1x512.size a ≤ S1x8192.size a) (eo : o = ![0, q])
    (x : S1x512.Idx) : View.readAt (Elt F) M.view (Rect.unit (s := S1x8192) o S1x512.size ho).toLoadRect f x = G (q + (x 1).val) := by
  subst eo
  refine (h _).trans ?_
  show G (q + 1 * (x 1).val) = _
  congr 1; omega

theorem rd_a (M : Memref sig .tc .vmem S16x8192 .f32) (f : Bf (F := F) c M) (G : Tab F)
    (h : ∀ x, M.view.read (Elt F) f x = G (x 0).val (x 1).val) (p q : ℕ) (o : Fin 2 → ℕ) (ho : ∀ a, o a + S8x128.size a ≤ S16x8192.size a) (eo : o = ![p, q])
    (x : S8x128.Idx) : View.readAt (Elt F) M.view (Rect.unit (s := S16x8192) o S8x128.size ho).toLoadRect f x = G (p + (x 0).val) (q + (x 1).val) := by
  subst eo
  refine (h _).trans ?_
  show G (p + 1 * (x 0).val) (q + 1 * (x 1).val) = _
  congr 1 <;> omega

theorem rd_sc (M : Memref sig .tc .vmem S1x64x4 .f32) (f : Bf (F := F) c M) (G : Tab F)
    (h : ∀ x, M.view.read (Elt F) f x = G (x 1).val (x 2).val) (ho : ∀ a, (![0, 0, 0] : Fin 3 → ℕ) a + S1x64x4.size a ≤ S1x64x4.size a)
    (x : S1x64x4.Idx) : View.readAt (Elt F) M.view (Rect.unit (s := S1x64x4) ![0, 0, 0] S1x64x4.size ho).toLoadRect f x = G (x 1).val (x 2).val := by
  refine (h _).trans ?_
  show G (0 + 1 * (x 1).val) (0 + 1 * (x 2).val) = _
  congr 1 <;> omega

theorem rd_full (M : Memref sig .tc .vmem S64x512 .f32) (f : Bf (F := F) c M) (G : Tab F)
    (h : ∀ x, M.view.read (Elt F) f x = G (x 0).val (x 1).val) (ho : ∀ a, (![0, 0] : Fin 2 → ℕ) a + S64x512.size a ≤ S64x512.size a)
    (x : S64x512.Idx) : View.readAt (Elt F) M.view (Rect.unit (s := S64x512) ![0, 0] S64x512.size ho).toLoadRect f x = G (x 0).val (x 1).val := by
  refine (h _).trans ?_
  show G (0 + 1 * (x 0).val) (0 + 1 * (x 1).val) = _
  congr 1 <;> omega

theorem st_full (M : Memref sig .tc .vmem S64x512 .f32) (f : Bf (F := F) c M) (G : Tab F)
    (ho : ∀ a, (![0, 0] : Fin 2 → ℕ) a + S64x512.size a ≤ S64x512.size a) (w : FVec F S64x512 .f32) (hw : ∀ x, w x = G (x 0).val (x 1).val) (x : S64x512.Idx) :
    M.view.read (Elt F) (M.view.writes (Elt F) f [⟨Rect.unit (s := S64x512) ![0, 0] S64x512.size ho, w⟩]) x = G (x 0).val (x 1).val := by
  have e : (Rect.unit (s := S64x512) ![0, 0] S64x512.size ho).emb x = x := by
    refine Rect.emb_eq_of_coords _ _ _ fun a => ?_
    match a with
    | ⟨0, _⟩ => show (x 0).val = 0 + 1 * (x 0).val; omega
    | ⟨1, _⟩ => show (x 1).val = 0 + 1 * (x 1).val; omega
  exact (congrArg _ e.symm).trans ((View.read_writes_cons_emb _ _ _ _ _ _).trans (hw _))
end

/-! ## Stores -/

/-- The first `n` slabs of a scratch of four hold the table. -/
def SlabOk (G : Tab F) (n : ℕ) (Y : Vec F S4x64x128 .f32) : Prop :=
  ∀ y : S4x64x128.Idx, (y 0).val < n → Y y = G (y 1).val (128 * (y 0).val + (y 2).val)

section
variable (c : Dev nD)

theorem slabOk_cons (M : Memref sig .tc .vmem S4x64x128 .f32) (f : Bf (F := F) c M) (G : Tab F) (n : ℕ) (L : List (View.Piece (Elt F) S4x64x128 .f32))
    (h : SlabOk G n (M.view.read (Elt F) (M.view.writes (Elt F) f L))) (ho : ∀ a, (![n, 0, 0] : Fin 3 → ℕ) a + S1x64x128.size a ≤ S4x64x128.size a)
    (w : FVec F S1x64x128 .f32) (hw : ∀ x, w x = G (x 1).val (128 * n + (x 2).val)) :
    SlabOk G (n + 1) (M.view.read (Elt F) (M.view.writes (Elt F) f (⟨Rect.unit (s := S4x64x128) ![n, 0, 0] S1x64x128.size ho, w⟩ :: L))) := by
  intro y hy
  by_cases hc : (y 0).val = n
  · have e : (Rect.unit (s := S4x64x128) ![n, 0, 0] S1x64x128.size ho).emb (fun a => match a with | ⟨0, _⟩ => ⟨0, Nat.one_pos⟩ | ⟨1, _⟩ => ⟨(y 1).val, (y 1).isLt⟩ | ⟨2, _⟩ => ⟨(y 2).val, (y 2).isLt⟩ : S1x64x128.Idx) = y := by
      refine Rect.emb_eq_of_coords _ _ _ fun a => ?_
      match a with
      | ⟨0, _⟩ => show (y 0).val = n + 1 * 0; omega
      | ⟨1, _⟩ => show (y 1).val = 0 + 1 * (y 1).val; omega
      | ⟨2, _⟩ => show (y 2).val = 0 + 1 * (y 2).val; omega
    refine (congrArg _ e.symm).trans ((View.read_writes_cons_emb _ _ _ _ _ _).trans ((hw _).trans ?_))
    show G (y 1).val (128 * n + (y 2).val) = _
    rw [hc]
  · rw [View.read_writes_cons_miss]
    · exact h y (by omega)
    · intro hm
      have h0 := (Rect.mem_set_unit (inb := ho)).mp hm (0 : Fin 3)
      have h1 : n ≤ (y 0).val := h0.1
      have h2 : (y 0).val < n + 1 := h0.2
      omega

/-- Which places of the state window chunk `j` has rewritten after `n` of its eight stores. -/
def done (j n : ℕ) (r l : ℕ) : Prop := l < 512 * j + 128 * (n / 2) ∨ (n % 2 = 1 ∧ l < 512 * j + 128 * (n / 2 + 1) ∧ r < 8)

def HOk (G H0 : Tab F) (j n : ℕ) (Y : Vec F S1x16x8192 .f32) : Prop :=
  ∀ y : S1x16x8192.Idx, (done j n (y 1).val (y 2).val → Y y = G (y 1).val (y 2).val) ∧ (¬ done j n (y 1).val (y 2).val → Y y = H0 (y 1).val (y 2).val)

theorem hOk_cons (M : Memref sig .tc .vmem S1x16x8192 .f32) (f : Bf (F := F) c M) (G H0 : Tab F) (j n r k : ℕ) (hr : r = 8 * (n % 2)) (hk : k = 128 * (n / 2))
    (L : List (View.Piece (Elt F) S1x16x8192 .f32))
    (h : HOk G H0 j n (M.view.read (Elt F) (M.view.writes (Elt F) f L))) (o : Fin 3 → ℕ) (ho : ∀ a, o a + S1x8x128.size a ≤ S1x16x8192.size a) (eo : o = ![0, r, 512 * j + k])
    (w : FVec F S1x8x128 .f32) (hw : ∀ x, w x = G (r + (x 1).val) (512 * j + (k + (x 2).val))) :
    HOk G H0 j (n + 1) (M.view.read (Elt F) (M.view.writes (Elt F) f (⟨Rect.unit (s := S1x16x8192) o S1x8x128.size ho, w⟩ :: L))) := by
  subst eo
  intro y
  have hy0 : (y 0).val < 1 := (y 0).isLt
  have hy1 : (y 1).val < 16 := (y 1).isLt
  by_cases hc : (r ≤ (y 1).val ∧ (y 1).val < r + 8) ∧ 512 * j + k ≤ (y 2).val ∧ (y 2).val < 512 * j + k + 128
  · have e : (Rect.unit (s := S1x16x8192) ![0, r, 512 * j + k] S1x8x128.size ho).emb (fun a => match a with | ⟨0, _⟩ => ⟨0, Nat.one_pos⟩ | ⟨1, _⟩ => ⟨(y 1).val - r, by show _ < 8; omega⟩ | ⟨2, _⟩ => ⟨(y 2).val - (512 * j + k), by show _ < 128; omega⟩ : S1x8x128.Idx) = y := by
      refine Rect.emb_eq_of_coords _ _ _ fun a => ?_
      match a with
      | ⟨0, _⟩ => show (y 0).val = 0 + 1 * 0; omega
      | ⟨1, _⟩ => show (y 1).val = r + 1 * ((y 1).val - r); omega
      | ⟨2, _⟩ => show (y 2).val = 512 * j + k + 1 * ((y 2).val - (512 * j + k)); omega
    have e' : M.view.read (Elt F) (M.view.writes (Elt F) f (⟨Rect.unit (s := S1x16x8192) ![0, r, 512 * j + k] S1x8x128.size ho, w⟩ :: L)) y = G (y 1).val (y 2).val := by
      refine (congrArg _ e.symm).trans ((View.read_writes_cons_emb _ _ _ _ _ _).trans ((hw _).trans ?_))
      show G (r + ((y 1).val - r)) (512 * j + (k + ((y 2).val - (512 * j + k)))) = _
      congr 1 <;> omega
    refine ⟨fun _ => e', fun hn => absurd ?_ hn⟩
    unfold done
    omega
  · rw [View.read_writes_cons_miss]
    · refine ⟨fun hd => (h y).1 ?_, fun hd => (h y).2 ?_⟩
      · unfold done at hd ⊢; omega
      · unfold done at hd ⊢; omega
    · intro hm
      have h1 := (Rect.mem_set_unit (inb := ho)).mp hm (1 : Fin 3)
      have h2 := (Rect.mem_set_unit (inb := ho)).mp hm (2 : Fin 3)
      have h1a : r ≤ (y 1).val := h1.1
      have h1b : (y 1).val < r + 8 := h1.2
      have h2a : 512 * j + k ≤ (y 2).val := h2.1
      have h2b : (y 2).val < 512 * j + k + 128 := h2.2
      omega

theorem hOk_next (G H0 : Tab F) (j : ℕ) (Y : Vec F S1x16x8192 .f32) (h : HOk G H0 j 8 Y) : HOk G H0 (j + 1) 0 Y := fun y => by
  refine ⟨fun hd => (h y).1 ?_, fun hd => (h y).2 ?_⟩ <;> unfold done at hd ⊢ <;> omega

/-- A load of the state window at a chunk not yet rewritten. -/
theorem rd_h (M : Memref sig .tc .vmem S1x16x8192 .f32) (f : Bf (F := F) c M) (G H0 : Tab F) (j : ℕ)
    (h : HOk G H0 j 0 (M.view.read (Elt F) f)) (p q : ℕ) (o : Fin 3 → ℕ) (ho : ∀ a, o a + S1x8x128.size a ≤ S1x16x8192.size a) (eo : o = ![0, p, 512 * j + q])
    (x : S1x8x128.Idx) : View.readAt (Elt F) M.view (Rect.unit (s := S1x16x8192) o S1x8x128.size ho).toLoadRect f x = H0 (p + (x 1).val) (512 * j + (q + (x 2).val)) := by
  subst eo
  refine ((h _).2 ?_).trans ?_
  · show ¬ done j 0 (p + 1 * (x 1).val) (512 * j + q + 1 * (x 2).val)
    unfold done; omega
  · show H0 (p + 1 * (x 1).val) (512 * j + q + 1 * (x 2).val) = _
    congr 1 <;> omega

/-- The lanes of the output window before chunk `j` hold the output. -/
def YOk (G : ℕ → ℕ → F .bf16) (j : ℕ) (Y : Vec F S1x64x8192 .bf16) : Prop :=
  ∀ y : S1x64x8192.Idx, (y 2).val < 512 * j → Y y = G (y 1).val (y 2).val

theorem yOk_store (M : Memref sig .tc .vmem S1x64x8192 .bf16) (f : Bf (F := F) c M) (G : ℕ → ℕ → F .bf16) (j : ℕ)
    (h : YOk G j (M.view.read (Elt F) f)) (o : Fin 3 → ℕ) (ho : ∀ a, o a + S1x64x512.size a ≤ S1x64x8192.size a) (eo : o = ![0, 0, 512 * j])
    (w : FVec F S1x64x512 .bf16) (hw : ∀ x, w x = G (x 1).val (512 * j + (x 2).val)) :
    YOk G (j + 1) (M.view.read (Elt F) (M.view.writes (Elt F) f [⟨Rect.unit (s := S1x64x8192) o S1x64x512.size ho, w⟩])) := by
  subst eo
  intro y hy
  have hy0 : (y 0).val < 1 := (y 0).isLt
  by_cases hc : 512 * j ≤ (y 2).val
  · have e : (Rect.unit (s := S1x64x8192) ![0, 0, 512 * j] S1x64x512.size ho).emb (fun a => match a with | ⟨0, _⟩ => ⟨0, Nat.one_pos⟩ | ⟨1, _⟩ => ⟨(y 1).val, (y 1).isLt⟩ | ⟨2, _⟩ => ⟨(y 2).val - 512 * j, by show _ < 512; omega⟩ : S1x64x512.Idx) = y := by
      refine Rect.emb_eq_of_coords _ _ _ fun a => ?_
      match a with
      | ⟨0, _⟩ => show (y 0).val = 0 + 1 * 0; omega
      | ⟨1, _⟩ => show (y 1).val = 0 + 1 * (y 1).val; omega
      | ⟨2, _⟩ => show (y 2).val = 512 * j + 1 * ((y 2).val - 512 * j); omega
    refine (congrArg _ e.symm).trans ((View.read_writes_cons_emb _ _ _ _ _ _).trans ((hw _).trans ?_))
    show G (y 1).val (512 * j + ((y 2).val - 512 * j)) = _
    congr 1; omega
  · rw [View.read_writes_cons_miss]
    · exact h y (by omega)
    · intro hm
      have h2 := (Rect.mem_set_unit (inb := ho)).mp hm (2 : Fin 3)
      have h2a : 512 * j ≤ (y 2).val := h2.1
      omega
end

end Cert.Proof.Kernel
-- ==== Proof.Kernel.RegularEq.lean ====
/- The printed group trip is the regular one. -/
module

public import proofs.«01_k».proof.Proof.Kernel.Regular

@[expose] public section

set_option maxRecDepth 65536

noncomputable section

namespace Cert.Proof.Kernel

open Cert.Kernel Cert.Kernel.Gen
open Idealize.ShloMosaic Idealize.SL.Sem

variable {F : FTy → Type} [FloatOps F]

set_option maxHeartbeats 2000000 in
/-- The printed trip is the regular one. -/
theorem k0_t2_body_eq (i : grid0.Coords) (arg2 : Memref sig .tc .vmem S1x64x8192 .fp8e4m3) (harg2 : arg2.IsWhole) (arg3 : Memref sig .tc .vmem S1x64x8192 .fp8e4m3) (harg3 : arg3.IsWhole) (arg4 : Memref sig .tc .vmem S1x64x8192 .bf16) (harg4 : arg4.IsWhole) (arg5 : Memref sig .tc .vmem S1x64x4 .f32) (harg5 : arg5.IsWhole) (arg6 : Memref sig .tc .vmem S1x1x16x64 .fp8e4m3) (harg6 : arg6.IsWhole) (arg7 : Memref sig .tc .vmem S1x1x1x64 .f32) (harg7 : arg7.IsWhole) (arg8 : Memref sig .tc .vmem S1x1x16x64 .fp8e4m3) (harg8 : arg8.IsWhole) (arg9 : Memref sig .tc .vmem S1x1x1x64 .f32) (harg9 : arg9.IsWhole) (arg10 : Memref sig .tc .vmem S16x8192 .f32) (harg10 : arg10.IsWhole) (arg11 : Memref sig .tc .vmem S1x8192 .f32) (harg11 : arg11.IsWhole) (arg12 : Memref sig .tc .vmem S1x8192 .f32) (harg12 : arg12.IsWhole) (arg13 : Memref sig .tc .vmem S1x64x8192 .bf16) (harg13 : arg13.IsWhole) (arg14 : Memref sig .tc .vmem S1x16x8192 .f32) (harg14 : arg14.IsWhole) (arg15 : Memref sig .tc .vmem S64x16x128 .f32) (harg15 : arg15.IsWhole) (arg16 : Memref sig .tc .vmem S64x16x128 .f32) (harg16 : arg16.IsWhole) (arg17 : Memref sig .tc .vmem S4x64x128 .f32) (harg17 : arg17.IsWhole) (arg18 : Memref sig .tc .vmem S4x64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S4x200x128 .f32) (harg21 : arg21.IsWhole) (k0_t1 : Fin k0_t1_loop.trips) (v787 : BitVec 32) (v910 v914 v918 v922 v926 v930 v934 v938 v942 : FVec F S8x128 .f32) (v945 : Vec F S1x8x128 .f32)
    (g : Fin k0_t2_loop.trips) (h : St F) :
    k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v787 v910 v914 v918 v922 v926 v930 v934 v938 v942 v945 g h
      = group arg15 arg16 arg17 arg18 arg20 arg21 g (v910, v914, v918, v922, v926, v930, v934, v938) h := by
  dsimp only [k0_t2_body, group, token, cell, column, k0_part39_eq_skeleton, k0_part39_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel,
    Prog.lift, Prog.bind_op, Prog.bind_ret, pure, Prog.instMonad]
  dsimp only [k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201,
    k0_pay231]
  rfl

end Cert.Proof.Kernel
-- ==== Proof.Kernel.Chunk.lean ====
/- The triple of one chunk of lanes. -/
module

public import proofs.«01_k».proof.Proof.Kernel.Group
public import proofs.«01_k».proof.Proof.Kernel.Tables
public import proofs.«01_k».proof.Proof.Kernel.RegularEq
public import Idealize.ShloMosaic.Lib.Exec
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The eight groups of a chunk -/

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

theorem k0_t2_trips : k0_t2_loop.trips = 8 := by decide +kernel

include hb hc hd hu in
theorem wp_groups (body : Fin k0_t2_loop.trips → St F → Prog (TpuEff nD τ sig (Elt F) Λ₀ .tc) (St F))
    (hbody : ∀ g h, body g h = group bb cb de u yt yb g (stV A) h) (init : St F) (hinit : init = stV H0) (Q : St F → sProp 𝕄) :
    iprop(groupR c bb cb de u yt yb A D U B C H0 fb fc fd fu 0 ∗
      (groupR c bb cb de u yt yb A D U B C H0 fb fc fd fu 8 -∗ Q (stV (hst A D U B H0 64))))
      ⊢ wpc c (k0_t2_loop.for k0_t2_ok init body) Q := by
  unfold wpc
  iintro ⟨HR, HK⟩
  iapply (Scf.wp_for frame (wpE (defs₀ (F := F)) Variants.none (c : Thread nD τ) none) Set.univ k0_t2_loop.lb k0_t2_loop.ub k0_t2_loop.st k0_t2_ok init body
    (fun k acc => iprop(⌜acc = stV (hst A D U B H0 (8 * k))⌝ ∗ groupR c bb cb de u yt yb A D U B C H0 fb fc fd fu k)) (by
      intro g acc
      rw [hbody]
      iintro ⟨%e, HR⟩
      subst e
      iapply (wp_group c bb cb de u yt yb A D U B C H0 fb fc fd fu hb hc hd hu g _)
      isplitl [HR]; · iexact HR
      iintro HR
      isplitr
      · ipureintro; rfl
      · iexact HR))
  isplitl [HR]
  · isplitr
    · ipureintro; exact hinit
    · iexact HR
  iintro %acc H
  icases H with ⟨%e, HR⟩
  rw [show Scf.trips k0_t2_loop.lb k0_t2_loop.ub k0_t2_loop.st = 8 from k0_t2_trips] at e
  subst e
  iapply HK
  rw [show Scf.trips k0_t2_loop.lb k0_t2_loop.ub k0_t2_loop.st = 8 from k0_t2_trips]
  iexact HR
end

/-! ## One chunk -/

section
variable (c : Dev nD) (W : Tabs F) (i : grid0.Coords) (arg2 : Memref sig .tc .vmem S1x64x8192 .fp8e4m3) (harg2 : arg2.IsWhole) (arg3 : Memref sig .tc .vmem S1x64x8192 .fp8e4m3) (harg3 : arg3.IsWhole) (arg4 : Memref sig .tc .vmem S1x64x8192 .bf16) (harg4 : arg4.IsWhole) (arg5 : Memref sig .tc .vmem S1x64x4 .f32) (harg5 : arg5.IsWhole) (arg6 : Memref sig .tc .vmem S1x1x16x64 .fp8e4m3) (harg6 : arg6.IsWhole) (arg7 : Memref sig .tc .vmem S1x1x1x64 .f32) (harg7 : arg7.IsWhole) (arg8 : Memref sig .tc .vmem S1x1x16x64 .fp8e4m3) (harg8 : arg8.IsWhole) (arg9 : Memref sig .tc .vmem S1x1x1x64 .f32) (harg9 : arg9.IsWhole) (arg10 : Memref sig .tc .vmem S16x8192 .f32) (harg10 : arg10.IsWhole) (arg11 : Memref sig .tc .vmem S1x8192 .f32) (harg11 : arg11.IsWhole) (arg12 : Memref sig .tc .vmem S1x8192 .f32) (harg12 : arg12.IsWhole) (arg13 : Memref sig .tc .vmem S1x64x8192 .bf16) (harg13 : arg13.IsWhole) (arg14 : Memref sig .tc .vmem S1x16x8192 .f32) (harg14 : arg14.IsWhole) (arg15 : Memref sig .tc .vmem S64x16x128 .f32) (harg15 : arg15.IsWhole) (arg16 : Memref sig .tc .vmem S64x16x128 .f32) (harg16 : arg16.IsWhole) (arg17 : Memref sig .tc .vmem S4x64x128 .f32) (harg17 : arg17.IsWhole) (arg18 : Memref sig .tc .vmem S4x64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S4x200x128 .f32) (harg21 : arg21.IsWhole)
  (fx : Bf (F := F) c arg2) (fdt : Bf (F := F) c arg3) (fz : Bf (F := F) c arg4) (fs : Bf (F := F) c arg5) (fa : Bf (F := F) c arg10) (fdd : Bf (F := F) c arg11) (fbi : Bf (F := F) c arg12) (fb : Bf (F := F) c arg15) (fc : Bf (F := F) c arg16)
  (hX : ∀ x, arg2.view.read (Elt F) fx x = W.X (x 1).val (x 2).val) (hDT : ∀ x, arg3.view.read (Elt F) fdt x = W.DT (x 1).val (x 2).val)
  (hZ : ∀ x, arg4.view.read (Elt F) fz x = W.Z (x 1).val (x 2).val) (hS : ∀ x, arg5.view.read (Elt F) fs x = W.SC (x 1).val (x 2).val)
  (hA : ∀ x, arg10.view.read (Elt F) fa x = W.A (x 0).val (x 1).val) (hD : ∀ x, arg11.view.read (Elt F) fdd x = W.DD (x 1).val)
  (hB : ∀ x, arg12.view.read (Elt F) fbi x = W.BI (x 1).val)
  (hb : ∀ x, arg15.view.read (Elt F) fb x = W.B (x 0).val (x 1).val) (hc : ∀ x, arg16.view.read (Elt F) fc x = W.C (x 0).val (x 1).val)

/-- What the chunks hold before chunk `j`. -/
def chunkR (arg2 : Memref sig .tc .vmem S1x64x8192 .fp8e4m3) (arg3 : Memref sig .tc .vmem S1x64x8192 .fp8e4m3) (arg4 : Memref sig .tc .vmem S1x64x8192 .bf16) (arg5 : Memref sig .tc .vmem S1x64x4 .f32)
    (arg10 : Memref sig .tc .vmem S16x8192 .f32) (arg11 : Memref sig .tc .vmem S1x8192 .f32) (arg12 : Memref sig .tc .vmem S1x8192 .f32) (arg13 : Memref sig .tc .vmem S1x64x8192 .bf16) (arg14 : Memref sig .tc .vmem S1x16x8192 .f32)
    (arg15 : Memref sig .tc .vmem S64x16x128 .f32) (arg16 : Memref sig .tc .vmem S64x16x128 .f32) (arg17 arg18 : Memref sig .tc .vmem S4x64x128 .f32) (arg19 arg20 : Memref sig .tc .vmem S64x512 .f32) (arg21 : Memref sig .tc .vmem S4x200x128 .f32)
    (fx : Bf (F := F) c arg2) (fdt : Bf (F := F) c arg3) (fz : Bf (F := F) c arg4) (fs : Bf (F := F) c arg5) (fa : Bf (F := F) c arg10) (fdd : Bf (F := F) c arg11) (fbi : Bf (F := F) c arg12) (fb : Bf (F := F) c arg15) (fc : Bf (F := F) c arg16)
    (j : ℕ) : sProp 𝕄 :=
  iprop(held c arg2 fx ∗ held c arg3 fdt ∗ held c arg4 fz ∗ held c arg5 fs ∗ held c arg10 fa ∗ held c arg11 fdd ∗ held c arg12 fbi ∗
    (∃ f, ⌜YOk W.OUT j (arg13.view.read (Elt F) f)⌝ ∗ held c arg13 f) ∗ (∃ f, ⌜HOk (W.HS 64) W.H0 j 0 (arg14.view.read (Elt F) f)⌝ ∗ held c arg14 f) ∗
    held c arg15 fb ∗ held c arg16 fc ∗ (∃ f, held c arg17 f) ∗ (∃ f, held c arg18 f) ∗ (∃ f, held c arg19 f) ∗ (∃ f, held c arg20 f) ∗ (∃ f, held c arg21 f))

theorem lo_eq (v : Vec F S1x8x128 .f32) (H0 : Tab F) (j k : ℕ) (h : ∀ x, v x = H0 (0 + (x 1).val) (512 * j + (128 * k + (x 2).val))) :
    shapeCast S8x128 v shapeCasts_S1x8x128_S8x128 = loV (fun n l => H0 n (512 * j + l)) k :=
  funext fun i => (cast_drop v (fun a b => H0 (0 + a) (512 * j + (128 * k + b))) h i).trans (by show H0 (0 + (i 0).val) _ = H0 (i 0).val _; rw [Nat.zero_add])
theorem hi_eq (v : Vec F S1x8x128 .f32) (H0 : Tab F) (j k : ℕ) (h : ∀ x, v x = H0 (8 + (x 1).val) (512 * j + (128 * k + (x 2).val))) :
    shapeCast S8x128 v shapeCasts_S1x8x128_S8x128 = hiV (fun n l => H0 n (512 * j + l)) k :=
  funext fun i => cast_drop v (fun a b => H0 (8 + a) (512 * j + (128 * k + b))) h i
theorem alo_eq (v : Vec F S8x128 .f32) (H0 : Tab F) (j k : ℕ) (h : ∀ x, v x = H0 (0 + (x 0).val) (512 * j + 128 * k + (x 1).val)) :
    shapeCast S8x128 v shapeCasts_S8x128_S8x128 = loV (fun n l => H0 n (512 * j + l)) k :=
  funext fun i => by rw [shapeCast_self, h, Nat.zero_add, Nat.add_assoc]; rfl
theorem ahi_eq (v : Vec F S8x128 .f32) (H0 : Tab F) (j k : ℕ) (h : ∀ x, v x = H0 (8 + (x 0).val) (512 * j + 128 * k + (x 1).val)) :
    shapeCast S8x128 v shapeCasts_S8x128_S8x128 = hiV (fun n l => H0 n (512 * j + l)) k :=
  funext fun i => by rw [shapeCast_self, h, Nat.add_assoc]; rfl
theorem st_lo (X : Tab F) (k : ℕ) (x : S1x8x128.Idx) : shapeCast S1x8x128 (loV X k) shapeCasts_S8x128_S1x8x128 x = X (0 + (x 1).val) (128 * k + (x 2).val) :=
  (cast_add _ (fun a b => X a (128 * k + b)) (fun _ => rfl) x).trans (by rw [Nat.zero_add])
theorem st_hi (X : Tab F) (k : ℕ) (x : S1x8x128.Idx) : shapeCast S1x8x128 (hiV X k) shapeCasts_S8x128_S1x8x128 x = X (8 + (x 1).val) (128 * k + (x 2).val) :=
  cast_add _ (fun a b => X (8 + a) (128 * k + b)) (fun _ => rfl) x

include hX hDT hZ hS hA hD hB hb hc in
set_option maxHeartbeats 1000000 in
theorem wp_chunk (j : Fin k0_t1_loop.trips) (Q : Unit → sProp 𝕄) :
    iprop(chunkR c W arg2 arg3 arg4 arg5 arg10 arg11 arg12 arg13 arg14 arg15 arg16 arg17 arg18 arg19 arg20 arg21 fx fdt fz fs fa fdd fbi fb fc j.val ∗ (chunkR c W arg2 arg3 arg4 arg5 arg10 arg11 arg12 arg13 arg14 arg15 arg16 arg17 arg18 arg19 arg20 arg21 fx fdt fz fs fa fdd fbi fb fc (j.val + 1) -∗ Q ()))
      ⊢ wpc c (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 0#32 j ()) Q := by
  unfold wpc chunkR k0_t1_body
  simp only [k0_part40_eq_skeleton, k0_part41_eq_skeleton, k0_part42_eq_skeleton, k0_part43_eq_skeleton, k0_part44_eq_skeleton, k0_part45_eq_skeleton]
  unfold k0_part40_skel k0_part41_skel k0_part42_skel k0_part43_skel k0_part44_skel k0_part45_skel
  iintro ⟨⟨H2, H3, H4, H5, H10, H11, H12, ⟨%fyo, %hyo, H13⟩, ⟨%fh, %hh, H14⟩, H15, H16, ⟨%fde, H17⟩, ⟨%fu, H18⟩, ⟨%fxf, H19⟩, ⟨%ft, H20⟩, ⟨%fy, H21⟩⟩, HK⟩
  sl_exec
  dsimp only
  -- what the loads read
  have ls := pay202_apply _ (W.sh j.val).SC (rd_sc c arg5 fs W.SC hS inb_S1x64x4_S1x64x4_0_0_0)
  have ll := pay203_apply _ _ _ (W.sh j.val).SC (W.sh j.val).DT (W.sh j.val).BI (rd_sc c arg5 fs W.SC hS inb_S1x64x4_S1x64x4_0_0_0)
    (rd_win c arg3 fdt W.DT hDT _ _ (k0_off1_inb j) (k0_off1_eq j)) (rd_row c arg12 fbi W.BI hB _ _ (k0_off2_inb j) (k0_off2_eq j))
  have lx := pay204_apply _ (W.sh j.val).X (rd_win c arg2 fx W.X hX _ _ (k0_off1_inb j) (k0_off1_eq j))
  have pd := de_pieces _ _ (W.sh j.val).SC (W.sh j.val).DL ls ll
  have pu := u_pieces _ _ _ (W.sh j.val).SC (W.sh j.val).DL (W.sh j.val).X ls ll lx
  have hde := slabOk_cons c arg17 fde (W.sh j.val).DE 3 _ (slabOk_cons c arg17 fde (W.sh j.val).DE 2 _ (slabOk_cons c arg17 fde (W.sh j.val).DE 1 _ (slabOk_cons c arg17 fde (W.sh j.val).DE 0 []
    (fun y h => absurd h (Nat.not_lt_zero _)) inb_S4x64x128_S1x64x128_0_0_0 _ fun x => (pd x).1) inb_S4x64x128_S1x64x128_1_0_0 _ fun x => (pd x).2.1)
    inb_S4x64x128_S1x64x128_2_0_0 _ fun x => (pd x).2.2.1) inb_S4x64x128_S1x64x128_3_0_0 _ fun x => (pd x).2.2.2
  have hu := slabOk_cons c arg18 fu (W.sh j.val).U 3 _ (slabOk_cons c arg18 fu (W.sh j.val).U 2 _ (slabOk_cons c arg18 fu (W.sh j.val).U 1 _ (slabOk_cons c arg18 fu (W.sh j.val).U 0 []
    (fun y h => absurd h (Nat.not_lt_zero _)) inb_S4x64x128_S1x64x128_0_0_0 _ fun x => (pu x).1) inb_S4x64x128_S1x64x128_1_0_0 _ fun x => (pu x).2.1)
    inb_S4x64x128_S1x64x128_2_0_0 _ fun x => (pu x).2.2.1) inb_S4x64x128_S1x64x128_3_0_0 _ fun x => (pu x).2.2.2
  have hxf := fun f => st_full c arg19 f (W.sh j.val).XF inb_S64x512_S64x512_0_0 _ (pay214_apply _ _ (W.sh j.val).SC (W.sh j.val).X ls lx _ (W.sh j.val).DD (rd_row c arg11 fdd W.DD hD _ _ (k0_off2_inb j) (k0_off2_eq j)))
  rw [wp_bind, wp_bind]
  iapply (wp_groups c arg15 arg16 arg17 arg18 arg20 arg21 (W.sh j.val).A (W.sh j.val).DE (W.sh j.val).U W.B W.C (W.sh j.val).H0 fb fc _ _ hb hc
    (fun x => hde x (x 0).isLt) (fun x => hu x (x 0).isLt) _
    (fun g h => (k0_t2_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 j _ _ _ _ _ _ _ _ _ _ _ g h).trans (congrArg (fun a => group arg15 arg16 arg17 arg18 arg20 arg21 g a h) (show _ = stV (W.sh j.val).A from
      Prod.ext (alo_eq _ W.A j.val 0 (rd_a c arg10 fa W.A hA _ _ _ (k0_off3_inb j 0) (k0_off3_eq j 0))) (Prod.ext (ahi_eq _ W.A j.val 0 (rd_a c arg10 fa W.A hA _ _ _ (k0_off4_inb j 0) (k0_off4_eq j 0)))
      (Prod.ext (alo_eq _ W.A j.val 1 (rd_a c arg10 fa W.A hA _ _ _ (k0_off3_inb j 1) (k0_off3_eq j 1))) (Prod.ext (ahi_eq _ W.A j.val 1 (rd_a c arg10 fa W.A hA _ _ _ (k0_off4_inb j 1) (k0_off4_eq j 1)))
      (Prod.ext (alo_eq _ W.A j.val 2 (rd_a c arg10 fa W.A hA _ _ _ (k0_off3_inb j 2) (k0_off3_eq j 2))) (Prod.ext (ahi_eq _ W.A j.val 2 (rd_a c arg10 fa W.A hA _ _ _ (k0_off4_inb j 2) (k0_off4_eq j 2)))
      (Prod.ext (alo_eq _ W.A j.val 3 (rd_a c arg10 fa W.A hA _ _ _ (k0_off3_inb j 3) (k0_off3_eq j 3))) (ahi_eq _ W.A j.val 3 (rd_a c arg10 fa W.A hA _ _ _ (k0_off4_inb j 3) (k0_off4_eq j 3)))))))))))) _
    (show _ = stV (W.sh j.val).H0 from
      Prod.ext (lo_eq _ W.H0 j.val 0 (rd_h c arg14 fh _ W.H0 j.val hh _ _ _ (k0_off5_inb j 0) (k0_off5_eq j 0))) (Prod.ext (hi_eq _ W.H0 j.val 0 (rd_h c arg14 fh _ W.H0 j.val hh _ _ _ (k0_off6_inb j 0) (k0_off6_eq j 0)))
      (Prod.ext (lo_eq _ W.H0 j.val 1 (rd_h c arg14 fh _ W.H0 j.val hh _ _ _ (k0_off5_inb j 1) (k0_off5_eq j 1))) (Prod.ext (hi_eq _ W.H0 j.val 1 (rd_h c arg14 fh _ W.H0 j.val hh _ _ _ (k0_off6_inb j 1) (k0_off6_eq j 1)))
      (Prod.ext (lo_eq _ W.H0 j.val 2 (rd_h c arg14 fh _ W.H0 j.val hh _ _ _ (k0_off5_inb j 2) (k0_off5_eq j 2))) (Prod.ext (hi_eq _ W.H0 j.val 2 (rd_h c arg14 fh _ W.H0 j.val hh _ _ _ (k0_off6_inb j 2) (k0_off6_eq j 2)))
      (Prod.ext (lo_eq _ W.H0 j.val 3 (rd_h c arg14 fh _ W.H0 j.val hh _ _ _ (k0_off5_inb j 3) (k0_off5_eq j 3))) (hi_eq _ W.H0 j.val 3 (rd_h c arg14 fh _ W.H0 j.val hh _ _ _ (k0_off6_inb j 3) (k0_off6_eq j 3)))))))))) _)
  isplitl [H15 H16 H17 H18 H20 H21]
  · unfold groupR
    isplitl [H15]; · iexact H15
    isplitl [H16]; · iexact H16
    isplitl [H17]; · iexact H17
    isplitl [H18]; · iexact H18
    isplitl [H21]; · iexists _; iexact H21
    iexists _
    isplitr
    swap; · iexact H20
    ipureintro
    exact fun y h => absurd h (by omega)
  iintro HR
  unfold groupR
  icases HR with ⟨H15, H16, H17, H18, ⟨%fy', H21⟩, ⟨%ft', %hft, H20⟩⟩
  generalize hX' : hst (W.sh j.val).A (W.sh j.val).DE (W.sh j.val).U W.B (W.sh j.val).H0 64 = X'
  generalize hG : W.HS 64 = G at hh ⊢
  dsimp only [stV]
  sl_exec
  dsimp only
  sl_step
  have hs64 : ∀ n l, X' n l = G n (512 * j.val + l) := fun n l => by
    rw [← hX', ← hG]; exact congrFun (congrFun (W.sh_HS j.val 64) n) l
  have e0 : ∀ x, k0_pay232 (loV X' 0) x = G (0 + (x 1).val) (512 * j.val + (128 * 0 + (x 2).val)) := fun x => (st_lo X' 0 x).trans (hs64 _ _)
  have e1 : ∀ x, k0_pay233 (hiV X' 0) x = G (8 + (x 1).val) (512 * j.val + (128 * 0 + (x 2).val)) := fun x => (st_hi X' 0 x).trans (hs64 _ _)
  have e2 : ∀ x, k0_pay234 (loV X' 1) x = G (0 + (x 1).val) (512 * j.val + (128 * 1 + (x 2).val)) := fun x => (st_lo X' 1 x).trans (hs64 _ _)
  have e3 : ∀ x, k0_pay235 (hiV X' 1) x = G (8 + (x 1).val) (512 * j.val + (128 * 1 + (x 2).val)) := fun x => (st_hi X' 1 x).trans (hs64 _ _)
  have e4 : ∀ x, k0_pay236 (loV X' 2) x = G (0 + (x 1).val) (512 * j.val + (128 * 2 + (x 2).val)) := fun x => (st_lo X' 2 x).trans (hs64 _ _)
  have e5 : ∀ x, k0_pay237 (hiV X' 2) x = G (8 + (x 1).val) (512 * j.val + (128 * 2 + (x 2).val)) := fun x => (st_hi X' 2 x).trans (hs64 _ _)
  have e6 : ∀ x, k0_pay238 (loV X' 3) x = G (0 + (x 1).val) (512 * j.val + (128 * 3 + (x 2).val)) := fun x => (st_lo X' 3 x).trans (hs64 _ _)
  have e7 : ∀ x, k0_pay239 (hiV X' 3) x = G (8 + (x 1).val) (512 * j.val + (128 * 3 + (x 2).val)) := fun x => (st_hi X' 3 x).trans (hs64 _ _)
  have hout : ∀ T l, (W.sh j.val).OUT T l = W.OUT T (512 * j.val + l) := fun T l => by
    show outS _ ((W.sh j.val).YS T l) _ = outS _ (W.YS T (512 * j.val + l)) _
    rw [Tabs.sh_YS]; rfl
  iapply HK
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]
  · iexists _
    isplitr
    swap; · iexact H13
    ipureintro
    sl_unfold_run_names
    exact yOk_store c arg13 fyo W.OUT j.val hyo _ (k0_off1_inb j) (k0_off1_eq j) _ fun x =>
      (pay1_apply _ _ _ (W.sh j.val).Z (W.sh j.val).YS (W.sh j.val).XF (rd_win c arg4 fz W.Z hZ _ _ (k0_off1_inb j) (k0_off1_eq j))
        (rd_full c arg20 ft' (W.sh j.val).YS (fun y => hft y (Or.inl (y 0).isLt)) inb_S64x512_S64x512_0_0)
        (rd_full c arg19 _ (W.sh j.val).XF (hxf _) inb_S64x512_S64x512_0_0) x).trans (hout _ _)
  isplitl [H14]
  · iexists _
    isplitr
    swap; · iexact H14
    ipureintro
    exact hOk_next _ _ _ _ (hOk_cons c arg14 fh G W.H0 j.val 7 8 (128 * 3) rfl rfl _ (hOk_cons c arg14 fh G W.H0 j.val 6 0 (128 * 3) rfl rfl _ (hOk_cons c arg14 fh G W.H0 j.val 5 8 (128 * 2) rfl rfl _ (hOk_cons c arg14 fh G W.H0 j.val 4 0 (128 * 2) rfl rfl _ (hOk_cons c arg14 fh G W.H0 j.val 3 8 (128 * 1) rfl rfl _ (hOk_cons c arg14 fh G W.H0 j.val 2 0 (128 * 1) rfl rfl _ (hOk_cons c arg14 fh G W.H0 j.val 1 8 (128 * 0) rfl rfl _ (hOk_cons c arg14 fh G W.H0 j.val 0 0 (128 * 0) rfl rfl [] hh
      _ (k0_off5_inb j 0) (k0_off5_eq j 0) _ e0)
      _ (k0_off6_inb j 0) (k0_off6_eq j 0) _ e1)
      _ (k0_off5_inb j 1) (k0_off5_eq j 1) _ e2)
      _ (k0_off6_inb j 1) (k0_off6_eq j 1) _ e3)
      _ (k0_off5_inb j 2) (k0_off5_eq j 2) _ e4)
      _ (k0_off6_inb j 2) (k0_off6_eq j 2) _ e5)
      _ (k0_off5_inb j 3) (k0_off5_eq j 3) _ e6)
      _ (k0_off6_inb j 3) (k0_off6_eq j 3) _ e7)
  isplitl [H15]; · iexact H15
  isplitl [H16]; · iexact H16
  isplitl [H17]; · iexists _; iexact H17
  isplitl [H18]; · iexists _; iexact H18
  isplitl [H19]; · iexists _; iexact H19
  isplitl [H20]; · iexists _; iexact H20
  iexists _; iexact H21
end

end Cert.Proof.Kernel
-- ==== Proof.Kernel.Prologue.lean ====
/- The start of a grid point: the state reset and the two broadcast tables. -/
module

public import proofs.«01_k».proof.Proof.Kernel.Chunk
public import Idealize.ShloMosaic.Lib.Exec
public import Idealize.ShloMosaic.Lib.Pointwise.Reshape
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The broadcast tables -/

abbrev T1x16x64 : Shape := ⟨3, ![1, 16, 64]⟩
abbrev T1x1x64 : Shape := ⟨3, ![1, 1, 64]⟩

theorem squeeze2 (v : Vec F S1x1x16x64 .fp8e4m3) (X : ℕ → ℕ → F .fp8e4m3) (h : ∀ x, v x = X (x 2).val (x 3).val) (i : S16x64.Idx) :
    shapeCast S16x64 v shapeCasts_S1x1x16x64_S16x64 i = X (i 0).val (i 1).val := by
  have h1 : S1x1x16x64.ShapeCasts T1x16x64 := by decide
  have h2 : T1x16x64.ShapeCasts S16x64 := by decide
  rw [← shapeCast_comp v h1 h2]
  exact (shapeCast_dropUnit_apply ![16, 64] _ h2 i).trans ((shapeCast_dropUnit_apply ![1, 16, 64] v h1 _).trans (h _))

theorem squeeze1 (v : Vec F S1x1x1x64 .f32) (X : ℕ → F .f32) (h : ∀ x, v x = X (x 3).val) (i : S1x64.Idx) :
    shapeCast S1x64 v shapeCasts_S1x1x1x64_S1x64 i = X (i 1).val := by
  have h1 : S1x1x1x64.ShapeCasts T1x1x64 := by decide
  have h2 : T1x1x64.ShapeCasts S1x64 := by decide
  rw [← shapeCast_comp v h1 h2]
  exact (shapeCast_dropUnit_apply ![1, 64] _ h2 i).trans ((shapeCast_dropUnit_apply ![1, 1, 64] v h1 _).trans (h _))

/-- The scaled table of which the columns are broadcast. -/
theorem scaled_apply (v : Vec F S1x1x16x64 .fp8e4m3) (s : Vec F S1x1x1x64 .f32) (X : ℕ → ℕ → F .fp8e4m3) (S : ℕ → F .f32)
    (hv : ∀ x, v x = X (x 2).val (x 3).val) (hs : ∀ x, s x = S (x 3).val) (i : S16x64.Idx) :
    k0_pay241 v s i = FloatOps.mulf (FloatOps.extf .f32 bitsLt_fp8e4m3_f32 (X (i 0).val (i 1).val)) (S (i 1).val)
    ∧ k0_pay242 v s i = FloatOps.mulf (FloatOps.extf .f32 bitsLt_fp8e4m3_f32 (X (i 0).val (i 1).val)) (S (i 1).val) :=
  have e := congrArg₂ (fun (p : F .fp8e4m3) (q : F .f32) => FloatOps.mulf (FloatOps.extf .f32 bitsLt_fp8e4m3_f32 p) q) (squeeze2 v X hv i)
    ((squeeze1 s S hs _ : broadcastTo S16x64 (shapeCast S1x64 s shapeCasts_S1x1x1x64_S1x64) broadcasts_S1x64_S16x64 i = S (i 1).val))
  ⟨e, e⟩

/-- A column of a table, broadcast over the lanes. -/
theorem col_apply (v : FVec F S16x64 .f32) (X : Tab F) (hv : ∀ i, v i = X (i 1).val (i 0).val) (t : ℕ) (h : S16x64.Slices ![0, t] S16x1) (x : S1x16x128.Idx) :
    shapeCast S1x16x128 (broadcastTo S16x128 (shapeCast S16x1 (extractStridedSlice S16x1 ![0, t] v h) shapeCasts_S16x1_S16x1) broadcasts_S16x1_S16x128) shapeCasts_S16x128_S1x16x128 x
      = X t (x 1).val := by
  rw [shapeCast_self]
  refine (shapeCast_addUnit_apply ![16, 128] _ shapeCasts_S16x128_S1x16x128 x).trans ((hv _).trans ?_)
  show X (t + 0) (0 + (x 1).val) = _
  congr 1; omega

/-- The first `n` slabs of a broadcast table hold the columns. -/
def FillOk (G : Tab F) (n : ℕ) (Y : Vec F S64x16x128 .f32) : Prop :=
  ∀ y : S64x16x128.Idx, (y 0).val < n → Y y = G (y 0).val (y 1).val

theorem fillOk_cons (c : Dev nD) (M : Memref sig .tc .vmem S64x16x128 .f32) (f : Bf (F := F) c M) (G : Tab F) (n : ℕ) (L : List (View.Piece (Elt F) S64x16x128 .f32))
    (ho : ∀ a, (![n, 0, 0] : Fin 3 → ℕ) a + S1x16x128.size a ≤ S64x16x128.size a)
    (w : FVec F S1x16x128 .f32) (hw : ∀ x, w x = G n (x 1).val) (h : FillOk G n (M.view.read (Elt F) (M.view.writes (Elt F) f L))) :
    FillOk G (n + 1) (M.view.read (Elt F) (M.view.writes (Elt F) f (⟨Rect.unit (s := S64x16x128) ![n, 0, 0] S1x16x128.size ho, w⟩ :: L))) := by
  intro y hy
  by_cases hc : (y 0).val = n
  · have e : (Rect.unit (s := S64x16x128) ![n, 0, 0] S1x16x128.size ho).emb (fun a => match a with | ⟨0, _⟩ => ⟨0, Nat.one_pos⟩ | ⟨1, _⟩ => ⟨(y 1).val, (y 1).isLt⟩ | ⟨2, _⟩ => ⟨(y 2).val, (y 2).isLt⟩ : S1x16x128.Idx) = y := by
      refine Rect.emb_eq_of_coords _ _ _ fun a => ?_
      match a with
      | ⟨0, _⟩ => show (y 0).val = n + 1 * 0; omega
      | ⟨1, _⟩ => show (y 1).val = 0 + 1 * (y 1).val; omega
      | ⟨2, _⟩ => show (y 2).val = 0 + 1 * (y 2).val; omega
    refine (congrArg _ e.symm).trans ((View.read_writes_cons_emb _ _ _ _ _ _).trans ((hw _).trans ?_))
    show G n (y 1).val = _
    rw [hc]
  · rw [View.read_writes_cons_miss]
    · exact h y (by omega)
    · intro hm
      have h0 := (Rect.mem_set_unit (inb := ho)).mp hm (0 : Fin 3)
      have h1 : n ≤ (y 0).val := h0.1
      have h2 : (y 0).val < n + 1 := h0.2
      omega

/-! ## The state's reset -/

set_option maxHeartbeats 400000 in
theorem wp_reset (c : Dev nD) (a : Fin 96) (arg14 : Memref sig .tc .vmem S1x16x8192 .f32) (G H0 : Tab F) (fh : Bf (F := F) c arg14)
    (h0 : a.val = 0 → ∀ n l, H0 n l = cZero) (h1 : a.val ≠ 0 → ∀ y, arg14.view.read (Elt F) fh y = H0 (y 1).val (y 2).val) {α : Type} (X k : Prog (TpuEff nD τ sig (Elt F) Λ₀ .tc) α) (Q : α → sProp 𝕄)
    (eX : X = do
        let _v : Vec F S1x16x8192 .f32 ← Prog.lift (.load arg14 (Rect.unit (s := S1x16x8192) ![0, 0, 0] S1x16x8192.size inb_S1x16x8192_S1x16x8192_0_0_0).toLoadRect (View.loadsAt_vmem h_S1x16x8192))
        Prog.lift (.store arg14 (Rect.unit (s := S1x16x8192) ![0, 0, 0] S1x16x8192.size inb_S1x16x8192_S1x16x8192_0_0_0) (k0_pay240 (F := F)) Finset.univ (View.stores_vmem_bits_univ h_S1x16x8192 rfl) (.inl rfl))
        k) :
    iprop(held c arg14 fh ∗ (∀ f, ⌜HOk G H0 0 0 (arg14.view.read (Elt F) f)⌝ -∗ held c arg14 f -∗ wpc c k Q)) ⊢ wpc c (
      if k0_h1 : Scalar.cmpi .ne (Scalar.extui (Scalar.cmpi .eq (BitVec.ofNat 32 a.val) 0#32) : BitVec 32) 0#32 = 1#1 then X else k) Q := by
  subst eX
  have hcond : ∀ a : Fin 96, (Scalar.cmpi .ne (Scalar.extui (Scalar.cmpi .eq (BitVec.ofNat 32 a.val) 0#32) : BitVec 32) 0#32 = 1#1) ↔ a.val = 0 := by decide +kernel
  have base : ∀ Y : Vec F S1x16x8192 .f32, (∀ y, Y y = H0 (y 1).val (y 2).val) → HOk G H0 0 0 Y := fun Y h y =>
    ⟨fun hd => absurd hd (by unfold done; omega), fun _ => h y⟩
  unfold wpc
  iintro ⟨H14, HK⟩
  by_cases ha : a.val = 0
  · rw [dif_pos ((hcond a).mpr ha)]
    sl_exec
    iapply HK $$ %(arg14.view.writes (Elt F) fh [⟨Rect.unit (s := S1x16x8192) ![0, 0, 0] S1x16x8192.size inb_S1x16x8192_S1x16x8192_0_0_0, k0_pay240⟩]) %(base _ ?_) [H14]
    · intro y
      have e : (Rect.unit (s := S1x16x8192) ![0, 0, 0] S1x16x8192.size inb_S1x16x8192_S1x16x8192_0_0_0).emb y = y := by
        refine Rect.emb_eq_of_coords _ _ _ fun a => ?_
        match a with
        | ⟨0, _⟩ => show (y 0).val = 0 + 1 * (y 0).val; omega
        | ⟨1, _⟩ => show (y 1).val = 0 + 1 * (y 1).val; omega
        | ⟨2, _⟩ => show (y 2).val = 0 + 1 * (y 2).val; omega
      exact (congrArg _ e.symm).trans ((View.read_writes_cons_emb _ _ _ _ _ _).trans (h0 ha _ _).symm)
    · iexact H14
  · rw [dif_neg (fun h => ha ((hcond a).mp h))]
    iapply HK $$ %_ %(base _ (h1 ha)) [H14]
    iexact H14

/-! ## A grid point -/

section
variable (c : Dev nD) (W : Tabs F) (BT CT : ℕ → ℕ → F .fp8e4m3) (BS CS : ℕ → F .f32) (i : grid0.Coords) (arg2 : Memref sig .tc .vmem S1x64x8192 .fp8e4m3) (harg2 : arg2.IsWhole) (arg3 : Memref sig .tc .vmem S1x64x8192 .fp8e4m3) (harg3 : arg3.IsWhole) (arg4 : Memref sig .tc .vmem S1x64x8192 .bf16) (harg4 : arg4.IsWhole) (arg5 : Memref sig .tc .vmem S1x64x4 .f32) (harg5 : arg5.IsWhole) (arg6 : Memref sig .tc .vmem S1x1x16x64 .fp8e4m3) (harg6 : arg6.IsWhole) (arg7 : Memref sig .tc .vmem S1x1x1x64 .f32) (harg7 : arg7.IsWhole) (arg8 : Memref sig .tc .vmem S1x1x16x64 .fp8e4m3) (harg8 : arg8.IsWhole) (arg9 : Memref sig .tc .vmem S1x1x1x64 .f32) (harg9 : arg9.IsWhole) (arg10 : Memref sig .tc .vmem S16x8192 .f32) (harg10 : arg10.IsWhole) (arg11 : Memref sig .tc .vmem S1x8192 .f32) (harg11 : arg11.IsWhole) (arg12 : Memref sig .tc .vmem S1x8192 .f32) (harg12 : arg12.IsWhole) (arg13 : Memref sig .tc .vmem S1x64x8192 .bf16) (harg13 : arg13.IsWhole) (arg14 : Memref sig .tc .vmem S1x16x8192 .f32) (harg14 : arg14.IsWhole) (arg15 : Memref sig .tc .vmem S64x16x128 .f32) (harg15 : arg15.IsWhole) (arg16 : Memref sig .tc .vmem S64x16x128 .f32) (harg16 : arg16.IsWhole) (arg17 : Memref sig .tc .vmem S4x64x128 .f32) (harg17 : arg17.IsWhole) (arg18 : Memref sig .tc .vmem S4x64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S4x200x128 .f32) (harg21 : arg21.IsWhole)
  (fx : Bf (F := F) c arg2) (fdt : Bf (F := F) c arg3) (fz : Bf (F := F) c arg4) (fs : Bf (F := F) c arg5) (fbt : Bf (F := F) c arg6) (fbs : Bf (F := F) c arg7) (fct : Bf (F := F) c arg8) (fcs : Bf (F := F) c arg9)
  (fa : Bf (F := F) c arg10) (fdd : Bf (F := F) c arg11) (fbi : Bf (F := F) c arg12) (fh : Bf (F := F) c arg14)
  (hX : ∀ x, arg2.view.read (Elt F) fx x = W.X (x 1).val (x 2).val) (hDT : ∀ x, arg3.view.read (Elt F) fdt x = W.DT (x 1).val (x 2).val)
  (hZ : ∀ x, arg4.view.read (Elt F) fz x = W.Z (x 1).val (x 2).val) (hS : ∀ x, arg5.view.read (Elt F) fs x = W.SC (x 1).val (x 2).val)
  (hBT : ∀ x, arg6.view.read (Elt F) fbt x = BT (x 2).val (x 3).val) (hBS : ∀ x, arg7.view.read (Elt F) fbs x = BS (x 3).val)
  (hCT : ∀ x, arg8.view.read (Elt F) fct x = CT (x 2).val (x 3).val) (hCS : ∀ x, arg9.view.read (Elt F) fcs x = CS (x 3).val)
  (hA : ∀ x, arg10.view.read (Elt F) fa x = W.A (x 0).val (x 1).val) (hD : ∀ x, arg11.view.read (Elt F) fdd x = W.DD (x 1).val)
  (hB : ∀ x, arg12.view.read (Elt F) fbi x = W.BI (x 1).val)
  (h0 : (i 1).val = 0 → ∀ n l, W.H0 n l = cZero) (h1 : (i 1).val ≠ 0 → ∀ y, arg14.view.read (Elt F) fh y = W.H0 (y 1).val (y 2).val)
  (hWB : ∀ T n, W.B T n = FloatOps.mulf (FloatOps.extf .f32 bitsLt_fp8e4m3_f32 (BT n T)) (BS T))
  (hWC : ∀ T n, W.C T n = FloatOps.mulf (FloatOps.extf .f32 bitsLt_fp8e4m3_f32 (CT n T)) (CS T))

theorem k0_t1_trips : k0_t1_loop.trips = 16 := by decide +kernel

theorem rd_bt (M : Memref sig .tc .vmem S1x1x16x64 .fp8e4m3) (f : Bf (F := F) c M) (G : ℕ → ℕ → F .fp8e4m3) (h : ∀ x, M.view.read (Elt F) f x = G (x 2).val (x 3).val)
    (ho : ∀ a, (![0, 0, 0, 0] : Fin 4 → ℕ) a + S1x1x16x64.size a ≤ S1x1x16x64.size a) (x : S1x1x16x64.Idx) :
    View.readAt (Elt F) M.view (Rect.unit (s := S1x1x16x64) ![0, 0, 0, 0] S1x1x16x64.size ho).toLoadRect f x = G (x 2).val (x 3).val := by
  refine (h _).trans ?_
  show G (0 + 1 * (x 2).val) (0 + 1 * (x 3).val) = _
  congr 1 <;> omega
theorem rd_bs (M : Memref sig .tc .vmem S1x1x1x64 .f32) (f : Bf (F := F) c M) (G : ℕ → F .f32) (h : ∀ x, M.view.read (Elt F) f x = G (x 3).val)
    (ho : ∀ a, (![0, 0, 0, 0] : Fin 4 → ℕ) a + S1x1x1x64.size a ≤ S1x1x1x64.size a) (x : S1x1x1x64.Idx) :
    View.readAt (Elt F) M.view (Rect.unit (s := S1x1x1x64) ![0, 0, 0, 0] S1x1x1x64.size ho).toLoadRect f x = G (x 3).val := by
  refine (h _).trans ?_
  show G (0 + 1 * (x 3).val) = _
  congr 1; omega

include hX hDT hZ hS hBT hBS hCT hCS hA hD hB h0 h1 hWB hWC in
set_option pp.maxSteps 200 in
set_option maxHeartbeats 400000 in
theorem wp_point (Q : PUnit → sProp 𝕄) :
    iprop((held c arg2 fx ∗ held c arg3 fdt ∗ held c arg4 fz ∗ held c arg5 fs ∗ held c arg6 fbt ∗ held c arg7 fbs ∗ held c arg8 fct ∗ held c arg9 fcs ∗ held c arg10 fa ∗ held c arg11 fdd ∗ held c arg12 fbi ∗
      (∃ f, held c arg13 f) ∗ held c arg14 fh ∗ (∃ f, held c arg15 f) ∗ (∃ f, held c arg16 f) ∗ (∃ f, held c arg17 f) ∗ (∃ f, held c arg18 f) ∗ (∃ f, held c arg19 f) ∗ (∃ f, held c arg20 f) ∗ (∃ f, held c arg21 f)) ∗
      ((held c arg2 fx ∗ held c arg3 fdt ∗ held c arg4 fz ∗ held c arg5 fs ∗ held c arg6 fbt ∗ held c arg7 fbs ∗ held c arg8 fct ∗ held c arg9 fcs ∗ held c arg10 fa ∗ held c arg11 fdd ∗ held c arg12 fbi ∗
        (∃ f, ⌜YOk W.OUT 16 (arg13.view.read (Elt F) f)⌝ ∗ held c arg13 f) ∗ (∃ f, ⌜HOk (W.HS 64) W.H0 16 0 (arg14.view.read (Elt F) f)⌝ ∗ held c arg14 f) ∗
        (∃ f, held c arg15 f) ∗ (∃ f, held c arg16 f) ∗ (∃ f, held c arg17 f) ∗ (∃ f, held c arg18 f) ∗ (∃ f, held c arg19 f) ∗ (∃ f, held c arg20 f) ∗ (∃ f, held c arg21 f)) -∗ Q ⟨⟩))
      ⊢ wpc c (cc0_mamba_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  rw [cc0_mamba_scan_eq_skeleton]
  unfold wpc cc0_mamba_scan_skel
  simp only [k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  unfold k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel
  iintro ⟨⟨H2, H3, H4, H5, H6, H7, H8, H9, H10, H11, H12, ⟨%fyo, H13⟩, H14, ⟨%f15, H15⟩, ⟨%f16, H16⟩, ⟨%fde, H17⟩, ⟨%fu, H18⟩, ⟨%fxf, H19⟩, ⟨%ft, H20⟩, ⟨%fy, H21⟩⟩, HK⟩
  rw [wp_bind]
  iapply (wp_reset c (i 1) arg14 (W.HS 64) W.H0 fh h0 h1 _ _ _ rfl)
  isplitl [H14]; · iexact H14
  iintro %fh' %hh H14
  dsimp only [wpc]
  sl_exec
  dsimp only
  have e9 : ∀ i : S16x64.Idx, k0_pay241 _ _ i = W.B (i 1).val (i 0).val := fun i =>
    (scaled_apply _ _ BT BS (rd_bt c arg6 fbt BT hBT inb_S1x1x16x64_S1x1x16x64_0_0_0_0) (rd_bs c arg7 fbs BS hBS inb_S1x1x1x64_S1x1x1x64_0_0_0_0) i).1.trans (hWB _ _).symm
  have e16 : ∀ i : S16x64.Idx, k0_pay242 _ _ i = W.C (i 1).val (i 0).val := fun i =>
    (scaled_apply _ _ CT CS (rd_bt c arg8 fct CT hCT inb_S1x1x16x64_S1x1x16x64_0_0_0_0) (rd_bs c arg9 fcs CS hCS inb_S1x1x1x64_S1x1x1x64_0_0_0_0) i).2.trans (hWC _ _).symm
  ihave HB : iprop(∃ f, ⌜FillOk W.B 64 (arg15.view.read (Elt F) f)⌝ ∗ held c arg15 f) $$ [H15]
  · iexists _
    isplitr
    swap; · iexact H15
    ipureintro
    iterate 64 refine fillOk_cons c arg15 _ W.B _ _ _ _ (fun x => col_apply _ W.B e9 _ (by decide) x) ?_
    exact fun y h => absurd h (Nat.not_lt_zero _)
  ihave HC : iprop(∃ f, ⌜FillOk W.C 64 (arg16.view.read (Elt F) f)⌝ ∗ held c arg16 f) $$ [H16]
  · iexists _
    isplitr
    swap; · iexact H16
    ipureintro
    iterate 64 refine fillOk_cons c arg16 _ W.C _ _ _ _ (fun x => col_apply _ W.C e16 _ (by decide) x) ?_
    exact fun y h => absurd h (Nat.not_lt_zero _)
  icases HB with ⟨%fb, %hfb, H15⟩
  icases HC with ⟨%fc, %hfc, H16⟩
  rw [wp_bind]
  iapply (Scf.wp_for frame (wpE (defs₀ (F := F)) Variants.none (c : Thread nD τ) none) Set.univ k0_t1_loop.lb k0_t1_loop.ub k0_t1_loop.st k0_t1_ok ⟨⟩
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 0#32)
    (fun k _ => chunkR c W arg2 arg3 arg4 arg5 arg10 arg11 arg12 arg13 arg14 arg15 arg16 arg17 arg18 arg19 arg20 arg21 fx fdt fz fs fa fdd fbi fb fc k) (by
      intro j acc
      refine BIBase.Entails.trans ?_ (wp_chunk c W i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 fx fdt fz fs fa fdd fbi fb fc hX hDT hZ hS hA hD hB (fun x => hfb x (x 0).isLt) (fun x => hfc x (x 0).isLt) j
        (fun _ => chunkR c W arg2 arg3 arg4 arg5 arg10 arg11 arg12 arg13 arg14 arg15 arg16 arg17 arg18 arg19 arg20 arg21 fx fdt fz fs fa fdd fbi fb fc (j.val + 1)))
      iintro HR
      isplitl [HR]; · iexact HR
      iintro HR; iexact HR))
  isplitl [H2 H3 H4 H5 H10 H11 H12 H13 H14 H15 H16 H17 H18 H19 H20 H21]
  · unfold chunkR
    isplitl [H2]; · iexact H2
    isplitl [H3]; · iexact H3
    isplitl [H4]; · iexact H4
    isplitl [H5]; · iexact H5
    isplitl [H10]; · iexact H10
    isplitl [H11]; · iexact H11
    isplitl [H12]; · iexact H12
    isplitl [H13]
    · iexists _
      isplitr
      swap; · iexact H13
      ipureintro; exact fun y h => absurd h (Nat.not_lt_zero _)
    isplitl [H14]
    · iexists _
      isplitr
      swap; · iexact H14
      ipureintro; exact hh
    isplitl [H15]; · iexact H15
    isplitl [H16]; · iexact H16
    isplitl [H17]; · iexists _; iexact H17
    isplitl [H18]; · iexists _; iexact H18
    isplitl [H19]; · iexists _; iexact H19
    isplitl [H20]; · iexists _; iexact H20
    iexists _; iexact H21
  iintro %acc HR
  rw [show Scf.trips k0_t1_loop.lb k0_t1_loop.ub k0_t1_loop.st = 16 from k0_t1_trips]
  sl_step
  unfold chunkR
  icases HR with ⟨H2, H3, H4, H5, H10, H11, H12, H13, H14, H15, H16, H17, H18, H19, H20, H21⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  isplitl [H19]; · iexact H19
  isplitl [H20]; · iexact H20
  iexact H21
end
end Cert.Proof.Kernel
-- ==== Proof.Kernel.Blocks.lean ====
/- The arrays the region reads, and the blocks the grid stages. -/
module

public import proofs.«01_k».proof.Proof.Kernel.Prologue
public import proofs.«01_k».proof.Proof.Gen.Kernel.Frame
public import Idealize.ShloMosaic.Lib.Exec
public import Idealize.ShloMosaic.Lib.Pointwise.Reshape
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the region reads, as tables of natural indices -/

abbrev ix2 {n₀ n₁ : ℕ} (h₀ : 0 < n₀) (h₁ : 0 < n₁) (a b : ℕ) : (⟨2, ![n₀, n₁]⟩ : Shape).Idx :=
  fun k => match k with | ⟨0, _⟩ => ⟨a % n₀, Nat.mod_lt _ h₀⟩ | ⟨1, _⟩ => ⟨b % n₁, Nat.mod_lt _ h₁⟩
abbrev ix3 {n₀ n₁ n₂ : ℕ} (h₀ : 0 < n₀) (h₁ : 0 < n₁) (h₂ : 0 < n₂) (a b c : ℕ) : (⟨3, ![n₀, n₁, n₂]⟩ : Shape).Idx :=
  fun k => match k with | ⟨0, _⟩ => ⟨a % n₀, Nat.mod_lt _ h₀⟩ | ⟨1, _⟩ => ⟨b % n₁, Nat.mod_lt _ h₁⟩ | ⟨2, _⟩ => ⟨c % n₂, Nat.mod_lt _ h₂⟩
abbrev ix4 {n₀ n₁ n₂ n₃ : ℕ} (h₀ : 0 < n₀) (h₁ : 0 < n₁) (h₂ : 0 < n₂) (h₃ : 0 < n₃) (a b c d : ℕ) : (⟨4, ![n₀, n₁, n₂, n₃]⟩ : Shape).Idx :=
  fun k => match k with | ⟨0, _⟩ => ⟨a % n₀, Nat.mod_lt _ h₀⟩ | ⟨1, _⟩ => ⟨b % n₁, Nat.mod_lt _ h₁⟩ | ⟨2, _⟩ => ⟨c % n₂, Nat.mod_lt _ h₂⟩ | ⟨3, _⟩ => ⟨d % n₃, Nat.mod_lt _ h₃⟩

def aX (c : Dev nD) (b T l : ℕ) : F .fp8e4m3 := (V m c main_arg0 : S2x6144x8192.Idx → F .fp8e4m3) (ix3 (by decide) (by decide) (by decide) b T l)
def aDT (c : Dev nD) (b T l : ℕ) : F .fp8e4m3 := (V m c main_arg2 : S2x6144x8192.Idx → F .fp8e4m3) (ix3 (by decide) (by decide) (by decide) b T l)
def aZ (c : Dev nD) (b T l : ℕ) : F .bf16 := (V m c main_arg8 : S2x6144x8192.Idx → F .bf16) (ix3 (by decide) (by decide) (by decide) b T l)
def aSC (c : Dev nD) (b T k : ℕ) : F .f32 := (V m c main_v8 : S2x6144x4.Idx → F .f32) (ix3 (by decide) (by decide) (by decide) b T k)
def aBT (c : Dev nD) (b T n : ℕ) : F .fp8e4m3 := (V m c main_v10 : S2x96x16x64.Idx → F .fp8e4m3) (ix4 (by decide) (by decide) (by decide) (by decide) b (T / 64) n T)
def aBS (c : Dev nD) (b T : ℕ) : F .f32 := (V m c main_v13 : S2x96x1x64.Idx → F .f32) (ix4 (by decide) (by decide) (by decide) (by decide) b (T / 64) 0 T)
def aCT (c : Dev nD) (b T n : ℕ) : F .fp8e4m3 := (V m c main_v12 : S2x96x16x64.Idx → F .fp8e4m3) (ix4 (by decide) (by decide) (by decide) (by decide) b (T / 64) n T)
def aCS (c : Dev nD) (b T : ℕ) : F .f32 := (V m c main_v14 : S2x96x1x64.Idx → F .f32) (ix4 (by decide) (by decide) (by decide) (by decide) b (T / 64) 0 T)
def aA (c : Dev nD) (n l : ℕ) : F .f32 := (V m c main_v19 : S16x8192.Idx → F .f32) (ix2 (by decide) (by decide) n l)
def aD (c : Dev nD) (l : ℕ) : F .f32 := (V m c main_v20 : S1x8192.Idx → F .f32) (ix2 (by decide) (by decide) 0 l)
def aBI (c : Dev nD) (l : ℕ) : F .f32 := (V m c main_v21 : S1x8192.Idx → F .f32) (ix2 (by decide) (by decide) 0 l)

/-- The whole sequence of batch `b`. -/
def Wg (c : Dev nD) (b : ℕ) : Tabs F where
  X := aX m c b
  DT := aDT m c b
  Z := aZ m c b
  SC := aSC m c b
  A := aA m c
  B T n := FloatOps.mulf (FloatOps.extf .f32 bitsLt_fp8e4m3_f32 (aBT m c b T n)) (aBS m c b T)
  C T n := FloatOps.mulf (FloatOps.extf .f32 bitsLt_fp8e4m3_f32 (aCT m c b T n)) (aCS m c b T)
  H0 _ _ := cZero
  DD := aD m c
  BI := aBI m c

/-- The 64 tokens of grid point `t`. -/
abbrev Wt (c : Dev nD) (t : ℕ) : Tabs F := (Wg m c (t / 96)).from_ (64 * (t % 96))

theorem co_0 : ∀ t : Fin 192, (grid0.coords t 0).val = t.val / 96 := by decide +kernel
theorem co_1 : ∀ t : Fin 192, (grid0.coords t 1).val = t.val % 96 := by decide +kernel
theorem tr_0 : ∀ t : Fin 192, cc0_transform_0 (grid0.coords t) = ![t.val / 96, t.val % 96, 0] := by decide +kernel
theorem tr_1 : ∀ t : Fin 192, cc0_transform_1 (grid0.coords t) = ![t.val / 96, t.val % 96, 0] := by decide +kernel
theorem tr_2 : ∀ t : Fin 192, cc0_transform_2 (grid0.coords t) = ![t.val / 96, t.val % 96, 0] := by decide +kernel
theorem tr_3 : ∀ t : Fin 192, cc0_transform_3 (grid0.coords t) = ![t.val / 96, t.val % 96, 0] := by decide +kernel
theorem tr_4 : ∀ t : Fin 192, cc0_transform_4 (grid0.coords t) = ![t.val / 96, t.val % 96, 0, 0] := by decide +kernel
theorem tr_5 : ∀ t : Fin 192, cc0_transform_5 (grid0.coords t) = ![t.val / 96, t.val % 96, 0, 0] := by decide +kernel
theorem tr_6 : ∀ t : Fin 192, cc0_transform_6 (grid0.coords t) = ![t.val / 96, t.val % 96, 0, 0] := by decide +kernel
theorem tr_7 : ∀ t : Fin 192, cc0_transform_7 (grid0.coords t) = ![t.val / 96, t.val % 96, 0, 0] := by decide +kernel
theorem tr_8 : ∀ t : Fin 192, cc0_transform_8 (grid0.coords t) = ![0, 0] := by decide +kernel
theorem tr_9 : ∀ t : Fin 192, cc0_transform_9 (grid0.coords t) = ![0, 0] := by decide +kernel
theorem tr_10 : ∀ t : Fin 192, cc0_transform_10 (grid0.coords t) = ![0, 0] := by decide +kernel
theorem tr_11 : ∀ t : Fin 192, cc0_transform_11 (grid0.coords t) = ![t.val / 96, t.val % 96, 0] := by decide +kernel
theorem tr_12 : ∀ t : Fin 192, cc0_transform_12 (grid0.coords t) = ![t.val / 96, 0, 0] := by decide +kernel

/-! ## The blocks are the tables -/

set_option maxHeartbeats 400000 in
theorem iblk_0 (c : Dev nD) (t : Fin 192) (x : S1x64x8192.Idx) : (iblk m c 0 t : S1x64x8192.Idx → F .fp8e4m3) x = aX m c (t.val / 96) (64 * (t.val % 96) + (x 1).val) (x 2).val := by
  have ht := t.isLt
  have h0 : (x 0).val < 1 := (x 0).isLt
  have h1 : (x 1).val < 64 := (x 1).isLt
  have h2 : (x 2).val < 8192 := (x 2).isLt
  unfold aX
  show (V m c main_arg0) _ = (V m c main_arg0) _
  refine congrArg _ (funext fun a => Fin.ext ?_)
  match a with
  | ⟨0, _⟩ =>
    show cc0_transform_0 (grid0.coords t) 0 * 1 + 1 * (x 0).val = (t.val / 96) % 2
    rw [tr_0]
    show t.val / 96 * 1 + 1 * (x 0).val = _
    omega
  | ⟨1, _⟩ =>
    show cc0_transform_0 (grid0.coords t) 1 * 64 + 1 * (x 1).val = (64 * (t.val % 96) + (x 1).val) % 6144
    rw [tr_0]
    show t.val % 96 * 64 + 1 * (x 1).val = _
    omega
  | ⟨2, _⟩ =>
    show cc0_transform_0 (grid0.coords t) 2 * 8192 + 1 * (x 2).val = ((x 2).val) % 8192
    rw [tr_0]
    show 0 * 8192 + 1 * (x 2).val = _
    omega
set_option maxHeartbeats 400000 in
theorem iblk_1 (c : Dev nD) (t : Fin 192) (x : S1x64x8192.Idx) : (iblk m c 1 t : S1x64x8192.Idx → F .fp8e4m3) x = aDT m c (t.val / 96) (64 * (t.val % 96) + (x 1).val) (x 2).val := by
  have ht := t.isLt
  have h0 : (x 0).val < 1 := (x 0).isLt
  have h1 : (x 1).val < 64 := (x 1).isLt
  have h2 : (x 2).val < 8192 := (x 2).isLt
  unfold aDT
  show (V m c main_arg2) _ = (V m c main_arg2) _
  refine congrArg _ (funext fun a => Fin.ext ?_)
  match a with
  | ⟨0, _⟩ =>
    show cc0_transform_1 (grid0.coords t) 0 * 1 + 1 * (x 0).val = (t.val / 96) % 2
    rw [tr_1]
    show t.val / 96 * 1 + 1 * (x 0).val = _
    omega
  | ⟨1, _⟩ =>
    show cc0_transform_1 (grid0.coords t) 1 * 64 + 1 * (x 1).val = (64 * (t.val % 96) + (x 1).val) % 6144
    rw [tr_1]
    show t.val % 96 * 64 + 1 * (x 1).val = _
    omega
  | ⟨2, _⟩ =>
    show cc0_transform_1 (grid0.coords t) 2 * 8192 + 1 * (x 2).val = ((x 2).val) % 8192
    rw [tr_1]
    show 0 * 8192 + 1 * (x 2).val = _
    omega
set_option maxHeartbeats 400000 in
theorem iblk_2 (c : Dev nD) (t : Fin 192) (x : S1x64x8192.Idx) : (iblk m c 2 t : S1x64x8192.Idx → F .bf16) x = aZ m c (t.val / 96) (64 * (t.val % 96) + (x 1).val) (x 2).val := by
  have ht := t.isLt
  have h0 : (x 0).val < 1 := (x 0).isLt
  have h1 : (x 1).val < 64 := (x 1).isLt
  have h2 : (x 2).val < 8192 := (x 2).isLt
  unfold aZ
  show (V m c main_arg8) _ = (V m c main_arg8) _
  refine congrArg _ (funext fun a => Fin.ext ?_)
  match a with
  | ⟨0, _⟩ =>
    show cc0_transform_2 (grid0.coords t) 0 * 1 + 1 * (x 0).val = (t.val / 96) % 2
    rw [tr_2]
    show t.val / 96 * 1 + 1 * (x 0).val = _
    omega
  | ⟨1, _⟩ =>
    show cc0_transform_2 (grid0.coords t) 1 * 64 + 1 * (x 1).val = (64 * (t.val % 96) + (x 1).val) % 6144
    rw [tr_2]
    show t.val % 96 * 64 + 1 * (x 1).val = _
    omega
  | ⟨2, _⟩ =>
    show cc0_transform_2 (grid0.coords t) 2 * 8192 + 1 * (x 2).val = ((x 2).val) % 8192
    rw [tr_2]
    show 0 * 8192 + 1 * (x 2).val = _
    omega
set_option maxHeartbeats 400000 in
theorem iblk_3 (c : Dev nD) (t : Fin 192) (x : S1x64x4.Idx) : (iblk m c 3 t : S1x64x4.Idx → F .f32) x = aSC m c (t.val / 96) (64 * (t.val % 96) + (x 1).val) (x 2).val := by
  have ht := t.isLt
  have h0 : (x 0).val < 1 := (x 0).isLt
  have h1 : (x 1).val < 64 := (x 1).isLt
  have h2 : (x 2).val < 4 := (x 2).isLt
  unfold aSC
  show (V m c main_v8) _ = (V m c main_v8) _
  refine congrArg _ (funext fun a => Fin.ext ?_)
  match a with
  | ⟨0, _⟩ =>
    show cc0_transform_3 (grid0.coords t) 0 * 1 + 1 * (x 0).val = (t.val / 96) % 2
    rw [tr_3]
    show t.val / 96 * 1 + 1 * (x 0).val = _
    omega
  | ⟨1, _⟩ =>
    show cc0_transform_3 (grid0.coords t) 1 * 64 + 1 * (x 1).val = (64 * (t.val % 96) + (x 1).val) % 6144
    rw [tr_3]
    show t.val % 96 * 64 + 1 * (x 1).val = _
    omega
  | ⟨2, _⟩ =>
    show cc0_transform_3 (grid0.coords t) 2 * 4 + 1 * (x 2).val = ((x 2).val) % 4
    rw [tr_3]
    show 0 * 4 + 1 * (x 2).val = _
    omega
set_option maxHeartbeats 400000 in
theorem iblk_4 (c : Dev nD) (t : Fin 192) (x : S1x1x16x64.Idx) : (iblk m c 4 t : S1x1x16x64.Idx → F .fp8e4m3) x = aBT m c (t.val / 96) (64 * (t.val % 96) + (x 3).val) (x 2).val := by
  have ht := t.isLt
  have h0 : (x 0).val < 1 := (x 0).isLt
  have h1 : (x 1).val < 1 := (x 1).isLt
  have h2 : (x 2).val < 16 := (x 2).isLt
  have h3 : (x 3).val < 64 := (x 3).isLt
  unfold aBT
  show (V m c main_v10) _ = (V m c main_v10) _
  refine congrArg _ (funext fun a => Fin.ext ?_)
  match a with
  | ⟨0, _⟩ =>
    show cc0_transform_4 (grid0.coords t) 0 * 1 + 1 * (x 0).val = (t.val / 96) % 2
    rw [tr_4]
    show t.val / 96 * 1 + 1 * (x 0).val = _
    omega
  | ⟨1, _⟩ =>
    show cc0_transform_4 (grid0.coords t) 1 * 1 + 1 * (x 1).val = ((64 * (t.val % 96) + (x 3).val) / 64) % 96
    rw [tr_4]
    show t.val % 96 * 1 + 1 * (x 1).val = _
    omega
  | ⟨2, _⟩ =>
    show cc0_transform_4 (grid0.coords t) 2 * 16 + 1 * (x 2).val = ((x 2).val) % 16
    rw [tr_4]
    show 0 * 16 + 1 * (x 2).val = _
    omega
  | ⟨3, _⟩ =>
    show cc0_transform_4 (grid0.coords t) 3 * 64 + 1 * (x 3).val = (64 * (t.val % 96) + (x 3).val) % 64
    rw [tr_4]
    show 0 * 64 + 1 * (x 3).val = _
    omega
set_option maxHeartbeats 400000 in
theorem iblk_5 (c : Dev nD) (t : Fin 192) (x : S1x1x1x64.Idx) : (iblk m c 5 t : S1x1x1x64.Idx → F .f32) x = aBS m c (t.val / 96) (64 * (t.val % 96) + (x 3).val) := by
  have ht := t.isLt
  have h0 : (x 0).val < 1 := (x 0).isLt
  have h1 : (x 1).val < 1 := (x 1).isLt
  have h2 : (x 2).val < 1 := (x 2).isLt
  have h3 : (x 3).val < 64 := (x 3).isLt
  unfold aBS
  show (V m c main_v13) _ = (V m c main_v13) _
  refine congrArg _ (funext fun a => Fin.ext ?_)
  match a with
  | ⟨0, _⟩ =>
    show cc0_transform_5 (grid0.coords t) 0 * 1 + 1 * (x 0).val = (t.val / 96) % 2
    rw [tr_5]
    show t.val / 96 * 1 + 1 * (x 0).val = _
    omega
  | ⟨1, _⟩ =>
    show cc0_transform_5 (grid0.coords t) 1 * 1 + 1 * (x 1).val = ((64 * (t.val % 96) + (x 3).val) / 64) % 96
    rw [tr_5]
    show t.val % 96 * 1 + 1 * (x 1).val = _
    omega
  | ⟨2, _⟩ =>
    show cc0_transform_5 (grid0.coords t) 2 * 1 + 1 * (x 2).val = (0) % 1
    rw [tr_5]
    show 0 * 1 + 1 * (x 2).val = _
    omega
  | ⟨3, _⟩ =>
    show cc0_transform_5 (grid0.coords t) 3 * 64 + 1 * (x 3).val = (64 * (t.val % 96) + (x 3).val) % 64
    rw [tr_5]
    show 0 * 64 + 1 * (x 3).val = _
    omega
set_option maxHeartbeats 400000 in
theorem iblk_6 (c : Dev nD) (t : Fin 192) (x : S1x1x16x64.Idx) : (iblk m c 6 t : S1x1x16x64.Idx → F .fp8e4m3) x = aCT m c (t.val / 96) (64 * (t.val % 96) + (x 3).val) (x 2).val := by
  have ht := t.isLt
  have h0 : (x 0).val < 1 := (x 0).isLt
  have h1 : (x 1).val < 1 := (x 1).isLt
  have h2 : (x 2).val < 16 := (x 2).isLt
  have h3 : (x 3).val < 64 := (x 3).isLt
  unfold aCT
  show (V m c main_v12) _ = (V m c main_v12) _
  refine congrArg _ (funext fun a => Fin.ext ?_)
  match a with
  | ⟨0, _⟩ =>
    show cc0_transform_6 (grid0.coords t) 0 * 1 + 1 * (x 0).val = (t.val / 96) % 2
    rw [tr_6]
    show t.val / 96 * 1 + 1 * (x 0).val = _
    omega
  | ⟨1, _⟩ =>
    show cc0_transform_6 (grid0.coords t) 1 * 1 + 1 * (x 1).val = ((64 * (t.val % 96) + (x 3).val) / 64) % 96
    rw [tr_6]
    show t.val % 96 * 1 + 1 * (x 1).val = _
    omega
  | ⟨2, _⟩ =>
    show cc0_transform_6 (grid0.coords t) 2 * 16 + 1 * (x 2).val = ((x 2).val) % 16
    rw [tr_6]
    show 0 * 16 + 1 * (x 2).val = _
    omega
  | ⟨3, _⟩ =>
    show cc0_transform_6 (grid0.coords t) 3 * 64 + 1 * (x 3).val = (64 * (t.val % 96) + (x 3).val) % 64
    rw [tr_6]
    show 0 * 64 + 1 * (x 3).val = _
    omega
set_option maxHeartbeats 400000 in
theorem iblk_7 (c : Dev nD) (t : Fin 192) (x : S1x1x1x64.Idx) : (iblk m c 7 t : S1x1x1x64.Idx → F .f32) x = aCS m c (t.val / 96) (64 * (t.val % 96) + (x 3).val) := by
  have ht := t.isLt
  have h0 : (x 0).val < 1 := (x 0).isLt
  have h1 : (x 1).val < 1 := (x 1).isLt
  have h2 : (x 2).val < 1 := (x 2).isLt
  have h3 : (x 3).val < 64 := (x 3).isLt
  unfold aCS
  show (V m c main_v14) _ = (V m c main_v14) _
  refine congrArg _ (funext fun a => Fin.ext ?_)
  match a with
  | ⟨0, _⟩ =>
    show cc0_transform_7 (grid0.coords t) 0 * 1 + 1 * (x 0).val = (t.val / 96) % 2
    rw [tr_7]
    show t.val / 96 * 1 + 1 * (x 0).val = _
    omega
  | ⟨1, _⟩ =>
    show cc0_transform_7 (grid0.coords t) 1 * 1 + 1 * (x 1).val = ((64 * (t.val % 96) + (x 3).val) / 64) % 96
    rw [tr_7]
    show t.val % 96 * 1 + 1 * (x 1).val = _
    omega
  | ⟨2, _⟩ =>
    show cc0_transform_7 (grid0.coords t) 2 * 1 + 1 * (x 2).val = (0) % 1
    rw [tr_7]
    show 0 * 1 + 1 * (x 2).val = _
    omega
  | ⟨3, _⟩ =>
    show cc0_transform_7 (grid0.coords t) 3 * 64 + 1 * (x 3).val = (64 * (t.val % 96) + (x 3).val) % 64
    rw [tr_7]
    show 0 * 64 + 1 * (x 3).val = _
    omega
set_option maxHeartbeats 400000 in
theorem iblk_8 (c : Dev nD) (t : Fin 192) (x : S16x8192.Idx) : (iblk m c 8 t : S16x8192.Idx → F .f32) x = aA m c (x 0).val (x 1).val := by
  have ht := t.isLt
  have h0 : (x 0).val < 16 := (x 0).isLt
  have h1 : (x 1).val < 8192 := (x 1).isLt
  unfold aA
  show (V m c main_v19) _ = (V m c main_v19) _
  refine congrArg _ (funext fun a => Fin.ext ?_)
  match a with
  | ⟨0, _⟩ =>
    show cc0_transform_8 (grid0.coords t) 0 * 16 + 1 * (x 0).val = ((x 0).val) % 16
    rw [tr_8]
    show 0 * 16 + 1 * (x 0).val = _
    omega
  | ⟨1, _⟩ =>
    show cc0_transform_8 (grid0.coords t) 1 * 8192 + 1 * (x 1).val = ((x 1).val) % 8192
    rw [tr_8]
    show 0 * 8192 + 1 * (x 1).val = _
    omega
set_option maxHeartbeats 400000 in
theorem iblk_9 (c : Dev nD) (t : Fin 192) (x : S1x8192.Idx) : (iblk m c 9 t : S1x8192.Idx → F .f32) x = aD m c (x 1).val := by
  have ht := t.isLt
  have h0 : (x 0).val < 1 := (x 0).isLt
  have h1 : (x 1).val < 8192 := (x 1).isLt
  unfold aD
  show (V m c main_v20) _ = (V m c main_v20) _
  refine congrArg _ (funext fun a => Fin.ext ?_)
  match a with
  | ⟨0, _⟩ =>
    show cc0_transform_9 (grid0.coords t) 0 * 1 + 1 * (x 0).val = (0) % 1
    rw [tr_9]
    show 0 * 1 + 1 * (x 0).val = _
    omega
  | ⟨1, _⟩ =>
    show cc0_transform_9 (grid0.coords t) 1 * 8192 + 1 * (x 1).val = ((x 1).val) % 8192
    rw [tr_9]
    show 0 * 8192 + 1 * (x 1).val = _
    omega
set_option maxHeartbeats 400000 in
theorem iblk_10 (c : Dev nD) (t : Fin 192) (x : S1x8192.Idx) : (iblk m c 10 t : S1x8192.Idx → F .f32) x = aBI m c (x 1).val := by
  have ht := t.isLt
  have h0 : (x 0).val < 1 := (x 0).isLt
  have h1 : (x 1).val < 8192 := (x 1).isLt
  unfold aBI
  show (V m c main_v21) _ = (V m c main_v21) _
  refine congrArg _ (funext fun a => Fin.ext ?_)
  match a with
  | ⟨0, _⟩ =>
    show cc0_transform_10 (grid0.coords t) 0 * 1 + 1 * (x 0).val = (0) % 1
    rw [tr_10]
    show 0 * 1 + 1 * (x 0).val = _
    omega
  | ⟨1, _⟩ =>
    show cc0_transform_10 (grid0.coords t) 1 * 8192 + 1 * (x 1).val = ((x 1).val) % 8192
    rw [tr_10]
    show 0 * 8192 + 1 * (x 1).val = _
    omega

end Cert.Proof.Kernel
-- ==== Proof.Kernel.Run.lean ====
/- The arrays the region reads, and the blocks the grid stages. -/
module

public import proofs.«01_k».proof.Proof.Kernel.Blocks
public import proofs.«01_k».proof.Proof.Gen.Kernel.Frame
public import Idealize.ShloMosaic.Lib.Claim
public import Idealize.ShloMosaic.Lib.Exec
public import Idealize.ShloMosaic.Lib.Pointwise.Reshape
public import Idealize.ShloMosaic.Lib.Tactic
public import Idealize.ShloMosaic.Lib.Pipeline.Kit

@[expose] public section

set_option maxRecDepth 16384

noncomputable section

namespace Cert.Proof.Kernel

open Cert.Kernel Cert.Kernel.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each staging buffer holds after the body at a grid point: an input its block, the results the specification's
    values at the point's 64 tokens and the state after them. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (fun x => (Wt m c t.val).OUT (x 1).val (x 2).val : S1x64x8192.Idx → F .bf16)
    | ⟨12, _⟩ => (fun x => (Wt m c t.val).HS 64 (x 1).val (x 2).val : S1x16x8192.Idx → F .f32)
  Φ _ := Pipeline.ΦA spec0 c
  q _ := fullShare
  owed _ := 0

abbrev dats : (p : Fin 1) → (c : Dev nD) → Dat τ (Elt F) Unit ℕ (UR sig nD τ) ℕ (cfgs p) c := fun | 0 => fun c => dat0 m c

theorem A_eq0 (c : Dev nD) (w : Fin cfg0.W) : (dat0 m c).A w = V m c (Pipeline.arrRef spec0 w) := by dsimp only [dat0]

theorem after_0 (c : Dev nD) (t : Fin cfg0.N) : (dat0 m c).after 0 t = iblk m c 0 t := by dsimp only [dat0]
theorem after_1 (c : Dev nD) (t : Fin cfg0.N) : (dat0 m c).after 1 t = iblk m c 1 t := by dsimp only [dat0]
theorem after_2 (c : Dev nD) (t : Fin cfg0.N) : (dat0 m c).after 2 t = iblk m c 2 t := by dsimp only [dat0]
theorem after_3 (c : Dev nD) (t : Fin cfg0.N) : (dat0 m c).after 3 t = iblk m c 3 t := by dsimp only [dat0]
theorem after_4 (c : Dev nD) (t : Fin cfg0.N) : (dat0 m c).after 4 t = iblk m c 4 t := by dsimp only [dat0]
theorem after_5 (c : Dev nD) (t : Fin cfg0.N) : (dat0 m c).after 5 t = iblk m c 5 t := by dsimp only [dat0]
theorem after_6 (c : Dev nD) (t : Fin cfg0.N) : (dat0 m c).after 6 t = iblk m c 6 t := by dsimp only [dat0]
theorem after_7 (c : Dev nD) (t : Fin cfg0.N) : (dat0 m c).after 7 t = iblk m c 7 t := by dsimp only [dat0]
theorem after_8 (c : Dev nD) (t : Fin cfg0.N) : (dat0 m c).after 8 t = iblk m c 8 t := by dsimp only [dat0]
theorem after_9 (c : Dev nD) (t : Fin cfg0.N) : (dat0 m c).after 9 t = iblk m c 9 t := by dsimp only [dat0]
theorem after_10 (c : Dev nD) (t : Fin cfg0.N) : (dat0 m c).after 10 t = iblk m c 10 t := by dsimp only [dat0]
theorem after_11 (c : Dev nD) (t : Fin cfg0.N) : (dat0 m c).after 11 t = (fun x => (Wt m c t.val).OUT (x 1).val (x 2).val : S1x64x8192.Idx → F .bf16) := by dsimp only [dat0]
theorem after_12 (c : Dev nD) (t : Fin cfg0.N) : (dat0 m c).after 12 t = (fun x => (Wt m c t.val).HS 64 (x 1).val (x 2).val : S1x16x8192.Idx → F .f32) := by dsimp only [dat0]

theorem before_0 (c : Dev nD) (t : Fin cfg0.N) (d) : (dat0 m c).before 0 t d = iblk m c 0 t := before0_0_of m (dat0 m c) (A_eq0 m c 0) (after_0 m c) t d
theorem before_1 (c : Dev nD) (t : Fin cfg0.N) (d) : (dat0 m c).before 1 t d = iblk m c 1 t := before0_1_of m (dat0 m c) (A_eq0 m c 1) (after_1 m c) t d
theorem before_2 (c : Dev nD) (t : Fin cfg0.N) (d) : (dat0 m c).before 2 t d = iblk m c 2 t := before0_2_of m (dat0 m c) (A_eq0 m c 2) (after_2 m c) t d
theorem before_3 (c : Dev nD) (t : Fin cfg0.N) (d) : (dat0 m c).before 3 t d = iblk m c 3 t := before0_3_of m (dat0 m c) (A_eq0 m c 3) (after_3 m c) t d
theorem before_4 (c : Dev nD) (t : Fin cfg0.N) (d) : (dat0 m c).before 4 t d = iblk m c 4 t := before0_4_of m (dat0 m c) (A_eq0 m c 4) (after_4 m c) t d
theorem before_5 (c : Dev nD) (t : Fin cfg0.N) (d) : (dat0 m c).before 5 t d = iblk m c 5 t := before0_5_of m (dat0 m c) (A_eq0 m c 5) (after_5 m c) t d
theorem before_6 (c : Dev nD) (t : Fin cfg0.N) (d) : (dat0 m c).before 6 t d = iblk m c 6 t := before0_6_of m (dat0 m c) (A_eq0 m c 6) (after_6 m c) t d
theorem before_7 (c : Dev nD) (t : Fin cfg0.N) (d) : (dat0 m c).before 7 t d = iblk m c 7 t := before0_7_of m (dat0 m c) (A_eq0 m c 7) (after_7 m c) t d
theorem before_8 (c : Dev nD) (t : Fin cfg0.N) (d) : (dat0 m c).before 8 t d = iblk m c 8 t := before0_8_of m (dat0 m c) (A_eq0 m c 8) (after_8 m c) t d
theorem before_9 (c : Dev nD) (t : Fin cfg0.N) (d) : (dat0 m c).before 9 t d = iblk m c 9 t := before0_9_of m (dat0 m c) (A_eq0 m c 9) (after_9 m c) t d
theorem before_10 (c : Dev nD) (t : Fin cfg0.N) (d) : (dat0 m c).before 10 t d = iblk m c 10 t := before0_10_of m (dat0 m c) (A_eq0 m c 10) (after_10 m c) t d

/-- The state a later point of a batch finds is the one the point before left. -/
theorem before_12 (c : Dev nD) (t : Fin cfg0.N) (ht : t.val % 96 ≠ 0) (d) (x : S1x16x8192.Idx) :
    ((dat0 m c).before 12 t d : S1x16x8192.Idx → F .f32) x = (Wg m c (t.val / 96)).HS (64 * (t.val % 96)) (x 1).val (x 2).val := by
  have h0 : t.val ≠ 0 := fun h => ht (by rw [h])
  have e := Dat.before_out_kept (dat := dat0 m c) 12 rfl t h0 (Bool.eq_false_iff.mpr fun h => by
    have := (flush0_12 _).mp h
    dsimp only at this
    omega) (fun _ => rfl) (fun _ _ => rfl) d
  rw [e, after_12]
  show (Wt m c (t.val - 1)).HS 64 _ _ = _
  rw [Tabs.from_HS, show (t.val - 1) / 96 = t.val / 96 from by omega, show 64 * ((t.val - 1) % 96) + 64 = 64 * (t.val % 96) from by omega]

theorem held_whole (c : Dev nD) (b : Ref sig .tc) (f : Buf (Elt F) ((c : Thread nD τ).loc b)) :
    (held c (Memref.whole b) f : sProp 𝕄) = (((c : Thread nD τ).loc b) ↦{fullShare} f) := by
  show (((c : Thread nD τ).loc b) ↦[(View.whole b : View sig .tc _ _ _).set]{fullShare} f : sProp 𝕄) = _
  rw [View.set_whole]

/-! ## The body at a grid point -/

def bodyPre (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d))
    ∗ (∃ d, owns (c : Thread nD τ) (st0_6 t) fullShare ((dat0 m c).before 6 t d))
    ∗ (∃ d, owns (c : Thread nD τ) (st0_7 t) fullShare ((dat0 m c).before 7 t d))
    ∗ (∃ d, owns (c : Thread nD τ) (st0_8 t) fullShare ((dat0 m c).before 8 t d))
    ∗ (∃ d, owns (c : Thread nD τ) (st0_9 t) fullShare ((dat0 m c).before 9 t d))
    ∗ (∃ d, owns (c : Thread nD τ) (st0_10 t) fullShare ((dat0 m c).before 10 t d))
    ∗ (∃ d, owns (c : Thread nD τ) (st0_11 t) fullShare ((dat0 m c).before 11 t d))
    ∗ (∃ d, owns (c : Thread nD τ) (st0_12 t) fullShare ((dat0 m c).before 12 t d)))

def bodyPost (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t)
    ∗ owns (c : Thread nD τ) (st0_6 t) fullShare ((dat0 m c).after 6 t)
    ∗ owns (c : Thread nD τ) (st0_7 t) fullShare ((dat0 m c).after 7 t)
    ∗ owns (c : Thread nD τ) (st0_8 t) fullShare ((dat0 m c).after 8 t)
    ∗ owns (c : Thread nD τ) (st0_9 t) fullShare ((dat0 m c).after 9 t)
    ∗ owns (c : Thread nD τ) (st0_10 t) fullShare ((dat0 m c).after 10 t)
    ∗ owns (c : Thread nD τ) (st0_11 t) fullShare ((dat0 m c).after 11 t)
    ∗ owns (c : Thread nD τ) (st0_12 t) fullShare ((dat0 m c).after 12 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dat0 m c).Φ t.succ = Pipeline.ΦA spec0 c from rfl, show (dat0 m c).Φ t.castSucc = Pipeline.ΦA spec0 c from rfl,
    show (dat0 m c).owesAt () t.succ = (dat0 m c).owesAt () t.castSucc from rfl,
    after_0, after_1, after_2, after_3, after_4, after_5, after_6, after_7, after_8, after_9, after_10, after_11, after_12]
  unfold Pipeline.ΦA
  rw [scopedRest0_eq]
  simp only [← held_whole]
  unfold owns
  iintro ⟨⟨⟨S0, S1, S2, S3, S4, S5, S6⟩, HP⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  have hN : t.val < 192 := t.isLt
  iapply (wp_point c (Wt m c t.val) (fun n T => aBT m c (t.val / 96) (64 * (t.val % 96) + T) n) (fun n T => aCT m c (t.val / 96) (64 * (t.val % 96) + T) n)
    (fun T => aBS m c (t.val / 96) (64 * (t.val % 96) + T)) (fun T => aCS m c (t.val / 96) (64 * (t.val % 96) + T)) (grid0.coords t)
    (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    f0 f1 f2 f3 f4 f5 f6 f7 f8 f9 f10 f12
    (fun x => (congrFun hf0 x).trans (iblk_0 m c t x))
    (fun x => (congrFun hf1 x).trans (iblk_1 m c t x))
    (fun x => (congrFun hf2 x).trans (iblk_2 m c t x))
    (fun x => (congrFun hf3 x).trans (iblk_3 m c t x))
    (fun x => (congrFun hf4 x).trans (iblk_4 m c t x))
    (fun x => (congrFun hf5 x).trans (iblk_5 m c t x))
    (fun x => (congrFun hf6 x).trans (iblk_6 m c t x))
    (fun x => (congrFun hf7 x).trans (iblk_7 m c t x))
    (fun x => (congrFun hf8 x).trans (iblk_8 m c t x))
    (fun x => (congrFun hf9 x).trans (iblk_9 m c t x))
    (fun x => (congrFun hf10 x).trans (iblk_10 m c t x))
    (fun h n l => by
      have h' : t.val % 96 = 0 := (co_1 t).symm.trans h
      show (Wg m c (t.val / 96)).HS (64 * (t.val % 96)) n l = _
      rw [h']; rfl)
    (fun h y => (congrFun hf12 y).trans (before_12 m c t (fun e => h ((co_1 t).trans e)) _ y))
    (fun _ _ => rfl) (fun _ _ => rfl))
  isplitl [S0 S1 S2 S3 S4 S5 S6 H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, ⟨%fy, %hy, H11⟩, ⟨%fh, %hh, H12⟩, S0, S1, S2, S3, S4, S5, S6⟩
  isplitl [S0 S1 S2 S3 S4 S5 S6 HP]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact HP
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists fy; isplitr
    · ipureintro; exact funext fun y => hy y (y 2).isLt
    iexact H11
  iexists fh; isplitr
  · ipureintro; exact funext fun y => (hh y).1 (Or.inl (y 2).isLt)
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat0 (F := F) m c) (defs₀ (F := F)) Variants.none () Set.univ := fun t => by
  rw [bigSep_W0, bigSep_W0, defs₀_row]
  exact triple_restated (sound_body m c t) rfl .rfl fun _ => .rfl

/-! ## The run -/

/-- Every run ends with each array at the contents the proof data name, and the machine at rest. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) 0 launch0 defs₀ Variants.none m ρ main
    (hbody := fun c => Idealize.ShloMosaic.Pipeline.BodyObligation.loose _ (body_obligation m c)) (hshare := fun c w => by fin_cases w <;> rfl) (howed := fun _ _ => rfl) (V := V m)
    (hmain := hmain m Variants.none) (hA := fun c w => A_eq0 m c w) (hΦ := fun _ _ => rfl) (Q' := _) (hQ' := fun _ h => h)

theorem run_frame : θ_run defs (onTc (τ := τ) (main (F := F))) ⟨m, fun _ => 0, ρ⟩ (Pipeline.FramePost cfgs (dats m) 0 (V m)) :=
  (θ_run defs _ _).mono (fun _ h => (h : _ ∧ _).1) (run_main m ρ)

/-- Every run ends with the arguments unchanged and the machine at rest. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨h.2, h.1.2⟩)
    (θ_run_and (run_main m ρ) (frame_of m ρ (dats m) (fun c w => A_eq0 m c w) (run_frame m ρ)))

end Cert.Proof.Kernel
-- ==== Proof.KernelIdeal.Regular.lean ====
/- The kernel's group trip written regularly: eight tokens of four lane blocks each, then the four column sums. -/
module

public import proofs.«01_k».proof.Proof.Gen.KernelIdeal.Skeleton

@[expose] public section

set_option maxRecDepth 65536

noncomputable section

namespace Cert.Proof.KernelIdeal

open Cert.KernelIdeal Cert.KernelIdeal.Gen
open Idealize.ShloMosaic Idealize.SL.Sem

variable {F : FTy → Type} [FloatOps F] [Named F]

/-- The rectangle of `yb` that token `t` of a group writes in lane block `k`: rows `25 t + 3 n`. -/
theorem ybRow_inb (k t : ℕ) (hk : k < 4) (ht : t < 8) :
    ∀ a, S1x8x128.size a = 0 ∨ (![k, 25 * t, 0] : Fin 3 → Nat) a + (![1, 3, 1] : Fin 3 → Nat) a * (S1x8x128.size a - 1) < S4x200x128.size a := by
  intro a
  match a with
  | ⟨0, _⟩ => right; show k + 1 * 0 < 4; omega
  | ⟨1, _⟩ => right; show 25 * t + 3 * 7 < 200; omega
  | ⟨2, _⟩ => right; show 0 + 1 * 127 < 128; omega

/-- The rectangle of `yb` that the sum over state row `n` reads in lane block `k`: rows `25 t + 3 n`, all tokens. -/
theorem ybCol_inb (k n : ℕ) (hk : k < 4) (hn : n < 8) :
    ∀ a, S1x8x128.size a = 0 ∨ (![k, 3 * n, 0] : Fin 3 → Nat) a + (![1, 25, 1] : Fin 3 → Nat) a * (S1x8x128.size a - 1) < S4x200x128.size a := by
  intro a
  match a with
  | ⟨0, _⟩ => right; show k + 1 * 0 < 4; omega
  | ⟨1, _⟩ => right; show 3 * n + 25 * 7 < 200; omega
  | ⟨2, _⟩ => right; show 0 + 1 * 127 < 128; omega

/-- The rectangle of a token's write. -/
abbrev ybRow (k t : ℕ) (hk : k < 4) (ht : t < 8) : LoadRect S4x200x128 := ⟨![k, 25 * t, 0], S1x8x128.size, ![1, 3, 1], ybRow_inb k t hk ht⟩
/-- The rectangle of a column's read. -/
abbrev ybCol (k n : ℕ) (hk : k < 4) (hn : n < 8) : LoadRect S4x200x128 := ⟨![k, 3 * n, 0], S1x8x128.size, ![1, 25, 1], ybCol_inb k n hk hn⟩

/-- One token in one lane block: the decay and the input row, the two halves of `B` and `C`, the new state halves,
    and the token's products written to `yb`. -/
def cell (bb cb : Memref sig .tc .vmem S64x16x128 .f32) (de u : Memref sig .tc .vmem S4x64x128 .f32) (yb : Memref sig .tc .vmem S4x200x128 .f32)
    (k t : ℕ) (hk : k < 4) (ht : t < 8)
    (od : Fin 3 → Nat) (hd : ∀ a, od a + S1x1x128.size a ≤ S4x64x128.size a)
    (ol : Fin 3 → Nat) (hl : ∀ a, ol a + S1x8x128.size a ≤ S64x16x128.size a)
    (oh : Fin 3 → Nat) (hh : ∀ a, oh a + S1x8x128.size a ≤ S64x16x128.size a)
    (aLo aHi : FVec F S8x128 .f32) (h : FVec F S8x128 .f32 × FVec F S8x128 .f32) :
    Prog (TpuEff nD τ sig (Elt F) Λ₀ .tc) (FVec F S8x128 .f32 × FVec F S8x128 .f32) := do
  let vd : Vec F S1x1x128 .f32 ← Prog.lift (.load de (Rect.unit (s := S4x64x128) od S1x1x128.size hd).toLoadRect (View.loadsAt_vmem h_S1x1x128))
  let vu : Vec F S1x1x128 .f32 ← Prog.lift (.load u (Rect.unit (s := S4x64x128) od S1x1x128.size hd).toLoadRect (View.loadsAt_vmem h_S1x1x128))
  let bl : Vec F S1x8x128 .f32 ← Prog.lift (.load bb (Rect.unit (s := S64x16x128) ol S1x8x128.size hl).toLoadRect (View.loadsAt_vmem h_S1x8x128))
  let cl : Vec F S1x8x128 .f32 ← Prog.lift (.load cb (Rect.unit (s := S64x16x128) ol S1x8x128.size hl).toLoadRect (View.loadsAt_vmem h_S1x8x128))
  let bh : Vec F S1x8x128 .f32 ← Prog.lift (.load bb (Rect.unit (s := S64x16x128) oh S1x8x128.size hh).toLoadRect (View.loadsAt_vmem h_S1x8x128))
  let ch : Vec F S1x8x128 .f32 ← Prog.lift (.load cb (Rect.unit (s := S64x16x128) oh S1x8x128.size hh).toLoadRect (View.loadsAt_vmem h_S1x8x128))
  let _w : Vec F S1x8x128 .f32 ← Prog.lift (.load yb (ybRow k t hk ht) (View.loadsAt_vmem h_S1x8x128))
  Prog.lift (.store yb ⟨ybRow k t hk ht, spos_1_3_1⟩ (k0_pay8 (k0_pay5 aLo h.1 vd vu bl cl) (k0_pay6 aHi h.2 vd vu bh) (k0_pay7 ch)) Finset.univ (View.stores_vmem_bits_univ h_S1x8x128 rfl) (.inl rfl))
  pure (k0_pay4 aLo h.1 vd vu bl, k0_pay6 aHi h.2 vd vu bh)

/-- Eight state halves: low and high rows of each lane block. -/
abbrev St (F : FTy → Type) : Type := FVec F S8x128 .f32 × FVec F S8x128 .f32 × FVec F S8x128 .f32 × FVec F S8x128 .f32 × FVec F S8x128 .f32 × FVec F S8x128 .f32 × FVec F S8x128 .f32 × FVec F S8x128 .f32

/-- One token: its four lane blocks. -/
def token (bb cb : Memref sig .tc .vmem S64x16x128 .f32) (de u : Memref sig .tc .vmem S4x64x128 .f32) (yb : Memref sig .tc .vmem S4x200x128 .f32)
    (g : Fin k0_t2_loop.trips) (t : Fin 8) (a h : St F) : Prog (TpuEff nD τ sig (Elt F) Λ₀ .tc) (St F) := do
  let p0 ← cell bb cb de u yb 0 t.val (by decide) t.isLt _ (k0_off7_inb g t) _ (k0_off8_inb g t) _ (k0_off9_inb g t) a.1 a.2.1 (h.1, h.2.1)
  let p1 ← cell bb cb de u yb 1 t.val (by decide) t.isLt _ (k0_off10_inb g t) _ (k0_off8_inb g t) _ (k0_off9_inb g t) a.2.2.1 a.2.2.2.1 (h.2.2.1, h.2.2.2.1)
  let p2 ← cell bb cb de u yb 2 t.val (by decide) t.isLt _ (k0_off11_inb g t) _ (k0_off8_inb g t) _ (k0_off9_inb g t) a.2.2.2.2.1 a.2.2.2.2.2.1 (h.2.2.2.2.1, h.2.2.2.2.2.1)
  let p3 ← cell bb cb de u yb 3 t.val (by decide) t.isLt _ (k0_off12_inb g t) _ (k0_off8_inb g t) _ (k0_off9_inb g t) a.2.2.2.2.2.2.1 a.2.2.2.2.2.2.2 (h.2.2.2.2.2.2.1, h.2.2.2.2.2.2.2)
  pure (p0.1, p0.2, p1.1, p1.2, p2.1, p2.2, p3.1, p3.2)

/-- One lane block's column sums, into `yt`. -/
def column (yb : Memref sig .tc .vmem S4x200x128 .f32) (yt : Memref sig .tc .vmem S64x512 .f32) (k : ℕ) (hk : k < 4)
    (o : Fin 2 → Nat) (ho : ∀ a, o a + S8x128.size a ≤ S64x512.size a) : Prog (TpuEff nD τ sig (Elt F) Λ₀ .tc) PUnit := do
  let r0 : Vec F S1x8x128 .f32 ← Prog.lift (.load yb (ybCol k 0 hk (by decide)) (View.loadsAt_vmem h_S1x8x128))
  let r1 : Vec F S1x8x128 .f32 ← Prog.lift (.load yb (ybCol k 1 hk (by decide)) (View.loadsAt_vmem h_S1x8x128))
  let r2 : Vec F S1x8x128 .f32 ← Prog.lift (.load yb (ybCol k 2 hk (by decide)) (View.loadsAt_vmem h_S1x8x128))
  let r3 : Vec F S1x8x128 .f32 ← Prog.lift (.load yb (ybCol k 3 hk (by decide)) (View.loadsAt_vmem h_S1x8x128))
  let r4 : Vec F S1x8x128 .f32 ← Prog.lift (.load yb (ybCol k 4 hk (by decide)) (View.loadsAt_vmem h_S1x8x128))
  let r5 : Vec F S1x8x128 .f32 ← Prog.lift (.load yb (ybCol k 5 hk (by decide)) (View.loadsAt_vmem h_S1x8x128))
  let r6 : Vec F S1x8x128 .f32 ← Prog.lift (.load yb (ybCol k 6 hk (by decide)) (View.loadsAt_vmem h_S1x8x128))
  let r7 : Vec F S1x8x128 .f32 ← Prog.lift (.load yb (ybCol k 7 hk (by decide)) (View.loadsAt_vmem h_S1x8x128))
  let _w : Vec F S8x128 .f32 ← Prog.lift (.load yt (Rect.unit (s := S64x512) o S8x128.size ho).toLoadRect (View.loadsAt_vmem h_S8x128))
  Prog.lift (.store yt (Rect.unit (s := S64x512) o S8x128.size ho) (k0_pay198 r0 r1 r2 r3 r4 r5 r6 r7) Finset.univ (View.stores_vmem_bits_univ h_S8x128 rfl) (.inl rfl))

/-- One group: its eight tokens, then the four columns. -/
def group (bb cb : Memref sig .tc .vmem S64x16x128 .f32) (de u : Memref sig .tc .vmem S4x64x128 .f32) (yt : Memref sig .tc .vmem S64x512 .f32) (yb : Memref sig .tc .vmem S4x200x128 .f32)
    (g : Fin k0_t2_loop.trips) (a h : St F) : Prog (TpuEff nD τ sig (Elt F) Λ₀ .tc) (St F) := do
  let h ← token bb cb de u yb g 0 a h
  let h ← token bb cb de u yb g 1 a h
  let h ← token bb cb de u yb g 2 a h
  let h ← token bb cb de u yb g 3 a h
  let h ← token bb cb de u yb g 4 a h
  let h ← token bb cb de u yb g 5 a h
  let h ← token bb cb de u yb g 6 a h
  let h ← token bb cb de u yb g 7 a h
  column yb yt 0 (by decide) _ (k0_off13_inb g)
  column yb yt 1 (by decide) _ (k0_off14_inb g)
  column yb yt 2 (by decide) _ (k0_off15_inb g)
  column yb yt 3 (by decide) _ (k0_off16_inb g)
  pure h

end Cert.Proof.KernelIdeal
-- ==== Proof.KernelIdeal.Spec.lean ====
/- The scan's values as functions of natural-number coordinates, and what each named payload of the printed loop
   computes of them. -/
module

public import proofs.«01_k».proof.Proof.KernelIdeal.Regular
public import Idealize.ShloMosaic.Lib.Pipeline.Value
public import Idealize.ShloMosaic.Lib.ValueLayout

@[expose] public section

set_option maxRecDepth 16384

noncomputable section

namespace Cert.Proof.KernelIdeal

open Cert.KernelIdeal Cert.KernelIdeal.Gen
open Idealize.ShloMosaic

variable {F : FTy → Type} [FloatOps F] [Named F]

/-- A value table over two coordinates (token or state row first, lane second). -/
abbrev Tab (F : FTy → Type) : Type := ℕ → ℕ → F .f32

/-- One step of the recurrence at token `T`: the decayed state plus the input. -/
def stepH (A D U B : Tab F) (T : ℕ) (hs : Tab F) : Tab F := fun n l =>
  FloatOps.addf (FloatOps.mulf (FloatOps.exp2 (FloatOps.mulf (D T l) (A n l))) (hs n l)) (FloatOps.mulf (U T l) (B T n))

/-- The state before token `T`. -/
def hst (A D U B H0 : Tab F) : ℕ → Tab F
  | 0 => H0
  | T + 1 => stepH A D U B T (hst A D U B H0 T)

/-- The two products of a token's state with `C` that one row of `yb` holds. -/
def prd (C : Tab F) (hs : Tab F) (T i l : ℕ) : F .f32 :=
  FloatOps.addf (FloatOps.mulf (hs i l) (C T i)) (FloatOps.mulf (hs (8 + i) l) (C T (8 + i)))

/-- Eight terms added from the left. -/
def sum8 (p : ℕ → F .f32) : F .f32 :=
  FloatOps.addf (FloatOps.addf (FloatOps.addf (FloatOps.addf (FloatOps.addf (FloatOps.addf (FloatOps.addf (p 0) (p 1)) (p 2)) (p 3)) (p 4)) (p 5)) (p 6)) (p 7)

/-- The scan's output before the skip and the gate. -/
def ysum (A D U B C H0 : Tab F) (T l : ℕ) : F .f32 := sum8 fun i => prd C (hst A D U B H0 (T + 1)) T i l

/-- Rows 0–7 of a table in lane block `k`. -/
def loV (X : Tab F) (k : ℕ) : FVec F S8x128 .f32 := fun i => X (i 0).val (128 * k + (i 1).val)
/-- Rows 8–15 of a table in lane block `k`. -/
def hiV (X : Tab F) (k : ℕ) : FVec F S8x128 .f32 := fun i => X (8 + (i 0).val) (128 * k + (i 1).val)
/-- The eight halves of a table. -/
def stV (X : Tab F) : St F := (loV X 0, hiV X 0, loV X 1, hiV X 1, loV X 2, hiV X 2, loV X 3, hiV X 3)

theorem cast_drop (v : Vec F S1x8x128 .f32) (X : ℕ → ℕ → F .f32) (h : ∀ x, v x = X (x 1).val (x 2).val) (i : S8x128.Idx) :
    shapeCast S8x128 v shapeCasts_S1x8x128_S8x128 i = X (i 0).val (i 1).val :=
  (shapeCast_dropUnit_apply ![8, 128] v shapeCasts_S1x8x128_S8x128 i).trans (h _)

theorem cast_add (v : FVec F S8x128 .f32) (X : ℕ → ℕ → F .f32) (h : ∀ i, v i = X (i 0).val (i 1).val) (x : S1x8x128.Idx) :
    shapeCast S1x8x128 v shapeCasts_S8x128_S1x8x128 x = X (x 1).val (x 2).val :=
  (shapeCast_addUnit_apply ![8, 128] v shapeCasts_S8x128_S1x8x128 x).trans (h _)

theorem pay2_apply (v : Vec F S1x1x128 .f32) (X : ℕ → F .f32) (h : ∀ x, v x = X (x 2).val) (i : S8x128.Idx) :
    k0_pay2 v i = X (i 1).val := by
  unfold k0_pay2
  dsimp only
  rw [shapeCast_self]
  unfold broadcastTo
  exact (shapeCast_dropUnit_apply ![1, 128] v shapeCasts_S1x1x128_S1x128 _).trans (h _)

theorem pay3_apply (v : Vec F S1x1x128 .f32) (X : ℕ → F .f32) (h : ∀ x, v x = X (x 2).val) (i : S8x128.Idx) :
    k0_pay3 v i = X (i 1).val := pay2_apply v X h i

section
variable (A D U B C : Tab F) (hs : Tab F) (T k : ℕ)
  (vd vu : Vec F S1x1x128 .f32) (bl cl bh ch : Vec F S1x8x128 .f32)
  (hd : ∀ x, vd x = D T (128 * k + (x 2).val)) (hu : ∀ x, vu x = U T (128 * k + (x 2).val))
  (hbl : ∀ x, bl x = B T (x 1).val) (hcl : ∀ x, cl x = C T (x 1).val)
  (hbh : ∀ x, bh x = B T (8 + (x 1).val)) (hch : ∀ x, ch x = C T (8 + (x 1).val))

include hd hu hbl in
theorem pay4_lo : k0_pay4 (loV A k) (loV hs k) vd vu bl = loV (stepH A D U B T hs) k := by
  funext i
  show FloatOps.addf (FloatOps.mulf (FloatOps.exp2 (FloatOps.mulf (k0_pay2 vd i) _)) _) (FloatOps.mulf (k0_pay3 vu i) (shapeCast S8x128 bl shapeCasts_S1x8x128_S8x128 i)) = _
  rw [pay2_apply vd (fun l => D T (128 * k + l)) hd, pay3_apply vu (fun l => U T (128 * k + l)) hu, cast_drop bl (fun a _ => B T a) hbl]
  rfl

include hd hu hbh in
theorem pay6_hi : k0_pay6 (hiV A k) (hiV hs k) vd vu bh = hiV (stepH A D U B T hs) k := by
  funext i
  show FloatOps.addf (FloatOps.mulf (FloatOps.exp2 (FloatOps.mulf (k0_pay2 vd i) _)) _) (FloatOps.mulf (k0_pay3 vu i) (shapeCast S8x128 bh shapeCasts_S1x8x128_S8x128 i)) = _
  rw [pay2_apply vd (fun l => D T (128 * k + l)) hd, pay3_apply vu (fun l => U T (128 * k + l)) hu, cast_drop bh (fun a _ => B T (8 + a)) hbh]
  rfl

include hd hu hbl hcl hbh hch in
theorem pay8_prd (x : S1x8x128.Idx) :
    k0_pay8 (k0_pay5 (loV A k) (loV hs k) vd vu bl cl) (k0_pay6 (hiV A k) (hiV hs k) vd vu bh) (k0_pay7 ch) x
      = prd C (stepH A D U B T hs) T (x 1).val (128 * k + (x 2).val) := by
  have e5 : k0_pay5 (loV A k) (loV hs k) vd vu bl cl = mulf (loV (stepH A D U B T hs) k) (shapeCast S8x128 cl shapeCasts_S1x8x128_S8x128) := by
    rw [← pay4_lo A D U B hs T k vd vu bl hd hu hbl]; rfl
  rw [e5, pay6_hi A D U B hs T k vd vu bh hd hu hbh]
  unfold k0_pay8
  dsimp only
  refine cast_add _ (fun a b => prd C (stepH A D U B T hs) T a (128 * k + b)) (fun i => ?_) x
  show FloatOps.addf (FloatOps.mulf _ (shapeCast S8x128 cl shapeCasts_S1x8x128_S8x128 i)) (FloatOps.mulf _ (shapeCast S8x128 ch shapeCasts_S1x8x128_S8x128 i)) = _
  rw [cast_drop cl (fun a _ => C T a) hcl, cast_drop ch (fun a _ => C T (8 + a)) hch]
  rfl
end

/-- A column's eight reads summed. -/
theorem pay198_sum (p : ℕ → ℕ → ℕ → F .f32) (r0 r1 r2 r3 r4 r5 r6 r7 : Vec F S1x8x128 .f32)
    (h0 : ∀ x, r0 x = p 0 (x 1).val (x 2).val) (h1 : ∀ x, r1 x = p 1 (x 1).val (x 2).val) (h2 : ∀ x, r2 x = p 2 (x 1).val (x 2).val) (h3 : ∀ x, r3 x = p 3 (x 1).val (x 2).val)
    (h4 : ∀ x, r4 x = p 4 (x 1).val (x 2).val) (h5 : ∀ x, r5 x = p 5 (x 1).val (x 2).val) (h6 : ∀ x, r6 x = p 6 (x 1).val (x 2).val) (h7 : ∀ x, r7 x = p 7 (x 1).val (x 2).val)
    (i : S8x128.Idx) : k0_pay198 r0 r1 r2 r3 r4 r5 r6 r7 i = sum8 fun n => p n (i 0).val (i 1).val := by
  unfold k0_pay198
  dsimp only
  rw [shapeCast_self]
  simp only [addf]
  rw [cast_drop r0 _ h0, cast_drop r1 _ h1, cast_drop r2 _ h2, cast_drop r3 _ h3, cast_drop r4 _ h4, cast_drop r5 _ h5, cast_drop r6 _ h6, cast_drop r7 _ h7]
  rfl

end Cert.Proof.KernelIdeal
-- ==== Proof.KernelIdeal.Cell.lean ====
/- Triples of the regular program's pieces, at any contents. -/
module

public import proofs.«01_k».proof.Proof.KernelIdeal.Spec
public import Idealize.ShloMosaic.Lib.Exec
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Bf (F := F) c M) : sProp 𝕄 :=
  M.view.loc (c : Thread nD τ) ↦[M.view.set]{fullShare} f

abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The rows of `yb` that the first `n` cells of group `g` have written. -/
def YbOk (p : ℕ → ℕ → ℕ → F .f32) (g n : ℕ) (Y : Vec F S4x200x128 .f32) : Prop :=
  ∀ (y : S4x200x128.Idx) (t i : ℕ), t < 8 → i < 8 → (y 1).val = 25 * t + 3 * i → 4 * t + (y 0).val < n →
    Y y = p (8 * g + t) i (128 * (y 0).val + (y 2).val)

theorem ybOk_zero (p : ℕ → ℕ → ℕ → F .f32) (g : ℕ) (Y : Vec F S4x200x128 .f32) : YbOk p g 0 Y :=
  fun y t i _ _ _ h => absurd h (Nat.not_lt_zero _)

/-- A cell's store extends them. -/
theorem ybOk_store (c : Dev nD) (yb : Memref sig .tc .vmem S4x200x128 .f32) (p : ℕ → ℕ → ℕ → F .f32) (g k t : ℕ) (hk : k < 4) (ht : t < 8)
    (f : Bf (F := F) c yb) (h : YbOk p g (4 * t + k) (yb.view.read (Elt F) f)) (w : Vec F S1x8x128 .f32)
    (hw : ∀ x, w x = p (8 * g + t) (x 1).val (128 * k + (x 2).val)) :
    YbOk p g (4 * t + k + 1) (yb.view.read (Elt F) (yb.view.writes (Elt F) f [⟨⟨ybRow k t hk ht, spos_1_3_1⟩, w⟩])) := by
  intro y t' i' ht' hi' hy hlt
  have hy0 : (y 0).val < 4 := (y 0).isLt
  by_cases hc : t' = t ∧ (y 0).val = k
  · obtain ⟨rfl, hk'⟩ := hc
    have e : (⟨ybRow k t' hk ht, spos_1_3_1⟩ : Rect S4x200x128).emb (fun a => match a with | ⟨0, _⟩ => ⟨0, Nat.one_pos⟩ | ⟨1, _⟩ => ⟨i', hi'⟩ | ⟨2, _⟩ => ⟨(y 2).val, (y 2).isLt⟩ : S1x8x128.Idx) = y := by
      refine Rect.emb_eq_of_coords _ _ _ fun a => ?_
      match a with
      | ⟨0, _⟩ => show (y 0).val = k + 1 * 0; omega
      | ⟨1, _⟩ => show (y 1).val = 25 * t' + 3 * i'; omega
      | ⟨2, _⟩ => show (y 2).val = 0 + 1 * (y 2).val; omega
    refine (congrArg _ e.symm).trans ((View.read_writes_cons_emb _ _ _ _ _ _).trans ((hw _).trans ?_))
    rw [hk']
  · rw [View.read_writes_cons_miss]
    · exact h y t' i' ht' hi' hy (by omega)
    · intro hm
      have h0 := (LoadRect.mem_set _).mp hm (0 : Fin 3)
      have h1 := (LoadRect.mem_set _).mp hm (1 : Fin 3)
      obtain ⟨j0, hj0, e0⟩ := h0
      obtain ⟨j1, hj1, e1⟩ := h1
      have e0 : (y 0).val = k + 1 * j0 := e0
      have e1 : (y 1).val = 25 * t + 3 * j1 := e1
      have hj0 : j0 < 1 := hj0
      have hj1 : j1 < 8 := hj1
      omega

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

/-- The products the scan writes to `yb`. -/
abbrev prods (T i l : ℕ) : F .f32 := prd C (hst A D U B H0 (T + 1)) T i l

/-- What the cells hold: the four inputs at their contents and `yb` after `n` cells of group `g`. -/
def cellR (g n : ℕ) : sProp 𝕄 :=
  iprop(held c bb fb ∗ held c cb fc ∗ held c de fd ∗ held c u fu ∗ ∃ fy, ⌜YbOk (prods A D U B C H0) g n (yb.view.read (Elt F) fy)⌝ ∗ held c yb fy)

include hb hc hd hu in
theorem wp_cell (g k t : ℕ) (hk : k < 4) (ht : t < 8)
    (od : Fin 3 → Nat) (ho : ∀ a, od a + S1x1x128.size a ≤ S4x64x128.size a)
    (ol : Fin 3 → Nat) (hl : ∀ a, ol a + S1x8x128.size a ≤ S64x16x128.size a)
    (oh : Fin 3 → Nat) (hh : ∀ a, oh a + S1x8x128.size a ≤ S64x16x128.size a)
    (eod : od = ![k, 8 * g + t, 0]) (eol : ol = ![8 * g + t, 0, 0]) (eoh : oh = ![8 * g + t, 8, 0])
    (Q : FVec F S8x128 .f32 × FVec F S8x128 .f32 → sProp 𝕄) :
    iprop(cellR c bb cb de u yb A D U B C H0 fb fc fd fu g (4 * t + k) ∗
      (cellR c bb cb de u yb A D U B C H0 fb fc fd fu g (4 * t + k + 1) -∗
        Q (loV (hst A D U B H0 (8 * g + t + 1)) k, hiV (hst A D U B H0 (8 * g + t + 1)) k)))
      ⊢ wpc c (cell bb cb de u yb k t hk ht od ho ol hl oh hh (loV A k) (hiV A k) (loV (hst A D U B H0 (8 * g + t)) k, hiV (hst A D U B H0 (8 * g + t)) k)) Q := by
  have rd : ∀ x : S1x1x128.Idx, View.readAt (Elt F) de.view (Rect.unit (s := S4x64x128) od S1x1x128.size ho).toLoadRect fd x = D (8 * g + t) (128 * k + (x 2).val) := fun x => by
    subst eod
    refine (hd _).trans ?_
    have h0 : (x 0).val < 1 := (x 0).isLt
    have h1 : (x 1).val < 1 := (x 1).isLt
    show D (8 * g + t + 1 * (x 1).val) (128 * (k + 1 * (x 0).val) + (0 + 1 * (x 2).val)) = _
    congr 1 <;> omega
  have ru : ∀ x : S1x1x128.Idx, View.readAt (Elt F) u.view (Rect.unit (s := S4x64x128) od S1x1x128.size ho).toLoadRect fu x = U (8 * g + t) (128 * k + (x 2).val) := fun x => by
    subst eod
    refine (hu _).trans ?_
    have h0 : (x 0).val < 1 := (x 0).isLt
    have h1 : (x 1).val < 1 := (x 1).isLt
    show U (8 * g + t + 1 * (x 1).val) (128 * (k + 1 * (x 0).val) + (0 + 1 * (x 2).val)) = _
    congr 1 <;> omega
  have low : ∀ (M : Memref sig .tc .vmem S64x16x128 .f32) (X : Tab F) (f : Bf (F := F) c M) (hX : ∀ x, M.view.read (Elt F) f x = X (x 0).val (x 1).val) (x : S1x8x128.Idx),
      View.readAt (Elt F) M.view (Rect.unit (s := S64x16x128) ol S1x8x128.size hl).toLoadRect f x = X (8 * g + t) (x 1).val := fun M X f hX x => by
    subst eol
    refine (hX _).trans ?_
    have h0 : (x 0).val < 1 := (x 0).isLt
    show X (8 * g + t + 1 * (x 0).val) (0 + 1 * (x 1).val) = _
    congr 1 <;> omega
  have high : ∀ (M : Memref sig .tc .vmem S64x16x128 .f32) (X : Tab F) (f : Bf (F := F) c M) (hX : ∀ x, M.view.read (Elt F) f x = X (x 0).val (x 1).val) (x : S1x8x128.Idx),
      View.readAt (Elt F) M.view (Rect.unit (s := S64x16x128) oh S1x8x128.size hh).toLoadRect f x = X (8 * g + t) (8 + (x 1).val) := fun M X f hX x => by
    subst eoh
    refine (hX _).trans ?_
    have h0 : (x 0).val < 1 := (x 0).isLt
    show X (8 * g + t + 1 * (x 0).val) (8 + 1 * (x 1).val) = _
    congr 1 <;> omega
  unfold wpc cell cellR
  iintro ⟨⟨Hb, Hc, Hd, Hu, ⟨%fy, %hy, Hy⟩⟩, HK⟩
  sl_exec
  sl_step
  have e4 : _ = loV (hst A D U B H0 (8 * g + t + 1)) k := pay4_lo A D U B (hst A D U B H0 (8 * g + t)) (8 * g + t) k _ _ _ rd ru (low bb B fb hb)
  have e6 : _ = hiV (hst A D U B H0 (8 * g + t + 1)) k := pay6_hi A D U B (hst A D U B H0 (8 * g + t)) (8 * g + t) k _ _ _ rd ru (high bb B fb hb)
  have e8 := pay8_prd A D U B C (hst A D U B H0 (8 * g + t)) (8 * g + t) k _ _ _ _ _ _ rd ru (low bb B fb hb) (low cb C fc hc) (high bb B fb hb) (high cb C fc hc)
  have hy' := ybOk_store c yb (prods A D U B C H0) g k t hk ht fy hy _ e8
  dsimp only
  rw [e4, e6]
  rw [e6] at hy'
  iapply HK
  isplitl [Hb]; · iexact Hb
  isplitl [Hc]; · iexact Hc
  isplitl [Hd]; · iexact Hd
  isplitl [Hu]; · iexact Hu
  iexists _
  isplitr
  swap; · iexact Hy
  ipureintro
  exact hy'
end

end Cert.Proof.KernelIdeal
-- ==== Proof.KernelIdeal.Group.lean ====
/- Triples of a token, a column and a whole group. -/
module

public import proofs.«01_k».proof.Proof.KernelIdeal.Cell
public import Idealize.ShloMosaic.Lib.Exec
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

include hb hc hd hu in
theorem wp_token (g : Fin k0_t2_loop.trips) (t : Fin 8) (Q : St F → sProp 𝕄) :
    iprop(cellR c bb cb de u yb A D U B C H0 fb fc fd fu g.val (4 * t.val) ∗
      (cellR c bb cb de u yb A D U B C H0 fb fc fd fu g.val (4 * (t.val + 1)) -∗ Q (stV (hst A D U B H0 (8 * g.val + t.val + 1)))))
      ⊢ wpc c (token bb cb de u yb g t (stV A) (stV (hst A D U B H0 (8 * g.val + t.val)))) Q := by
  unfold wpc token stV
  dsimp only
  iintro ⟨HR, HK⟩
  rw [wp_bind]
  iapply (wp_cell c bb cb de u yb A D U B C H0 fb fc fd fu hb hc hd hu g.val 0 t.val _ t.isLt _ _ _ _ _ _ (k0_off7_eq g t) (k0_off8_eq g t) (k0_off9_eq g t) _)
  isplitl [HR]; · iexact HR
  iintro HR
  dsimp only
  rw [wp_bind]
  iapply (wp_cell c bb cb de u yb A D U B C H0 fb fc fd fu hb hc hd hu g.val 1 t.val _ t.isLt _ _ _ _ _ _ (k0_off10_eq g t) (k0_off8_eq g t) (k0_off9_eq g t) _)
  isplitl [HR]; · iexact HR
  iintro HR
  dsimp only
  rw [wp_bind]
  iapply (wp_cell c bb cb de u yb A D U B C H0 fb fc fd fu hb hc hd hu g.val 2 t.val _ t.isLt _ _ _ _ _ _ (k0_off11_eq g t) (k0_off8_eq g t) (k0_off9_eq g t) _)
  isplitl [HR]; · iexact HR
  iintro HR
  dsimp only
  rw [wp_bind]
  iapply (wp_cell c bb cb de u yb A D U B C H0 fb fc fd fu hb hc hd hu g.val 3 t.val _ t.isLt _ _ _ _ _ _ (k0_off12_eq g t) (k0_off8_eq g t) (k0_off9_eq g t) _)
  isplitl [HR]; · iexact HR
  iintro HR
  dsimp only
  sl_step
  iapply HK
  iexact HR
end

/-- The rows of `yt` summed so far: all of the groups before `g`, and of group `g` its first `n` lane blocks. -/
def YtOk (s : ℕ → ℕ → F .f32) (g n : ℕ) (Y : Vec F S64x512 .f32) : Prop :=
  ∀ y : S64x512.Idx, (y 0).val < 8 * g ∨ ((y 0).val < 8 * (g + 1) ∧ (y 1).val < 128 * n) → Y y = s (y 0).val (y 1).val

theorem ytOk_store (c : Dev nD) (yt : Memref sig .tc .vmem S64x512 .f32) (s : ℕ → ℕ → F .f32) (g k : ℕ) (f : Bf (F := F) c yt)
    (h : YtOk s g k (yt.view.read (Elt F) f)) (o : Fin 2 → Nat) (ho : ∀ a, o a + S8x128.size a ≤ S64x512.size a) (eo : o = ![8 * g, 128 * k])
    (w : FVec F S8x128 .f32) (hw : ∀ x, w x = s (8 * g + (x 0).val) (128 * k + (x 1).val)) :
    YtOk s g (k + 1) (yt.view.read (Elt F) (yt.view.writes (Elt F) f [⟨Rect.unit (s := S64x512) o S8x128.size ho, w⟩])) := by
  subst eo
  intro y hy
  by_cases hc : 8 * g ≤ (y 0).val ∧ 128 * k ≤ (y 1).val
  · have e : (Rect.unit (s := S64x512) ![8 * g, 128 * k] S8x128.size ho).emb (fun a => match a with | ⟨0, _⟩ => ⟨(y 0).val - 8 * g, by show _ < 8; omega⟩ | ⟨1, _⟩ => ⟨(y 1).val - 128 * k, by show _ < 128; omega⟩ : S8x128.Idx) = y := by
      refine Rect.emb_eq_of_coords _ _ _ fun a => ?_
      match a with
      | ⟨0, _⟩ => show (y 0).val = 8 * g + 1 * ((y 0).val - 8 * g); omega
      | ⟨1, _⟩ => show (y 1).val = 128 * k + 1 * ((y 1).val - 128 * k); omega
    refine (congrArg _ e.symm).trans ((View.read_writes_cons_emb _ _ _ _ _ _).trans ((hw _).trans ?_))
    show s (8 * g + ((y 0).val - 8 * g)) (128 * k + ((y 1).val - 128 * k)) = _
    congr 1 <;> omega
  · rw [View.read_writes_cons_miss]
    · exact h y (by omega)
    · intro hm
      obtain ⟨j0, hj0, e0⟩ := (LoadRect.mem_set _).mp hm (0 : Fin 2)
      obtain ⟨j1, hj1, e1⟩ := (LoadRect.mem_set _).mp hm (1 : Fin 2)
      have e0 : (y 0).val = 8 * g + 1 * j0 := e0
      have e1 : (y 1).val = 128 * k + 1 * j1 := e1
      omega

set_option maxHeartbeats 400000 in
theorem wp_column (c : Dev nD) (yb : Memref sig .tc .vmem S4x200x128 .f32) (yt : Memref sig .tc .vmem S64x512 .f32) (p : ℕ → ℕ → ℕ → F .f32) (g k : ℕ) (hk : k < 4)
    (o : Fin 2 → Nat) (ho : ∀ a, o a + S8x128.size a ≤ S64x512.size a) (eo : o = ![8 * g, 128 * k])
    (fy : Bf (F := F) c yb) (hy : YbOk p g 32 (yb.view.read (Elt F) fy)) (ft : Bf (F := F) c yt) (hft : YtOk (fun T l => sum8 fun i => p T i l) g k (yt.view.read (Elt F) ft))
    (Q : PUnit → sProp 𝕄) :
    iprop(held c yb fy ∗ held c yt ft ∗ (∀ ft', ⌜YtOk (fun T l => sum8 fun i => p T i l) g (k + 1) (yt.view.read (Elt F) ft')⌝ -∗ held c yb fy -∗ held c yt ft' -∗ Q ⟨⟩))
      ⊢ wpc c (column yb yt k hk o ho) Q := by
  have rd : ∀ (n : ℕ) (hn : n < 8) (x : S1x8x128.Idx), View.readAt (Elt F) yb.view (ybCol k n hk hn) fy x = p (8 * g + (x 1).val) n (128 * k + (x 2).val) := fun n hn x => by
    have h0 : (x 0).val < 1 := (x 0).isLt
    have h1 : (x 1).val < 8 := (x 1).isLt
    refine (hy _ (x 1).val n h1 hn ?_ ?_).trans ?_
    · show 3 * n + 25 * (x 1).val = _; omega
    · show 4 * (x 1).val + (k + 1 * (x 0).val) < 32; omega
    · show p (8 * g + (x 1).val) n (128 * (k + 1 * (x 0).val) + (0 + 1 * (x 2).val)) = _
      congr 1; omega
  have e := pay198_sum (fun n a b => p (8 * g + a) n (128 * k + b)) _ _ _ _ _ _ _ _ (rd 0 (by decide)) (rd 1 (by decide)) (rd 2 (by decide)) (rd 3 (by decide)) (rd 4 (by decide)) (rd 5 (by decide)) (rd 6 (by decide)) (rd 7 (by decide))
  have h' := ytOk_store c yt _ g k ft hft o ho eo _ e
  unfold wpc column
  iintro ⟨Hy, Ht, HK⟩
  sl_exec
  sl_step
  iapply HK $$ %_ %h' [Hy] [Ht]
  · iexact Hy
  · iexact Ht

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

/-- What the groups hold before group `g`. -/
def groupR (g : ℕ) : sProp 𝕄 :=
  iprop(held c bb fb ∗ held c cb fc ∗ held c de fd ∗ held c u fu ∗ (∃ fy, held c yb fy) ∗
    ∃ ft, ⌜YtOk (ysum A D U B C H0) g 0 (yt.view.read (Elt F) ft)⌝ ∗ held c yt ft)

theorem ytOk_next (s : ℕ → ℕ → F .f32) (g : ℕ) (Y : Vec F S64x512 .f32) (h : YtOk s g 4 Y) : YtOk s (g + 1) 0 Y :=
  fun y hy => h y (by have : (y 1).val < 512 := (y 1).isLt; omega)

include hb hc hd hu in
set_option maxHeartbeats 1000000 in
theorem wp_group (g : Fin k0_t2_loop.trips) (Q : St F → sProp 𝕄) :
    iprop(groupR c bb cb de u yt yb A D U B C H0 fb fc fd fu g.val ∗
      (groupR c bb cb de u yt yb A D U B C H0 fb fc fd fu (g.val + 1) -∗ Q (stV (hst A D U B H0 (8 * (g.val + 1))))))
      ⊢ wpc c (group bb cb de u yt yb g (stV A) (stV (hst A D U B H0 (8 * g.val)))) Q := by
  unfold wpc group groupR
  iintro ⟨⟨Hb, Hc, Hd, Hu, ⟨%fy, Hy⟩, ⟨%ft, %hft, Ht⟩⟩, HK⟩
  rw [wp_bind]
  iapply (wp_token c bb cb de u yb A D U B C H0 fb fc fd fu hb hc hd hu g 0 _)
  isplitl [Hb Hc Hd Hu Hy]
  · unfold cellR
    isplitl [Hb]; · iexact Hb
    isplitl [Hc]; · iexact Hc
    isplitl [Hd]; · iexact Hd
    isplitl [Hu]; · iexact Hu
    iexists _
    isplitr
    swap; · iexact Hy
    ipureintro; exact ybOk_zero _ _ _
  iintro HR
  rw [wp_bind]
  iapply (wp_token c bb cb de u yb A D U B C H0 fb fc fd fu hb hc hd hu g 1 _)
  isplitl [HR]; · iexact HR
  iintro HR
  rw [wp_bind]
  iapply (wp_token c bb cb de u yb A D U B C H0 fb fc fd fu hb hc hd hu g 2 _)
  isplitl [HR]; · iexact HR
  iintro HR
  rw [wp_bind]
  iapply (wp_token c bb cb de u yb A D U B C H0 fb fc fd fu hb hc hd hu g 3 _)
  isplitl [HR]; · iexact HR
  iintro HR
  rw [wp_bind]
  iapply (wp_token c bb cb de u yb A D U B C H0 fb fc fd fu hb hc hd hu g 4 _)
  isplitl [HR]; · iexact HR
  iintro HR
  rw [wp_bind]
  iapply (wp_token c bb cb de u yb A D U B C H0 fb fc fd fu hb hc hd hu g 5 _)
  isplitl [HR]; · iexact HR
  iintro HR
  rw [wp_bind]
  iapply (wp_token c bb cb de u yb A D U B C H0 fb fc fd fu hb hc hd hu g 6 _)
  isplitl [HR]; · iexact HR
  iintro HR
  rw [wp_bind]
  iapply (wp_token c bb cb de u yb A D U B C H0 fb fc fd fu hb hc hd hu g 7 _)
  isplitl [HR]; · iexact HR
  iintro HR
  unfold cellR
  icases HR with ⟨Hb, Hc, Hd, Hu, ⟨%fy', %hy, Hy⟩⟩
  rw [wp_bind]
  iapply (wp_column c yb yt (prods A D U B C H0) g.val 0 _ _ _ (k0_off13_eq g) _ hy _ hft _)
  isplitl [Hy]; · iexact Hy
  isplitl [Ht]; · iexact Ht
  iintro %ft0 %h0 Hy Ht
  rw [wp_bind]
  iapply (wp_column c yb yt (prods A D U B C H0) g.val 1 _ _ _ (k0_off14_eq g) _ hy _ h0 _)
  isplitl [Hy]; · iexact Hy
  isplitl [Ht]; · iexact Ht
  iintro %ft1 %h1 Hy Ht
  rw [wp_bind]
  iapply (wp_column c yb yt (prods A D U B C H0) g.val 2 _ _ _ (k0_off15_eq g) _ hy _ h1 _)
  isplitl [Hy]; · iexact Hy
  isplitl [Ht]; · iexact Ht
  iintro %ft2 %h2 Hy Ht
  rw [wp_bind]
  iapply (wp_column c yb yt (prods A D U B C H0) g.val 3 _ _ _ (k0_off16_eq g) _ hy _ h2 _)
  isplitl [Hy]; · iexact Hy
  isplitl [Ht]; · iexact Ht
  iintro %ft3 %h3 Hy Ht
  sl_step
  iapply HK
  isplitl [Hb]; · iexact Hb
  isplitl [Hc]; · iexact Hc
  isplitl [Hd]; · iexact Hd
  isplitl [Hu]; · iexact Hu
  isplitl [Hy]; · iexists _; iexact Hy
  iexists _
  isplitr
  swap; · iexact Ht
  ipureintro
  exact ytOk_next _ _ _ h3
end

end Cert.Proof.KernelIdeal
-- ==== Proof.KernelIdeal.ChunkSpec.lean ====
/- One chunk's scalar functions, and what each named payload of the printed chunk computes of its loads. -/
module

public import proofs.«01_k».proof.Proof.KernelIdeal.Spec

@[expose] public section

set_option maxRecDepth 16384

noncomputable section

namespace Cert.Proof.KernelIdeal

open Cert.KernelIdeal Cert.KernelIdeal.Gen
open Idealize.ShloMosaic

variable {F : FTy → Type} [FloatOps F] [Named F]

/-- The kernel's base-two logarithm of Euler's number, its negation and the natural logarithm of two. -/
def cLog2e : F .f32 := Named.named κ "log2e" 0x3FB8AA3B#32
def cNegLog2e : F .f32 := Named.named κ "neg_log2e" 0xBFB8AA3B#32
def cLn2 : F .f32 := Named.named κ "ln2" 0x3F317218#32
def cZero : F .f32 := Scalar.ofBits .f32 0x00000000#32
def cOne : F .f32 := Scalar.ofBits .f32 0x3F800000#32

/-- The step size of one token and lane, scaled by the base-two logarithm of Euler's number. -/
def dlS (dt : F .fp8e4m3) (s b : F .f32) : F .f32 :=
  let v := FloatOps.addf (FloatOps.mulf (FloatOps.extf .f32 bitsLt_fp8e4m3_f32 dt) (FloatOps.mulf s cLog2e)) (FloatOps.mulf b cLog2e)
  let e := FloatOps.exp2 (FloatOps.subf cZero (FloatOps.absf v))
  let w := FloatOps.addf cOne e
  FloatOps.addf (FloatOps.maximumf v cZero) (FloatOps.addf (FloatOps.mulf (FloatOps.log w) cLog2e) (FloatOps.mulf (FloatOps.subf e (FloatOps.subf w cOne)) cLog2e))

/-- The decay's exponent factor: the step size, or infinity at a reset. -/
def deS (dl r : F .f32) : F .f32 := FloatOps.maximumf dl r
/-- The input's factor. -/
def uS (x : F .fp8e4m3) (s dl : F .f32) : F .f32 :=
  FloatOps.mulf (FloatOps.mulf (FloatOps.extf .f32 bitsLt_fp8e4m3_f32 x) (FloatOps.mulf s cLn2)) dl
/-- The skip term. -/
def xfS (x : F .fp8e4m3) (s d : F .f32) : F .f32 := FloatOps.mulf (FloatOps.mulf (FloatOps.extf .f32 bitsLt_fp8e4m3_f32 x) s) d
/-- The gated output. -/
def outS (z : F .bf16) (y xf : F .f32) : F .bf16 :=
  let zf : F .f32 := FloatOps.extf .f32 bitsLt_bf16_f32 z
  FloatOps.truncf .bf16 bitsLt_bf16_f32 (FloatOps.mulf (FloatOps.addf y xf)
    (FloatOps.mulf zf (FloatOps.reciprocal true (FloatOps.addf cOne (FloatOps.exp2 (FloatOps.mulf zf cNegLog2e))))))

theorem bcol (w : FVec F S64x1 .f32) (X : ℕ → F .f32) (h : ∀ i, w i = X (i 0).val) (j : S64x512.Idx) :
    broadcastTo S64x512 w broadcasts_S64x1_S64x512 j = X (j 0).val := h _
theorem brow (w : FVec F S1x512 .f32) (X : ℕ → F .f32) (h : ∀ i, w i = X (i 1).val) (j : S64x512.Idx) :
    broadcastTo S64x512 w broadcasts_S1x512_S64x512 j = X (j 1).val := h _

theorem pay202_apply (v : Vec F S1x64x4 .f32) (SC : Tab F) (h : ∀ x, v x = SC (x 1).val (x 2).val) (i : S64x4.Idx) :
    k0_pay202 v i = SC (i 0).val (i 1).val :=
  (shapeCast_dropUnit_apply ![64, 4] v shapeCasts_S1x64x4_S64x4 i).trans (h _)

theorem pay204_apply (v : Vec F S1x64x512 .fp8e4m3) (X : ℕ → ℕ → F .fp8e4m3) (h : ∀ x, v x = X (x 1).val (x 2).val) (i : S64x512.Idx) :
    k0_pay204 v i = FloatOps.extf .f32 bitsLt_fp8e4m3_f32 (X (i 0).val (i 1).val) :=
  congrArg (FloatOps.extf .f32 bitsLt_fp8e4m3_f32) ((shapeCast_dropUnit_apply ![64, 512] v shapeCasts_S1x64x512_S64x512 i).trans (h _))

theorem pay203_apply (vs : Vec F S1x64x4 .f32) (vd : Vec F S1x64x512 .fp8e4m3) (vb : Vec F S1x512 .f32) (SC : Tab F) (DT : ℕ → ℕ → F .fp8e4m3) (BI : ℕ → F .f32)
    (hs : ∀ x, vs x = SC (x 1).val (x 2).val) (hd : ∀ x, vd x = DT (x 1).val (x 2).val) (hb : ∀ x, vb x = BI (x 1).val) (j : S64x512.Idx) :
    k0_pay203 vs vd vb j = dlS (DT (j 0).val (j 1).val) (SC (j 0).val 0) (BI (j 1).val) := by
  have e1 : shapeCast S64x512 vd shapeCasts_S1x64x512_S64x512 j = DT (j 0).val (j 1).val :=
    (shapeCast_dropUnit_apply ![64, 512] vd shapeCasts_S1x64x512_S64x512 j).trans (hd _)
  have e2 : broadcastTo S64x512 (mulf (extractStridedSlice S64x1 ![0, 0] (k0_pay202 vs) slices_S64x4_o0_0_S64x1) (broadcast S64x1 (cLog2e : F .f32))) broadcasts_S64x1_S64x512 j = FloatOps.mulf (SC (j 0).val 0) cLog2e :=
    bcol _ (fun a => FloatOps.mulf (SC a 0) cLog2e) (fun i => congrArg (fun z => FloatOps.mulf z cLog2e) ((pay202_apply vs SC hs _).trans (by
      have h1 : (i 1).val < 1 := (i 1).isLt
      show SC (0 + (i 0).val) (0 + (i 1).val) = _
      congr 1 <;> omega))) j
  have e3 : broadcastTo S64x512 (mulf (shapeCast S1x512 vb shapeCasts_S1x512_S1x512) (broadcast S1x512 (cLog2e : F .f32))) broadcasts_S1x512_S64x512 j = FloatOps.mulf (BI (j 1).val) cLog2e :=
    brow _ (fun a => FloatOps.mulf (BI a) cLog2e) (fun i => congrArg (fun z => FloatOps.mulf z cLog2e) (by rw [shapeCast_self]; exact hb _)) j
  have e := congrArg₂ (fun p q : F .f32 => FloatOps.addf p q) (congrArg₂ (fun (p : F .fp8e4m3) (q : F .f32) => FloatOps.mulf (FloatOps.extf .f32 bitsLt_fp8e4m3_f32 p) q) e1 e2) e3
  exact congrArg (fun v : F .f32 =>
    let e := FloatOps.exp2 (FloatOps.subf cZero (FloatOps.absf v))
    let w := FloatOps.addf cOne e
    FloatOps.addf (FloatOps.maximumf v cZero) (FloatOps.addf (FloatOps.mulf (FloatOps.log w) cLog2e) (FloatOps.mulf (FloatOps.subf e (FloatOps.subf w cOne)) cLog2e))) e

section
variable (vs : FVec F S64x4 .f32) (vl vx : FVec F S64x512 .f32) (SC DL : Tab F) (X : ℕ → ℕ → F .fp8e4m3)
  (hs : ∀ i, vs i = SC (i 0).val (i 1).val) (hl : ∀ i, vl i = DL (i 0).val (i 1).val)
  (hx : ∀ i, vx i = FloatOps.extf .f32 bitsLt_fp8e4m3_f32 (X (i 0).val (i 1).val))

theorem cast64 (v : FVec F S64x128 .f32) (G : Tab F) (h : ∀ i, v i = G (i 0).val (i 1).val) (x : S1x64x128.Idx) :
    shapeCast S1x64x128 v shapeCasts_S64x128_S1x64x128 x = G (x 1).val (x 2).val :=
  (shapeCast_addUnit_apply ![64, 128] v shapeCasts_S64x128_S1x64x128 x).trans (h _)

include hs in
theorem bcol3 (j : S64x512.Idx) : broadcastTo S64x512 (extractStridedSlice S64x1 ![0, 3] vs slices_S64x4_o0_3_S64x1) broadcasts_S64x1_S64x512 j = SC (j 0).val 3 :=
  bcol _ (fun a => SC a 3) (fun i => (hs _).trans (by
    have h1 : (i 1).val < 1 := (i 1).isLt
    show SC (0 + (i 0).val) (3 + (i 1).val) = _
    congr 1 <;> omega)) j

include hs in
theorem bcol1 (j : S64x512.Idx) : broadcastTo S64x512 (extractStridedSlice S64x1 ![0, 1] vs slices_S64x4_o0_1_S64x1) broadcasts_S64x1_S64x512 j = SC (j 0).val 1 :=
  bcol _ (fun a => SC a 1) (fun i => (hs _).trans (by
    have h1 : (i 1).val < 1 := (i 1).isLt
    show SC (0 + (i 0).val) (1 + (i 1).val) = _
    congr 1 <;> omega)) j

include hs in
theorem bcol2 (j : S64x512.Idx) : broadcastTo S64x512 (mulf (extractStridedSlice S64x1 ![0, 2] vs slices_S64x4_o0_2_S64x1) (broadcast S64x1 (cLn2 : F .f32))) broadcasts_S64x1_S64x512 j = FloatOps.mulf (SC (j 0).val 2) cLn2 :=
  bcol _ (fun a => FloatOps.mulf (SC a 2) cLn2) (fun i => congrArg (fun z => FloatOps.mulf z cLn2) ((hs _).trans (by
    have h1 : (i 1).val < 1 := (i 1).isLt
    show SC (0 + (i 0).val) (2 + (i 1).val) = _
    congr 1 <;> omega))) j

include hs hl in
theorem de_full (j : S64x512.Idx) : maximumf vl (broadcastTo S64x512 (extractStridedSlice S64x1 ![0, 3] vs slices_S64x4_o0_3_S64x1) broadcasts_S64x1_S64x512) j
    = deS (DL (j 0).val (j 1).val) (SC (j 0).val 3) :=
  congrArg₂ (fun p q : F .f32 => FloatOps.maximumf p q) (hl j) (bcol3 vs SC hs j)

include hs hl hx in
theorem u_full (j : S64x512.Idx) : mulf (mulf vx (broadcastTo S64x512 (mulf (extractStridedSlice S64x1 ![0, 2] vs slices_S64x4_o0_2_S64x1) (broadcast S64x1 (cLn2 : F .f32))) broadcasts_S64x1_S64x512)) vl j
    = uS (X (j 0).val (j 1).val) (SC (j 0).val 2) (DL (j 0).val (j 1).val) :=
  congrArg₂ (fun p q : F .f32 => FloatOps.mulf p q) (congrArg₂ (fun p q : F .f32 => FloatOps.mulf p q) (hx j) (bcol2 vs SC hs j)) (hl j)

theorem slice_apply (w : FVec F S64x512 .f32) (G : Tab F) (hw : ∀ j, w j = G (j 0).val (j 1).val) (o : ℕ) (h : S64x512.Slices ![0, o] S64x128) (x : S1x64x128.Idx) :
    shapeCast S1x64x128 (extractStridedSlice S64x128 ![0, o] w h) shapeCasts_S64x128_S1x64x128 x = G (x 1).val (o + (x 2).val) :=
  cast64 _ (fun a b => G a (o + b)) (fun i => (hw _).trans (by
    show G (0 + (i 0).val) (o + (i 1).val) = _
    congr 1; omega)) x

include hs hl in
theorem de_pieces (x : S1x64x128.Idx) :
    k0_pay205 vs vl x = deS (DL (x 1).val (0 + (x 2).val)) (SC (x 1).val 3)
    ∧ k0_pay207 vs vl x = deS (DL (x 1).val (128 + (x 2).val)) (SC (x 1).val 3)
    ∧ k0_pay210 (k0_pay209 vs vl) x = deS (DL (x 1).val (256 + (x 2).val)) (SC (x 1).val 3)
    ∧ k0_pay212 vs vl x = deS (DL (x 1).val (384 + (x 2).val)) (SC (x 1).val 3) :=
  have h := de_full vs vl SC DL hs hl
  ⟨slice_apply _ (fun a b => deS (DL a b) (SC a 3)) h 0 slices_S64x512_o0_0_S64x128 x, slice_apply _ (fun a b => deS (DL a b) (SC a 3)) h 128 slices_S64x512_o0_128_S64x128 x,
    slice_apply _ (fun a b => deS (DL a b) (SC a 3)) h 256 slices_S64x512_o0_256_S64x128 x, slice_apply _ (fun a b => deS (DL a b) (SC a 3)) h 384 slices_S64x512_o0_384_S64x128 x⟩

include hs hl hx in
theorem u_pieces (x : S1x64x128.Idx) :
    k0_pay206 vs vl vx x = uS (X (x 1).val (0 + (x 2).val)) (SC (x 1).val 2) (DL (x 1).val (0 + (x 2).val))
    ∧ k0_pay208 vs vl vx x = uS (X (x 1).val (128 + (x 2).val)) (SC (x 1).val 2) (DL (x 1).val (128 + (x 2).val))
    ∧ k0_pay211 vs vl vx x = uS (X (x 1).val (256 + (x 2).val)) (SC (x 1).val 2) (DL (x 1).val (256 + (x 2).val))
    ∧ k0_pay213 vs vl vx x = uS (X (x 1).val (384 + (x 2).val)) (SC (x 1).val 2) (DL (x 1).val (384 + (x 2).val)) :=
  have h := u_full vs vl vx SC DL X hs hl hx
  ⟨slice_apply _ (fun a b => uS (X a b) (SC a 2) (DL a b)) h 0 slices_S64x512_o0_0_S64x128 x, slice_apply _ (fun a b => uS (X a b) (SC a 2) (DL a b)) h 128 slices_S64x512_o0_128_S64x128 x,
    slice_apply _ (fun a b => uS (X a b) (SC a 2) (DL a b)) h 256 slices_S64x512_o0_256_S64x128 x, slice_apply _ (fun a b => uS (X a b) (SC a 2) (DL a b)) h 384 slices_S64x512_o0_384_S64x128 x⟩

include hs hx in
theorem pay214_apply (vd : Vec F S1x512 .f32) (DD : ℕ → F .f32) (hd : ∀ x, vd x = DD (x 1).val) (j : S64x512.Idx) :
    k0_pay214 vs vx vd j = xfS (X (j 0).val (j 1).val) (SC (j 0).val 1) (DD (j 1).val) := by
  unfold k0_pay214
  dsimp only
  rw [shapeCast_self, shapeCast_self]
  exact congrArg₂ (fun p q : F .f32 => FloatOps.mulf p q) (congrArg₂ (fun p q : F .f32 => FloatOps.mulf p q) (hx j) (bcol1 vs SC hs j)) (brow vd DD hd j)
end

theorem pay1_apply (vz : Vec F S1x64x512 .bf16) (vy vx : Vec F S64x512 .f32) (Z : ℕ → ℕ → F .bf16) (Y X : Tab F)
    (hz : ∀ x, vz x = Z (x 1).val (x 2).val) (hy : ∀ i, vy i = Y (i 0).val (i 1).val) (hx : ∀ i, vx i = X (i 0).val (i 1).val) (x : S1x64x512.Idx) :
    k0_pay1 vz vy vx x = outS (Z (x 1).val (x 2).val) (Y (x 1).val (x 2).val) (X (x 1).val (x 2).val) := by
  have hz' : ∀ i : S64x512.Idx, shapeCast S64x512 vz shapeCasts_S1x64x512_S64x512 i = Z (i 0).val (i 1).val := fun i =>
    (shapeCast_dropUnit_apply ![64, 512] vz shapeCasts_S1x64x512_S64x512 i).trans (hz _)
  unfold k0_pay1
  dsimp only
  have key : ∀ (w : FVec F S64x512 .bf16) (G : ℕ → ℕ → F .bf16), (∀ i, w i = G (i 0).val (i 1).val) → shapeCast S1x64x512 w shapeCasts_S64x512_S1x64x512 x = G (x 1).val (x 2).val :=
    fun w G h => (shapeCast_addUnit_apply ![64, 512] w shapeCasts_S64x512_S1x64x512 x).trans (h _)
  refine key _ (fun a b => outS (Z a b) (Y a b) (X a b)) fun i => ?_
  show outS (shapeCast S64x512 vz shapeCasts_S1x64x512_S64x512 i) (vy i) (vx i) = _
  rw [hz' i, hy, hx]

end Cert.Proof.KernelIdeal
-- ==== Proof.KernelIdeal.Tables.lean ====
/- The tables one grid point reads, the values it computes of them, and what its buffers hold as stores accumulate. -/
module

public import proofs.«01_k».proof.Proof.KernelIdeal.Group
public import proofs.«01_k».proof.Proof.KernelIdeal.ChunkSpec
public import Idealize.ShloMosaic.Lib.Exec
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of the input windows, as functions of token (or state row) and lane. -/
structure Tabs (F : FTy → Type) where
  X : ℕ → ℕ → F .fp8e4m3
  DT : ℕ → ℕ → F .fp8e4m3
  Z : ℕ → ℕ → F .bf16
  SC : Tab F
  A : Tab F
  B : Tab F
  C : Tab F
  H0 : Tab F
  DD : ℕ → F .f32
  BI : ℕ → F .f32

namespace Tabs

def DL (W : Tabs F) : Tab F := fun T l => dlS (W.DT T l) (W.SC T 0) (W.BI l)
def DE (W : Tabs F) : Tab F := fun T l => deS (W.DL T l) (W.SC T 3)
def U (W : Tabs F) : Tab F := fun T l => uS (W.X T l) (W.SC T 2) (W.DL T l)
def XF (W : Tabs F) : Tab F := fun T l => xfS (W.X T l) (W.SC T 1) (W.DD l)
/-- The state before token `T`. -/
def HS (W : Tabs F) (T : ℕ) : Tab F := hst W.A W.DE W.U W.B W.H0 T
def YS (W : Tabs F) : Tab F := ysum W.A W.DE W.U W.B W.C W.H0
/-- The output. -/
def OUT (W : Tabs F) : ℕ → ℕ → F .bf16 := fun T l => outS (W.Z T l) (W.YS T l) (W.XF T l)

/-- The tables seen from chunk `j` of 512 lanes. -/
def sh (j : ℕ) (W : Tabs F) : Tabs F where
  X T l := W.X T (512 * j + l)
  DT T l := W.DT T (512 * j + l)
  Z T l := W.Z T (512 * j + l)
  SC := W.SC
  A n l := W.A n (512 * j + l)
  B := W.B
  C := W.C
  H0 n l := W.H0 n (512 * j + l)
  DD l := W.DD (512 * j + l)
  BI l := W.BI (512 * j + l)

theorem sh_HS (j : ℕ) (W : Tabs F) (T : ℕ) : (W.sh j).HS T = fun n l => W.HS T n (512 * j + l) := by
  induction T with
  | zero => rfl
  | succ T ih =>
    show stepH _ _ _ _ T ((W.sh j).HS T) = _
    rw [ih]; rfl

theorem sh_YS (j : ℕ) (W : Tabs F) : (W.sh j).YS = fun T l => W.YS T (512 * j + l) := by
  funext T l
  show sum8 (fun i => prd (W.sh j).C ((W.sh j).HS (T + 1)) T i l) = _
  rw [sh_HS]; rfl

/-- The tables seen from token `t₀` on: the state starts at the state before that token. -/
def from_ (t₀ : ℕ) (W : Tabs F) : Tabs F where
  X T l := W.X (t₀ + T) l
  DT T l := W.DT (t₀ + T) l
  Z T l := W.Z (t₀ + T) l
  SC T k := W.SC (t₀ + T) k
  A := W.A
  B T n := W.B (t₀ + T) n
  C T n := W.C (t₀ + T) n
  H0 := W.HS t₀
  DD := W.DD
  BI := W.BI

theorem from_HS (t₀ : ℕ) (W : Tabs F) (T : ℕ) : (W.from_ t₀).HS T = W.HS (t₀ + T) := by
  induction T with
  | zero => rfl
  | succ T ih =>
    show stepH _ _ _ _ T ((W.from_ t₀).HS T) = _
    rw [ih]; rfl

theorem from_OUT (t₀ : ℕ) (W : Tabs F) (T l : ℕ) : (W.from_ t₀).OUT T l = W.OUT (t₀ + T) l := by
  have e : (W.from_ t₀).YS T l = W.YS (t₀ + T) l := by
    show sum8 (fun i => prd (W.from_ t₀).C ((W.from_ t₀).HS (T + 1)) T i l) = _
    rw [from_HS]; rfl
  show outS _ ((W.from_ t₀).YS T l) _ = outS _ (W.YS (t₀ + T) l) _
  rw [e]; rfl

end Tabs

/-! ## Loads -/

section
variable (c : Dev nD)

theorem rd_win {e : EltTy} (M : Memref sig .tc .vmem S1x64x8192 e) (f : Bf (F := F) c M) (G : ℕ → ℕ → Elt F e)
    (h : ∀ x, M.view.read (Elt F) f x = G (x 1).val (x 2).val) (q : ℕ) (o : Fin 3 → ℕ) (ho : ∀ a, o a + S1x64x512.size a ≤ S1x64x8192.size a) (eo : o = ![0, 0, q])
    (x : S1x64x512.Idx) : View.readAt (Elt F) M.view (Rect.unit (s := S1x64x8192) o S1x64x512.size ho).toLoadRect f x = G (x 1).val (q + (x 2).val) := by
  subst eo
  refine (h _).trans ?_
  show G (0 + 1 * (x 1).val) (q + 1 * (x 2).val) = _
  congr 1 <;> omega

theorem rd_row (M : Memref sig .tc .vmem S1x8192 .f32) (f : Bf (F := F) c M) (G : ℕ → F .f32)
    (h : ∀ x, M.view.read (Elt F) f x = G (x 1).val) (q : ℕ) (o : Fin 2 → ℕ) (ho : ∀ a, o a + S1x512.size a ≤ S1x8192.size a) (eo : o = ![0, q])
    (x : S1x512.Idx) : View.readAt (Elt F) M.view (Rect.unit (s := S1x8192) o S1x512.size ho).toLoadRect f x = G (q + (x 1).val) := by
  subst eo
  refine (h _).trans ?_
  show G (q + 1 * (x 1).val) = _
  congr 1; omega

theorem rd_a (M : Memref sig .tc .vmem S16x8192 .f32) (f : Bf (F := F) c M) (G : Tab F)
    (h : ∀ x, M.view.read (Elt F) f x = G (x 0).val (x 1).val) (p q : ℕ) (o : Fin 2 → ℕ) (ho : ∀ a, o a + S8x128.size a ≤ S16x8192.size a) (eo : o = ![p, q])
    (x : S8x128.Idx) : View.readAt (Elt F) M.view (Rect.unit (s := S16x8192) o S8x128.size ho).toLoadRect f x = G (p + (x 0).val) (q + (x 1).val) := by
  subst eo
  refine (h _).trans ?_
  show G (p + 1 * (x 0).val) (q + 1 * (x 1).val) = _
  congr 1 <;> omega

theorem rd_sc (M : Memref sig .tc .vmem S1x64x4 .f32) (f : Bf (F := F) c M) (G : Tab F)
    (h : ∀ x, M.view.read (Elt F) f x = G (x 1).val (x 2).val) (ho : ∀ a, (![0, 0, 0] : Fin 3 → ℕ) a + S1x64x4.size a ≤ S1x64x4.size a)
    (x : S1x64x4.Idx) : View.readAt (Elt F) M.view (Rect.unit (s := S1x64x4) ![0, 0, 0] S1x64x4.size ho).toLoadRect f x = G (x 1).val (x 2).val := by
  refine (h _).trans ?_
  show G (0 + 1 * (x 1).val) (0 + 1 * (x 2).val) = _
  congr 1 <;> omega

theorem rd_full (M : Memref sig .tc .vmem S64x512 .f32) (f : Bf (F := F) c M) (G : Tab F)
    (h : ∀ x, M.view.read (Elt F) f x = G (x 0).val (x 1).val) (ho : ∀ a, (![0, 0] : Fin 2 → ℕ) a + S64x512.size a ≤ S64x512.size a)
    (x : S64x512.Idx) : View.readAt (Elt F) M.view (Rect.unit (s := S64x512) ![0, 0] S64x512.size ho).toLoadRect f x = G (x 0).val (x 1).val := by
  refine (h _).trans ?_
  show G (0 + 1 * (x 0).val) (0 + 1 * (x 1).val) = _
  congr 1 <;> omega

theorem st_full (M : Memref sig .tc .vmem S64x512 .f32) (f : Bf (F := F) c M) (G : Tab F)
    (ho : ∀ a, (![0, 0] : Fin 2 → ℕ) a + S64x512.size a ≤ S64x512.size a) (w : FVec F S64x512 .f32) (hw : ∀ x, w x = G (x 0).val (x 1).val) (x : S64x512.Idx) :
    M.view.read (Elt F) (M.view.writes (Elt F) f [⟨Rect.unit (s := S64x512) ![0, 0] S64x512.size ho, w⟩]) x = G (x 0).val (x 1).val := by
  have e : (Rect.unit (s := S64x512) ![0, 0] S64x512.size ho).emb x = x := by
    refine Rect.emb_eq_of_coords _ _ _ fun a => ?_
    match a with
    | ⟨0, _⟩ => show (x 0).val = 0 + 1 * (x 0).val; omega
    | ⟨1, _⟩ => show (x 1).val = 0 + 1 * (x 1).val; omega
  exact (congrArg _ e.symm).trans ((View.read_writes_cons_emb _ _ _ _ _ _).trans (hw _))
end

/-! ## Stores -/

/-- The first `n` slabs of a scratch of four hold the table. -/
def SlabOk (G : Tab F) (n : ℕ) (Y : Vec F S4x64x128 .f32) : Prop :=
  ∀ y : S4x64x128.Idx, (y 0).val < n → Y y = G (y 1).val (128 * (y 0).val + (y 2).val)

section
variable (c : Dev nD)

theorem slabOk_cons (M : Memref sig .tc .vmem S4x64x128 .f32) (f : Bf (F := F) c M) (G : Tab F) (n : ℕ) (L : List (View.Piece (Elt F) S4x64x128 .f32))
    (h : SlabOk G n (M.view.read (Elt F) (M.view.writes (Elt F) f L))) (ho : ∀ a, (![n, 0, 0] : Fin 3 → ℕ) a + S1x64x128.size a ≤ S4x64x128.size a)
    (w : FVec F S1x64x128 .f32) (hw : ∀ x, w x = G (x 1).val (128 * n + (x 2).val)) :
    SlabOk G (n + 1) (M.view.read (Elt F) (M.view.writes (Elt F) f (⟨Rect.unit (s := S4x64x128) ![n, 0, 0] S1x64x128.size ho, w⟩ :: L))) := by
  intro y hy
  by_cases hc : (y 0).val = n
  · have e : (Rect.unit (s := S4x64x128) ![n, 0, 0] S1x64x128.size ho).emb (fun a => match a with | ⟨0, _⟩ => ⟨0, Nat.one_pos⟩ | ⟨1, _⟩ => ⟨(y 1).val, (y 1).isLt⟩ | ⟨2, _⟩ => ⟨(y 2).val, (y 2).isLt⟩ : S1x64x128.Idx) = y := by
      refine Rect.emb_eq_of_coords _ _ _ fun a => ?_
      match a with
      | ⟨0, _⟩ => show (y 0).val = n + 1 * 0; omega
      | ⟨1, _⟩ => show (y 1).val = 0 + 1 * (y 1).val; omega
      | ⟨2, _⟩ => show (y 2).val = 0 + 1 * (y 2).val; omega
    refine (congrArg _ e.symm).trans ((View.read_writes_cons_emb _ _ _ _ _ _).trans ((hw _).trans ?_))
    show G (y 1).val (128 * n + (y 2).val) = _
    rw [hc]
  · rw [View.read_writes_cons_miss]
    · exact h y (by omega)
    · intro hm
      have h0 := (Rect.mem_set_unit (inb := ho)).mp hm (0 : Fin 3)
      have h1 : n ≤ (y 0).val := h0.1
      have h2 : (y 0).val < n + 1 := h0.2
      omega

/-- Which places of the state window chunk `j` has rewritten after `n` of its eight stores. -/
def done (j n : ℕ) (r l : ℕ) : Prop := l < 512 * j + 128 * (n / 2) ∨ (n % 2 = 1 ∧ l < 512 * j + 128 * (n / 2 + 1) ∧ r < 8)

def HOk (G H0 : Tab F) (j n : ℕ) (Y : Vec F S1x16x8192 .f32) : Prop :=
  ∀ y : S1x16x8192.Idx, (done j n (y 1).val (y 2).val → Y y = G (y 1).val (y 2).val) ∧ (¬ done j n (y 1).val (y 2).val → Y y = H0 (y 1).val (y 2).val)

theorem hOk_cons (M : Memref sig .tc .vmem S1x16x8192 .f32) (f : Bf (F := F) c M) (G H0 : Tab F) (j n r k : ℕ) (hr : r = 8 * (n % 2)) (hk : k = 128 * (n / 2))
    (L : List (View.Piece (Elt F) S1x16x8192 .f32))
    (h : HOk G H0 j n (M.view.read (Elt F) (M.view.writes (Elt F) f L))) (o : Fin 3 → ℕ) (ho : ∀ a, o a + S1x8x128.size a ≤ S1x16x8192.size a) (eo : o = ![0, r, 512 * j + k])
    (w : FVec F S1x8x128 .f32) (hw : ∀ x, w x = G (r + (x 1).val) (512 * j + (k + (x 2).val))) :
    HOk G H0 j (n + 1) (M.view.read (Elt F) (M.view.writes (Elt F) f (⟨Rect.unit (s := S1x16x8192) o S1x8x128.size ho, w⟩ :: L))) := by
  subst eo
  intro y
  have hy0 : (y 0).val < 1 := (y 0).isLt
  have hy1 : (y 1).val < 16 := (y 1).isLt
  by_cases hc : (r ≤ (y 1).val ∧ (y 1).val < r + 8) ∧ 512 * j + k ≤ (y 2).val ∧ (y 2).val < 512 * j + k + 128
  · have e : (Rect.unit (s := S1x16x8192) ![0, r, 512 * j + k] S1x8x128.size ho).emb (fun a => match a with | ⟨0, _⟩ => ⟨0, Nat.one_pos⟩ | ⟨1, _⟩ => ⟨(y 1).val - r, by show _ < 8; omega⟩ | ⟨2, _⟩ => ⟨(y 2).val - (512 * j + k), by show _ < 128; omega⟩ : S1x8x128.Idx) = y := by
      refine Rect.emb_eq_of_coords _ _ _ fun a => ?_
      match a with
      | ⟨0, _⟩ => show (y 0).val = 0 + 1 * 0; omega
      | ⟨1, _⟩ => show (y 1).val = r + 1 * ((y 1).val - r); omega
      | ⟨2, _⟩ => show (y 2).val = 512 * j + k + 1 * ((y 2).val - (512 * j + k)); omega
    have e' : M.view.read (Elt F) (M.view.writes (Elt F) f (⟨Rect.unit (s := S1x16x8192) ![0, r, 512 * j + k] S1x8x128.size ho, w⟩ :: L)) y = G (y 1).val (y 2).val := by
      refine (congrArg _ e.symm).trans ((View.read_writes_cons_emb _ _ _ _ _ _).trans ((hw _).trans ?_))
      show G (r + ((y 1).val - r)) (512 * j + (k + ((y 2).val - (512 * j + k)))) = _
      congr 1 <;> omega
    refine ⟨fun _ => e', fun hn => absurd ?_ hn⟩
    unfold done
    omega
  · rw [View.read_writes_cons_miss]
    · refine ⟨fun hd => (h y).1 ?_, fun hd => (h y).2 ?_⟩
      · unfold done at hd ⊢; omega
      · unfold done at hd ⊢; omega
    · intro hm
      have h1 := (Rect.mem_set_unit (inb := ho)).mp hm (1 : Fin 3)
      have h2 := (Rect.mem_set_unit (inb := ho)).mp hm (2 : Fin 3)
      have h1a : r ≤ (y 1).val := h1.1
      have h1b : (y 1).val < r + 8 := h1.2
      have h2a : 512 * j + k ≤ (y 2).val := h2.1
      have h2b : (y 2).val < 512 * j + k + 128 := h2.2
      omega

theorem hOk_next (G H0 : Tab F) (j : ℕ) (Y : Vec F S1x16x8192 .f32) (h : HOk G H0 j 8 Y) : HOk G H0 (j + 1) 0 Y := fun y => by
  refine ⟨fun hd => (h y).1 ?_, fun hd => (h y).2 ?_⟩ <;> unfold done at hd ⊢ <;> omega

/-- A load of the state window at a chunk not yet rewritten. -/
theorem rd_h (M : Memref sig .tc .vmem S1x16x8192 .f32) (f : Bf (F := F) c M) (G H0 : Tab F) (j : ℕ)
    (h : HOk G H0 j 0 (M.view.read (Elt F) f)) (p q : ℕ) (o : Fin 3 → ℕ) (ho : ∀ a, o a + S1x8x128.size a ≤ S1x16x8192.size a) (eo : o = ![0, p, 512 * j + q])
    (x : S1x8x128.Idx) : View.readAt (Elt F) M.view (Rect.unit (s := S1x16x8192) o S1x8x128.size ho).toLoadRect f x = H0 (p + (x 1).val) (512 * j + (q + (x 2).val)) := by
  subst eo
  refine ((h _).2 ?_).trans ?_
  · show ¬ done j 0 (p + 1 * (x 1).val) (512 * j + q + 1 * (x 2).val)
    unfold done; omega
  · show H0 (p + 1 * (x 1).val) (512 * j + q + 1 * (x 2).val) = _
    congr 1 <;> omega

/-- The lanes of the output window before chunk `j` hold the output. -/
def YOk (G : ℕ → ℕ → F .bf16) (j : ℕ) (Y : Vec F S1x64x8192 .bf16) : Prop :=
  ∀ y : S1x64x8192.Idx, (y 2).val < 512 * j → Y y = G (y 1).val (y 2).val

theorem yOk_store (M : Memref sig .tc .vmem S1x64x8192 .bf16) (f : Bf (F := F) c M) (G : ℕ → ℕ → F .bf16) (j : ℕ)
    (h : YOk G j (M.view.read (Elt F) f)) (o : Fin 3 → ℕ) (ho : ∀ a, o a + S1x64x512.size a ≤ S1x64x8192.size a) (eo : o = ![0, 0, 512 * j])
    (w : FVec F S1x64x512 .bf16) (hw : ∀ x, w x = G (x 1).val (512 * j + (x 2).val)) :
    YOk G (j + 1) (M.view.read (Elt F) (M.view.writes (Elt F) f [⟨Rect.unit (s := S1x64x8192) o S1x64x512.size ho, w⟩])) := by
  subst eo
  intro y hy
  have hy0 : (y 0).val < 1 := (y 0).isLt
  by_cases hc : 512 * j ≤ (y 2).val
  · have e : (Rect.unit (s := S1x64x8192) ![0, 0, 512 * j] S1x64x512.size ho).emb (fun a => match a with | ⟨0, _⟩ => ⟨0, Nat.one_pos⟩ | ⟨1, _⟩ => ⟨(y 1).val, (y 1).isLt⟩ | ⟨2, _⟩ => ⟨(y 2).val - 512 * j, by show _ < 512; omega⟩ : S1x64x512.Idx) = y := by
      refine Rect.emb_eq_of_coords _ _ _ fun a => ?_
      match a with
      | ⟨0, _⟩ => show (y 0).val = 0 + 1 * 0; omega
      | ⟨1, _⟩ => show (y 1).val = 0 + 1 * (y 1).val; omega
      | ⟨2, _⟩ => show (y 2).val = 512 * j + 1 * ((y 2).val - 512 * j); omega
    refine (congrArg _ e.symm).trans ((View.read_writes_cons_emb _ _ _ _ _ _).trans ((hw _).trans ?_))
    show G (y 1).val (512 * j + ((y 2).val - 512 * j)) = _
    congr 1; omega
  · rw [View.read_writes_cons_miss]
    · exact h y (by omega)
    · intro hm
      have h2 := (Rect.mem_set_unit (inb := ho)).mp hm (2 : Fin 3)
      have h2a : 512 * j ≤ (y 2).val := h2.1
      omega
end

end Cert.Proof.KernelIdeal
-- ==== Proof.KernelIdeal.RegularEq.lean ====
/- The printed group trip is the regular one. -/
module

public import proofs.«01_k».proof.Proof.KernelIdeal.Regular

@[expose] public section

set_option maxRecDepth 65536

noncomputable section

namespace Cert.Proof.KernelIdeal

open Cert.KernelIdeal Cert.KernelIdeal.Gen
open Idealize.ShloMosaic Idealize.SL.Sem

variable {F : FTy → Type} [FloatOps F] [Named F]

set_option maxHeartbeats 2000000 in
/-- The printed trip is the regular one. -/
theorem k0_t2_body_eq (i : grid0.Coords) (arg2 : Memref sig .tc .vmem S1x64x8192 .fp8e4m3) (harg2 : arg2.IsWhole) (arg3 : Memref sig .tc .vmem S1x64x8192 .fp8e4m3) (harg3 : arg3.IsWhole) (arg4 : Memref sig .tc .vmem S1x64x8192 .bf16) (harg4 : arg4.IsWhole) (arg5 : Memref sig .tc .vmem S1x64x4 .f32) (harg5 : arg5.IsWhole) (arg6 : Memref sig .tc .vmem S1x1x16x64 .fp8e4m3) (harg6 : arg6.IsWhole) (arg7 : Memref sig .tc .vmem S1x1x1x64 .f32) (harg7 : arg7.IsWhole) (arg8 : Memref sig .tc .vmem S1x1x16x64 .fp8e4m3) (harg8 : arg8.IsWhole) (arg9 : Memref sig .tc .vmem S1x1x1x64 .f32) (harg9 : arg9.IsWhole) (arg10 : Memref sig .tc .vmem S16x8192 .f32) (harg10 : arg10.IsWhole) (arg11 : Memref sig .tc .vmem S1x8192 .f32) (harg11 : arg11.IsWhole) (arg12 : Memref sig .tc .vmem S1x8192 .f32) (harg12 : arg12.IsWhole) (arg13 : Memref sig .tc .vmem S1x64x8192 .bf16) (harg13 : arg13.IsWhole) (arg14 : Memref sig .tc .vmem S1x16x8192 .f32) (harg14 : arg14.IsWhole) (arg15 : Memref sig .tc .vmem S64x16x128 .f32) (harg15 : arg15.IsWhole) (arg16 : Memref sig .tc .vmem S64x16x128 .f32) (harg16 : arg16.IsWhole) (arg17 : Memref sig .tc .vmem S4x64x128 .f32) (harg17 : arg17.IsWhole) (arg18 : Memref sig .tc .vmem S4x64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S4x200x128 .f32) (harg21 : arg21.IsWhole) (k0_t1 : Fin k0_t1_loop.trips) (v787 : BitVec 32) (v910 v914 v918 v922 v926 v930 v934 v938 v942 : FVec F S8x128 .f32) (v945 : Vec F S1x8x128 .f32)
    (g : Fin k0_t2_loop.trips) (h : St F) :
    k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v787 v910 v914 v918 v922 v926 v930 v934 v938 v942 v945 g h
      = group arg15 arg16 arg17 arg18 arg20 arg21 g (v910, v914, v918, v922, v926, v930, v934, v938) h := by
  dsimp only [k0_t2_body, group, token, cell, column, k0_part39_eq_skeleton, k0_part39_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel,
    Prog.lift, Prog.bind_op, Prog.bind_ret, pure, Prog.instMonad]
  dsimp only [k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147,
    k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201,
    k0_pay231]
  rfl

end Cert.Proof.KernelIdeal
-- ==== Proof.KernelIdeal.Chunk.lean ====
/- The triple of one chunk of lanes. -/
module

public import proofs.«01_k».proof.Proof.KernelIdeal.Group
public import proofs.«01_k».proof.Proof.KernelIdeal.Tables
public import proofs.«01_k».proof.Proof.KernelIdeal.RegularEq
public import Idealize.ShloMosaic.Lib.Exec
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The eight groups of a chunk -/

section
variable (c : Dev nD) (bb cb : Memref sig .tc .vmem S64x16x128 .f32) (de u : Memref sig .tc .vmem S4x64x128 .f32)
  (yt : Memref sig .tc .vmem S64x512 .f32) (yb : Memref sig .tc .vmem S4x200x128 .f32)
  (A D U B C H0 : Tab F)
  (fb : Bf (F := F) c bb) (fc : Bf (F := F) c cb) (fd : Bf (F := F) c de) (fu : Bf (F := F) c u)
  (hb : ∀ x, bb.view.read (Elt F) fb x = B (x 0).val (x 1).val) (hc : ∀ x, cb.view.read (Elt F) fc x = C (x 0).val (x 1).val)
  (hd : ∀ x, de.view.read (Elt F) fd x = D (x 1).val (128 * (x 0).val + (x 2).val)) (hu : ∀ x, u.view.read (Elt F) fu x = U (x 1).val (128 * (x 0).val + (x 2).val))

theorem k0_t2_trips : k0_t2_loop.trips = 8 := by decide +kernel

include hb hc hd hu in
theorem wp_groups (body : Fin k0_t2_loop.trips → St F → Prog (TpuEff nD τ sig (Elt F) Λ₀ .tc) (St F))
    (hbody : ∀ g h, body g h = group bb cb de u yt yb g (stV A) h) (init : St F) (hinit : init = stV H0) (Q : St F → sProp 𝕄) :
    iprop(groupR c bb cb de u yt yb A D U B C H0 fb fc fd fu 0 ∗
      (groupR c bb cb de u yt yb A D U B C H0 fb fc fd fu 8 -∗ Q (stV (hst A D U B H0 64))))
      ⊢ wpc c (k0_t2_loop.for k0_t2_ok init body) Q := by
  unfold wpc
  iintro ⟨HR, HK⟩
  iapply (Scf.wp_for frame (wpE (defs₀ (F := F)) Variants.none (c : Thread nD τ) none) Set.univ k0_t2_loop.lb k0_t2_loop.ub k0_t2_loop.st k0_t2_ok init body
    (fun k acc => iprop(⌜acc = stV (hst A D U B H0 (8 * k))⌝ ∗ groupR c bb cb de u yt yb A D U B C H0 fb fc fd fu k)) (by
      intro g acc
      rw [hbody]
      iintro ⟨%e, HR⟩
      subst e
      iapply (wp_group c bb cb de u yt yb A D U B C H0 fb fc fd fu hb hc hd hu g _)
      isplitl [HR]; · iexact HR
      iintro HR
      isplitr
      · ipureintro; rfl
      · iexact HR))
  isplitl [HR]
  · isplitr
    · ipureintro; exact hinit
    · iexact HR
  iintro %acc H
  icases H with ⟨%e, HR⟩
  rw [show Scf.trips k0_t2_loop.lb k0_t2_loop.ub k0_t2_loop.st = 8 from k0_t2_trips] at e
  subst e
  iapply HK
  rw [show Scf.trips k0_t2_loop.lb k0_t2_loop.ub k0_t2_loop.st = 8 from k0_t2_trips]
  iexact HR
end

/-! ## One chunk -/

section
variable (c : Dev nD) (W : Tabs F) (i : grid0.Coords) (arg2 : Memref sig .tc .vmem S1x64x8192 .fp8e4m3) (harg2 : arg2.IsWhole) (arg3 : Memref sig .tc .vmem S1x64x8192 .fp8e4m3) (harg3 : arg3.IsWhole) (arg4 : Memref sig .tc .vmem S1x64x8192 .bf16) (harg4 : arg4.IsWhole) (arg5 : Memref sig .tc .vmem S1x64x4 .f32) (harg5 : arg5.IsWhole) (arg6 : Memref sig .tc .vmem S1x1x16x64 .fp8e4m3) (harg6 : arg6.IsWhole) (arg7 : Memref sig .tc .vmem S1x1x1x64 .f32) (harg7 : arg7.IsWhole) (arg8 : Memref sig .tc .vmem S1x1x16x64 .fp8e4m3) (harg8 : arg8.IsWhole) (arg9 : Memref sig .tc .vmem S1x1x1x64 .f32) (harg9 : arg9.IsWhole) (arg10 : Memref sig .tc .vmem S16x8192 .f32) (harg10 : arg10.IsWhole) (arg11 : Memref sig .tc .vmem S1x8192 .f32) (harg11 : arg11.IsWhole) (arg12 : Memref sig .tc .vmem S1x8192 .f32) (harg12 : arg12.IsWhole) (arg13 : Memref sig .tc .vmem S1x64x8192 .bf16) (harg13 : arg13.IsWhole) (arg14 : Memref sig .tc .vmem S1x16x8192 .f32) (harg14 : arg14.IsWhole) (arg15 : Memref sig .tc .vmem S64x16x128 .f32) (harg15 : arg15.IsWhole) (arg16 : Memref sig .tc .vmem S64x16x128 .f32) (harg16 : arg16.IsWhole) (arg17 : Memref sig .tc .vmem S4x64x128 .f32) (harg17 : arg17.IsWhole) (arg18 : Memref sig .tc .vmem S4x64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S4x200x128 .f32) (harg21 : arg21.IsWhole)
  (fx : Bf (F := F) c arg2) (fdt : Bf (F := F) c arg3) (fz : Bf (F := F) c arg4) (fs : Bf (F := F) c arg5) (fa : Bf (F := F) c arg10) (fdd : Bf (F := F) c arg11) (fbi : Bf (F := F) c arg12) (fb : Bf (F := F) c arg15) (fc : Bf (F := F) c arg16)
  (hX : ∀ x, arg2.view.read (Elt F) fx x = W.X (x 1).val (x 2).val) (hDT : ∀ x, arg3.view.read (Elt F) fdt x = W.DT (x 1).val (x 2).val)
  (hZ : ∀ x, arg4.view.read (Elt F) fz x = W.Z (x 1).val (x 2).val) (hS : ∀ x, arg5.view.read (Elt F) fs x = W.SC (x 1).val (x 2).val)
  (hA : ∀ x, arg10.view.read (Elt F) fa x = W.A (x 0).val (x 1).val) (hD : ∀ x, arg11.view.read (Elt F) fdd x = W.DD (x 1).val)
  (hB : ∀ x, arg12.view.read (Elt F) fbi x = W.BI (x 1).val)
  (hb : ∀ x, arg15.view.read (Elt F) fb x = W.B (x 0).val (x 1).val) (hc : ∀ x, arg16.view.read (Elt F) fc x = W.C (x 0).val (x 1).val)

/-- What the chunks hold before chunk `j`. -/
def chunkR (arg2 : Memref sig .tc .vmem S1x64x8192 .fp8e4m3) (arg3 : Memref sig .tc .vmem S1x64x8192 .fp8e4m3) (arg4 : Memref sig .tc .vmem S1x64x8192 .bf16) (arg5 : Memref sig .tc .vmem S1x64x4 .f32)
    (arg10 : Memref sig .tc .vmem S16x8192 .f32) (arg11 : Memref sig .tc .vmem S1x8192 .f32) (arg12 : Memref sig .tc .vmem S1x8192 .f32) (arg13 : Memref sig .tc .vmem S1x64x8192 .bf16) (arg14 : Memref sig .tc .vmem S1x16x8192 .f32)
    (arg15 : Memref sig .tc .vmem S64x16x128 .f32) (arg16 : Memref sig .tc .vmem S64x16x128 .f32) (arg17 arg18 : Memref sig .tc .vmem S4x64x128 .f32) (arg19 arg20 : Memref sig .tc .vmem S64x512 .f32) (arg21 : Memref sig .tc .vmem S4x200x128 .f32)
    (fx : Bf (F := F) c arg2) (fdt : Bf (F := F) c arg3) (fz : Bf (F := F) c arg4) (fs : Bf (F := F) c arg5) (fa : Bf (F := F) c arg10) (fdd : Bf (F := F) c arg11) (fbi : Bf (F := F) c arg12) (fb : Bf (F := F) c arg15) (fc : Bf (F := F) c arg16)
    (j : ℕ) : sProp 𝕄 :=
  iprop(held c arg2 fx ∗ held c arg3 fdt ∗ held c arg4 fz ∗ held c arg5 fs ∗ held c arg10 fa ∗ held c arg11 fdd ∗ held c arg12 fbi ∗
    (∃ f, ⌜YOk W.OUT j (arg13.view.read (Elt F) f)⌝ ∗ held c arg13 f) ∗ (∃ f, ⌜HOk (W.HS 64) W.H0 j 0 (arg14.view.read (Elt F) f)⌝ ∗ held c arg14 f) ∗
    held c arg15 fb ∗ held c arg16 fc ∗ (∃ f, held c arg17 f) ∗ (∃ f, held c arg18 f) ∗ (∃ f, held c arg19 f) ∗ (∃ f, held c arg20 f) ∗ (∃ f, held c arg21 f))

theorem lo_eq (v : Vec F S1x8x128 .f32) (H0 : Tab F) (j k : ℕ) (h : ∀ x, v x = H0 (0 + (x 1).val) (512 * j + (128 * k + (x 2).val))) :
    shapeCast S8x128 v shapeCasts_S1x8x128_S8x128 = loV (fun n l => H0 n (512 * j + l)) k :=
  funext fun i => (cast_drop v (fun a b => H0 (0 + a) (512 * j + (128 * k + b))) h i).trans (by show H0 (0 + (i 0).val) _ = H0 (i 0).val _; rw [Nat.zero_add])
theorem hi_eq (v : Vec F S1x8x128 .f32) (H0 : Tab F) (j k : ℕ) (h : ∀ x, v x = H0 (8 + (x 1).val) (512 * j + (128 * k + (x 2).val))) :
    shapeCast S8x128 v shapeCasts_S1x8x128_S8x128 = hiV (fun n l => H0 n (512 * j + l)) k :=
  funext fun i => cast_drop v (fun a b => H0 (8 + a) (512 * j + (128 * k + b))) h i
theorem alo_eq (v : Vec F S8x128 .f32) (H0 : Tab F) (j k : ℕ) (h : ∀ x, v x = H0 (0 + (x 0).val) (512 * j + 128 * k + (x 1).val)) :
    shapeCast S8x128 v shapeCasts_S8x128_S8x128 = loV (fun n l => H0 n (512 * j + l)) k :=
  funext fun i => by rw [shapeCast_self, h, Nat.zero_add, Nat.add_assoc]; rfl
theorem ahi_eq (v : Vec F S8x128 .f32) (H0 : Tab F) (j k : ℕ) (h : ∀ x, v x = H0 (8 + (x 0).val) (512 * j + 128 * k + (x 1).val)) :
    shapeCast S8x128 v shapeCasts_S8x128_S8x128 = hiV (fun n l => H0 n (512 * j + l)) k :=
  funext fun i => by rw [shapeCast_self, h, Nat.add_assoc]; rfl
theorem st_lo (X : Tab F) (k : ℕ) (x : S1x8x128.Idx) : shapeCast S1x8x128 (loV X k) shapeCasts_S8x128_S1x8x128 x = X (0 + (x 1).val) (128 * k + (x 2).val) :=
  (cast_add _ (fun a b => X a (128 * k + b)) (fun _ => rfl) x).trans (by rw [Nat.zero_add])
theorem st_hi (X : Tab F) (k : ℕ) (x : S1x8x128.Idx) : shapeCast S1x8x128 (hiV X k) shapeCasts_S8x128_S1x8x128 x = X (8 + (x 1).val) (128 * k + (x 2).val) :=
  cast_add _ (fun a b => X (8 + a) (128 * k + b)) (fun _ => rfl) x

include hX hDT hZ hS hA hD hB hb hc in
set_option maxHeartbeats 1000000 in
theorem wp_chunk (j : Fin k0_t1_loop.trips) (Q : Unit → sProp 𝕄) :
    iprop(chunkR c W arg2 arg3 arg4 arg5 arg10 arg11 arg12 arg13 arg14 arg15 arg16 arg17 arg18 arg19 arg20 arg21 fx fdt fz fs fa fdd fbi fb fc j.val ∗ (chunkR c W arg2 arg3 arg4 arg5 arg10 arg11 arg12 arg13 arg14 arg15 arg16 arg17 arg18 arg19 arg20 arg21 fx fdt fz fs fa fdd fbi fb fc (j.val + 1) -∗ Q ()))
      ⊢ wpc c (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 0#32 j ()) Q := by
  unfold wpc chunkR k0_t1_body
  simp only [k0_part40_eq_skeleton, k0_part41_eq_skeleton, k0_part42_eq_skeleton, k0_part43_eq_skeleton, k0_part44_eq_skeleton, k0_part45_eq_skeleton]
  unfold k0_part40_skel k0_part41_skel k0_part42_skel k0_part43_skel k0_part44_skel k0_part45_skel
  iintro ⟨⟨H2, H3, H4, H5, H10, H11, H12, ⟨%fyo, %hyo, H13⟩, ⟨%fh, %hh, H14⟩, H15, H16, ⟨%fde, H17⟩, ⟨%fu, H18⟩, ⟨%fxf, H19⟩, ⟨%ft, H20⟩, ⟨%fy, H21⟩⟩, HK⟩
  sl_exec
  dsimp only
  -- what the loads read
  have ls := pay202_apply _ (W.sh j.val).SC (rd_sc c arg5 fs W.SC hS inb_S1x64x4_S1x64x4_0_0_0)
  have ll := pay203_apply _ _ _ (W.sh j.val).SC (W.sh j.val).DT (W.sh j.val).BI (rd_sc c arg5 fs W.SC hS inb_S1x64x4_S1x64x4_0_0_0)
    (rd_win c arg3 fdt W.DT hDT _ _ (k0_off1_inb j) (k0_off1_eq j)) (rd_row c arg12 fbi W.BI hB _ _ (k0_off2_inb j) (k0_off2_eq j))
  have lx := pay204_apply _ (W.sh j.val).X (rd_win c arg2 fx W.X hX _ _ (k0_off1_inb j) (k0_off1_eq j))
  have pd := de_pieces _ _ (W.sh j.val).SC (W.sh j.val).DL ls ll
  have pu := u_pieces _ _ _ (W.sh j.val).SC (W.sh j.val).DL (W.sh j.val).X ls ll lx
  have hde := slabOk_cons c arg17 fde (W.sh j.val).DE 3 _ (slabOk_cons c arg17 fde (W.sh j.val).DE 2 _ (slabOk_cons c arg17 fde (W.sh j.val).DE 1 _ (slabOk_cons c arg17 fde (W.sh j.val).DE 0 []
    (fun y h => absurd h (Nat.not_lt_zero _)) inb_S4x64x128_S1x64x128_0_0_0 _ fun x => (pd x).1) inb_S4x64x128_S1x64x128_1_0_0 _ fun x => (pd x).2.1)
    inb_S4x64x128_S1x64x128_2_0_0 _ fun x => (pd x).2.2.1) inb_S4x64x128_S1x64x128_3_0_0 _ fun x => (pd x).2.2.2
  have hu := slabOk_cons c arg18 fu (W.sh j.val).U 3 _ (slabOk_cons c arg18 fu (W.sh j.val).U 2 _ (slabOk_cons c arg18 fu (W.sh j.val).U 1 _ (slabOk_cons c arg18 fu (W.sh j.val).U 0 []
    (fun y h => absurd h (Nat.not_lt_zero _)) inb_S4x64x128_S1x64x128_0_0_0 _ fun x => (pu x).1) inb_S4x64x128_S1x64x128_1_0_0 _ fun x => (pu x).2.1)
    inb_S4x64x128_S1x64x128_2_0_0 _ fun x => (pu x).2.2.1) inb_S4x64x128_S1x64x128_3_0_0 _ fun x => (pu x).2.2.2
  have hxf := fun f => st_full c arg19 f (W.sh j.val).XF inb_S64x512_S64x512_0_0 _ (pay214_apply _ _ (W.sh j.val).SC (W.sh j.val).X ls lx _ (W.sh j.val).DD (rd_row c arg11 fdd W.DD hD _ _ (k0_off2_inb j) (k0_off2_eq j)))
  rw [wp_bind, wp_bind]
  iapply (wp_groups c arg15 arg16 arg17 arg18 arg20 arg21 (W.sh j.val).A (W.sh j.val).DE (W.sh j.val).U W.B W.C (W.sh j.val).H0 fb fc _ _ hb hc
    (fun x => hde x (x 0).isLt) (fun x => hu x (x 0).isLt) _
    (fun g h => (k0_t2_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 j _ _ _ _ _ _ _ _ _ _ _ g h).trans (congrArg (fun a => group arg15 arg16 arg17 arg18 arg20 arg21 g a h) (show _ = stV (W.sh j.val).A from
      Prod.ext (alo_eq _ W.A j.val 0 (rd_a c arg10 fa W.A hA _ _ _ (k0_off3_inb j 0) (k0_off3_eq j 0))) (Prod.ext (ahi_eq _ W.A j.val 0 (rd_a c arg10 fa W.A hA _ _ _ (k0_off4_inb j 0) (k0_off4_eq j 0)))
      (Prod.ext (alo_eq _ W.A j.val 1 (rd_a c arg10 fa W.A hA _ _ _ (k0_off3_inb j 1) (k0_off3_eq j 1))) (Prod.ext (ahi_eq _ W.A j.val 1 (rd_a c arg10 fa W.A hA _ _ _ (k0_off4_inb j 1) (k0_off4_eq j 1)))
      (Prod.ext (alo_eq _ W.A j.val 2 (rd_a c arg10 fa W.A hA _ _ _ (k0_off3_inb j 2) (k0_off3_eq j 2))) (Prod.ext (ahi_eq _ W.A j.val 2 (rd_a c arg10 fa W.A hA _ _ _ (k0_off4_inb j 2) (k0_off4_eq j 2)))
      (Prod.ext (alo_eq _ W.A j.val 3 (rd_a c arg10 fa W.A hA _ _ _ (k0_off3_inb j 3) (k0_off3_eq j 3))) (ahi_eq _ W.A j.val 3 (rd_a c arg10 fa W.A hA _ _ _ (k0_off4_inb j 3) (k0_off4_eq j 3)))))))))))) _
    (show _ = stV (W.sh j.val).H0 from
      Prod.ext (lo_eq _ W.H0 j.val 0 (rd_h c arg14 fh _ W.H0 j.val hh _ _ _ (k0_off5_inb j 0) (k0_off5_eq j 0))) (Prod.ext (hi_eq _ W.H0 j.val 0 (rd_h c arg14 fh _ W.H0 j.val hh _ _ _ (k0_off6_inb j 0) (k0_off6_eq j 0)))
      (Prod.ext (lo_eq _ W.H0 j.val 1 (rd_h c arg14 fh _ W.H0 j.val hh _ _ _ (k0_off5_inb j 1) (k0_off5_eq j 1))) (Prod.ext (hi_eq _ W.H0 j.val 1 (rd_h c arg14 fh _ W.H0 j.val hh _ _ _ (k0_off6_inb j 1) (k0_off6_eq j 1)))
      (Prod.ext (lo_eq _ W.H0 j.val 2 (rd_h c arg14 fh _ W.H0 j.val hh _ _ _ (k0_off5_inb j 2) (k0_off5_eq j 2))) (Prod.ext (hi_eq _ W.H0 j.val 2 (rd_h c arg14 fh _ W.H0 j.val hh _ _ _ (k0_off6_inb j 2) (k0_off6_eq j 2)))
      (Prod.ext (lo_eq _ W.H0 j.val 3 (rd_h c arg14 fh _ W.H0 j.val hh _ _ _ (k0_off5_inb j 3) (k0_off5_eq j 3))) (hi_eq _ W.H0 j.val 3 (rd_h c arg14 fh _ W.H0 j.val hh _ _ _ (k0_off6_inb j 3) (k0_off6_eq j 3)))))))))) _)
  isplitl [H15 H16 H17 H18 H20 H21]
  · unfold groupR
    isplitl [H15]; · iexact H15
    isplitl [H16]; · iexact H16
    isplitl [H17]; · iexact H17
    isplitl [H18]; · iexact H18
    isplitl [H21]; · iexists _; iexact H21
    iexists _
    isplitr
    swap; · iexact H20
    ipureintro
    exact fun y h => absurd h (by omega)
  iintro HR
  unfold groupR
  icases HR with ⟨H15, H16, H17, H18, ⟨%fy', H21⟩, ⟨%ft', %hft, H20⟩⟩
  generalize hX' : hst (W.sh j.val).A (W.sh j.val).DE (W.sh j.val).U W.B (W.sh j.val).H0 64 = X'
  generalize hG : W.HS 64 = G at hh ⊢
  dsimp only [stV]
  sl_exec
  dsimp only
  sl_step
  have hs64 : ∀ n l, X' n l = G n (512 * j.val + l) := fun n l => by
    rw [← hX', ← hG]; exact congrFun (congrFun (W.sh_HS j.val 64) n) l
  have e0 : ∀ x, k0_pay232 (loV X' 0) x = G (0 + (x 1).val) (512 * j.val + (128 * 0 + (x 2).val)) := fun x => (st_lo X' 0 x).trans (hs64 _ _)
  have e1 : ∀ x, k0_pay233 (hiV X' 0) x = G (8 + (x 1).val) (512 * j.val + (128 * 0 + (x 2).val)) := fun x => (st_hi X' 0 x).trans (hs64 _ _)
  have e2 : ∀ x, k0_pay234 (loV X' 1) x = G (0 + (x 1).val) (512 * j.val + (128 * 1 + (x 2).val)) := fun x => (st_lo X' 1 x).trans (hs64 _ _)
  have e3 : ∀ x, k0_pay235 (hiV X' 1) x = G (8 + (x 1).val) (512 * j.val + (128 * 1 + (x 2).val)) := fun x => (st_hi X' 1 x).trans (hs64 _ _)
  have e4 : ∀ x, k0_pay236 (loV X' 2) x = G (0 + (x 1).val) (512 * j.val + (128 * 2 + (x 2).val)) := fun x => (st_lo X' 2 x).trans (hs64 _ _)
  have e5 : ∀ x, k0_pay237 (hiV X' 2) x = G (8 + (x 1).val) (512 * j.val + (128 * 2 + (x 2).val)) := fun x => (st_hi X' 2 x).trans (hs64 _ _)
  have e6 : ∀ x, k0_pay238 (loV X' 3) x = G (0 + (x 1).val) (512 * j.val + (128 * 3 + (x 2).val)) := fun x => (st_lo X' 3 x).trans (hs64 _ _)
  have e7 : ∀ x, k0_pay239 (hiV X' 3) x = G (8 + (x 1).val) (512 * j.val + (128 * 3 + (x 2).val)) := fun x => (st_hi X' 3 x).trans (hs64 _ _)
  have hout : ∀ T l, (W.sh j.val).OUT T l = W.OUT T (512 * j.val + l) := fun T l => by
    show outS _ ((W.sh j.val).YS T l) _ = outS _ (W.YS T (512 * j.val + l)) _
    rw [Tabs.sh_YS]; rfl
  iapply HK
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]
  · iexists _
    isplitr
    swap; · iexact H13
    ipureintro
    sl_unfold_run_names
    exact yOk_store c arg13 fyo W.OUT j.val hyo _ (k0_off1_inb j) (k0_off1_eq j) _ fun x =>
      (pay1_apply _ _ _ (W.sh j.val).Z (W.sh j.val).YS (W.sh j.val).XF (rd_win c arg4 fz W.Z hZ _ _ (k0_off1_inb j) (k0_off1_eq j))
        (rd_full c arg20 ft' (W.sh j.val).YS (fun y => hft y (Or.inl (y 0).isLt)) inb_S64x512_S64x512_0_0)
        (rd_full c arg19 _ (W.sh j.val).XF (hxf _) inb_S64x512_S64x512_0_0) x).trans (hout _ _)
  isplitl [H14]
  · iexists _
    isplitr
    swap; · iexact H14
    ipureintro
    exact hOk_next _ _ _ _ (hOk_cons c arg14 fh G W.H0 j.val 7 8 (128 * 3) rfl rfl _ (hOk_cons c arg14 fh G W.H0 j.val 6 0 (128 * 3) rfl rfl _ (hOk_cons c arg14 fh G W.H0 j.val 5 8 (128 * 2) rfl rfl _ (hOk_cons c arg14 fh G W.H0 j.val 4 0 (128 * 2) rfl rfl _ (hOk_cons c arg14 fh G W.H0 j.val 3 8 (128 * 1) rfl rfl _ (hOk_cons c arg14 fh G W.H0 j.val 2 0 (128 * 1) rfl rfl _ (hOk_cons c arg14 fh G W.H0 j.val 1 8 (128 * 0) rfl rfl _ (hOk_cons c arg14 fh G W.H0 j.val 0 0 (128 * 0) rfl rfl [] hh
      _ (k0_off5_inb j 0) (k0_off5_eq j 0) _ e0)
      _ (k0_off6_inb j 0) (k0_off6_eq j 0) _ e1)
      _ (k0_off5_inb j 1) (k0_off5_eq j 1) _ e2)
      _ (k0_off6_inb j 1) (k0_off6_eq j 1) _ e3)
      _ (k0_off5_inb j 2) (k0_off5_eq j 2) _ e4)
      _ (k0_off6_inb j 2) (k0_off6_eq j 2) _ e5)
      _ (k0_off5_inb j 3) (k0_off5_eq j 3) _ e6)
      _ (k0_off6_inb j 3) (k0_off6_eq j 3) _ e7)
  isplitl [H15]; · iexact H15
  isplitl [H16]; · iexact H16
  isplitl [H17]; · iexists _; iexact H17
  isplitl [H18]; · iexists _; iexact H18
  isplitl [H19]; · iexists _; iexact H19
  isplitl [H20]; · iexists _; iexact H20
  iexists _; iexact H21
end

end Cert.Proof.KernelIdeal
-- ==== Proof.KernelIdeal.Prologue.lean ====
/- The start of a grid point: the state reset and the two broadcast tables. -/
module

public import proofs.«01_k».proof.Proof.KernelIdeal.Chunk
public import Idealize.ShloMosaic.Lib.Exec
public import Idealize.ShloMosaic.Lib.Pointwise.Reshape
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The broadcast tables -/

abbrev T1x16x64 : Shape := ⟨3, ![1, 16, 64]⟩
abbrev T1x1x64 : Shape := ⟨3, ![1, 1, 64]⟩

theorem squeeze2 (v : Vec F S1x1x16x64 .fp8e4m3) (X : ℕ → ℕ → F .fp8e4m3) (h : ∀ x, v x = X (x 2).val (x 3).val) (i : S16x64.Idx) :
    shapeCast S16x64 v shapeCasts_S1x1x16x64_S16x64 i = X (i 0).val (i 1).val := by
  have h1 : S1x1x16x64.ShapeCasts T1x16x64 := by decide
  have h2 : T1x16x64.ShapeCasts S16x64 := by decide
  rw [← shapeCast_comp v h1 h2]
  exact (shapeCast_dropUnit_apply ![16, 64] _ h2 i).trans ((shapeCast_dropUnit_apply ![1, 16, 64] v h1 _).trans (h _))

theorem squeeze1 (v : Vec F S1x1x1x64 .f32) (X : ℕ → F .f32) (h : ∀ x, v x = X (x 3).val) (i : S1x64.Idx) :
    shapeCast S1x64 v shapeCasts_S1x1x1x64_S1x64 i = X (i 1).val := by
  have h1 : S1x1x1x64.ShapeCasts T1x1x64 := by decide
  have h2 : T1x1x64.ShapeCasts S1x64 := by decide
  rw [← shapeCast_comp v h1 h2]
  exact (shapeCast_dropUnit_apply ![1, 64] _ h2 i).trans ((shapeCast_dropUnit_apply ![1, 1, 64] v h1 _).trans (h _))

/-- The scaled table of which the columns are broadcast. -/
theorem scaled_apply (v : Vec F S1x1x16x64 .fp8e4m3) (s : Vec F S1x1x1x64 .f32) (X : ℕ → ℕ → F .fp8e4m3) (S : ℕ → F .f32)
    (hv : ∀ x, v x = X (x 2).val (x 3).val) (hs : ∀ x, s x = S (x 3).val) (i : S16x64.Idx) :
    k0_pay241 v s i = FloatOps.mulf (FloatOps.extf .f32 bitsLt_fp8e4m3_f32 (X (i 0).val (i 1).val)) (S (i 1).val)
    ∧ k0_pay242 v s i = FloatOps.mulf (FloatOps.extf .f32 bitsLt_fp8e4m3_f32 (X (i 0).val (i 1).val)) (S (i 1).val) :=
  have e := congrArg₂ (fun (p : F .fp8e4m3) (q : F .f32) => FloatOps.mulf (FloatOps.extf .f32 bitsLt_fp8e4m3_f32 p) q) (squeeze2 v X hv i)
    ((squeeze1 s S hs _ : broadcastTo S16x64 (shapeCast S1x64 s shapeCasts_S1x1x1x64_S1x64) broadcasts_S1x64_S16x64 i = S (i 1).val))
  ⟨e, e⟩

/-- A column of a table, broadcast over the lanes. -/
theorem col_apply (v : FVec F S16x64 .f32) (X : Tab F) (hv : ∀ i, v i = X (i 1).val (i 0).val) (t : ℕ) (h : S16x64.Slices ![0, t] S16x1) (x : S1x16x128.Idx) :
    shapeCast S1x16x128 (broadcastTo S16x128 (shapeCast S16x1 (extractStridedSlice S16x1 ![0, t] v h) shapeCasts_S16x1_S16x1) broadcasts_S16x1_S16x128) shapeCasts_S16x128_S1x16x128 x
      = X t (x 1).val := by
  rw [shapeCast_self]
  refine (shapeCast_addUnit_apply ![16, 128] _ shapeCasts_S16x128_S1x16x128 x).trans ((hv _).trans ?_)
  show X (t + 0) (0 + (x 1).val) = _
  congr 1; omega

/-- The first `n` slabs of a broadcast table hold the columns. -/
def FillOk (G : Tab F) (n : ℕ) (Y : Vec F S64x16x128 .f32) : Prop :=
  ∀ y : S64x16x128.Idx, (y 0).val < n → Y y = G (y 0).val (y 1).val

theorem fillOk_cons (c : Dev nD) (M : Memref sig .tc .vmem S64x16x128 .f32) (f : Bf (F := F) c M) (G : Tab F) (n : ℕ) (L : List (View.Piece (Elt F) S64x16x128 .f32))
    (ho : ∀ a, (![n, 0, 0] : Fin 3 → ℕ) a + S1x16x128.size a ≤ S64x16x128.size a)
    (w : FVec F S1x16x128 .f32) (hw : ∀ x, w x = G n (x 1).val) (h : FillOk G n (M.view.read (Elt F) (M.view.writes (Elt F) f L))) :
    FillOk G (n + 1) (M.view.read (Elt F) (M.view.writes (Elt F) f (⟨Rect.unit (s := S64x16x128) ![n, 0, 0] S1x16x128.size ho, w⟩ :: L))) := by
  intro y hy
  by_cases hc : (y 0).val = n
  · have e : (Rect.unit (s := S64x16x128) ![n, 0, 0] S1x16x128.size ho).emb (fun a => match a with | ⟨0, _⟩ => ⟨0, Nat.one_pos⟩ | ⟨1, _⟩ => ⟨(y 1).val, (y 1).isLt⟩ | ⟨2, _⟩ => ⟨(y 2).val, (y 2).isLt⟩ : S1x16x128.Idx) = y := by
      refine Rect.emb_eq_of_coords _ _ _ fun a => ?_
      match a with
      | ⟨0, _⟩ => show (y 0).val = n + 1 * 0; omega
      | ⟨1, _⟩ => show (y 1).val = 0 + 1 * (y 1).val; omega
      | ⟨2, _⟩ => show (y 2).val = 0 + 1 * (y 2).val; omega
    refine (congrArg _ e.symm).trans ((View.read_writes_cons_emb _ _ _ _ _ _).trans ((hw _).trans ?_))
    show G n (y 1).val = _
    rw [hc]
  · rw [View.read_writes_cons_miss]
    · exact h y (by omega)
    · intro hm
      have h0 := (Rect.mem_set_unit (inb := ho)).mp hm (0 : Fin 3)
      have h1 : n ≤ (y 0).val := h0.1
      have h2 : (y 0).val < n + 1 := h0.2
      omega

/-! ## The state's reset -/

set_option maxHeartbeats 400000 in
theorem wp_reset (c : Dev nD) (a : Fin 96) (arg14 : Memref sig .tc .vmem S1x16x8192 .f32) (G H0 : Tab F) (fh : Bf (F := F) c arg14)
    (h0 : a.val = 0 → ∀ n l, H0 n l = cZero) (h1 : a.val ≠ 0 → ∀ y, arg14.view.read (Elt F) fh y = H0 (y 1).val (y 2).val) {α : Type} (X k : Prog (TpuEff nD τ sig (Elt F) Λ₀ .tc) α) (Q : α → sProp 𝕄)
    (eX : X = do
        let _v : Vec F S1x16x8192 .f32 ← Prog.lift (.load arg14 (Rect.unit (s := S1x16x8192) ![0, 0, 0] S1x16x8192.size inb_S1x16x8192_S1x16x8192_0_0_0).toLoadRect (View.loadsAt_vmem h_S1x16x8192))
        Prog.lift (.store arg14 (Rect.unit (s := S1x16x8192) ![0, 0, 0] S1x16x8192.size inb_S1x16x8192_S1x16x8192_0_0_0) (k0_pay240 (F := F)) Finset.univ (View.stores_vmem_bits_univ h_S1x16x8192 rfl) (.inl rfl))
        k) :
    iprop(held c arg14 fh ∗ (∀ f, ⌜HOk G H0 0 0 (arg14.view.read (Elt F) f)⌝ -∗ held c arg14 f -∗ wpc c k Q)) ⊢ wpc c (
      if k0_h1 : Scalar.cmpi .ne (Scalar.extui (Scalar.cmpi .eq (BitVec.ofNat 32 a.val) 0#32) : BitVec 32) 0#32 = 1#1 then X else k) Q := by
  subst eX
  have hcond : ∀ a : Fin 96, (Scalar.cmpi .ne (Scalar.extui (Scalar.cmpi .eq (BitVec.ofNat 32 a.val) 0#32) : BitVec 32) 0#32 = 1#1) ↔ a.val = 0 := by decide +kernel
  have base : ∀ Y : Vec F S1x16x8192 .f32, (∀ y, Y y = H0 (y 1).val (y 2).val) → HOk G H0 0 0 Y := fun Y h y =>
    ⟨fun hd => absurd hd (by unfold done; omega), fun _ => h y⟩
  unfold wpc
  iintro ⟨H14, HK⟩
  by_cases ha : a.val = 0
  · rw [dif_pos ((hcond a).mpr ha)]
    sl_exec
    iapply HK $$ %(arg14.view.writes (Elt F) fh [⟨Rect.unit (s := S1x16x8192) ![0, 0, 0] S1x16x8192.size inb_S1x16x8192_S1x16x8192_0_0_0, k0_pay240⟩]) %(base _ ?_) [H14]
    · intro y
      have e : (Rect.unit (s := S1x16x8192) ![0, 0, 0] S1x16x8192.size inb_S1x16x8192_S1x16x8192_0_0_0).emb y = y := by
        refine Rect.emb_eq_of_coords _ _ _ fun a => ?_
        match a with
        | ⟨0, _⟩ => show (y 0).val = 0 + 1 * (y 0).val; omega
        | ⟨1, _⟩ => show (y 1).val = 0 + 1 * (y 1).val; omega
        | ⟨2, _⟩ => show (y 2).val = 0 + 1 * (y 2).val; omega
      exact (congrArg _ e.symm).trans ((View.read_writes_cons_emb _ _ _ _ _ _).trans (h0 ha _ _).symm)
    · iexact H14
  · rw [dif_neg (fun h => ha ((hcond a).mp h))]
    iapply HK $$ %_ %(base _ (h1 ha)) [H14]
    iexact H14

/-! ## A grid point -/

section
variable (c : Dev nD) (W : Tabs F) (BT CT : ℕ → ℕ → F .fp8e4m3) (BS CS : ℕ → F .f32) (i : grid0.Coords) (arg2 : Memref sig .tc .vmem S1x64x8192 .fp8e4m3) (harg2 : arg2.IsWhole) (arg3 : Memref sig .tc .vmem S1x64x8192 .fp8e4m3) (harg3 : arg3.IsWhole) (arg4 : Memref sig .tc .vmem S1x64x8192 .bf16) (harg4 : arg4.IsWhole) (arg5 : Memref sig .tc .vmem S1x64x4 .f32) (harg5 : arg5.IsWhole) (arg6 : Memref sig .tc .vmem S1x1x16x64 .fp8e4m3) (harg6 : arg6.IsWhole) (arg7 : Memref sig .tc .vmem S1x1x1x64 .f32) (harg7 : arg7.IsWhole) (arg8 : Memref sig .tc .vmem S1x1x16x64 .fp8e4m3) (harg8 : arg8.IsWhole) (arg9 : Memref sig .tc .vmem S1x1x1x64 .f32) (harg9 : arg9.IsWhole) (arg10 : Memref sig .tc .vmem S16x8192 .f32) (harg10 : arg10.IsWhole) (arg11 : Memref sig .tc .vmem S1x8192 .f32) (harg11 : arg11.IsWhole) (arg12 : Memref sig .tc .vmem S1x8192 .f32) (harg12 : arg12.IsWhole) (arg13 : Memref sig .tc .vmem S1x64x8192 .bf16) (harg13 : arg13.IsWhole) (arg14 : Memref sig .tc .vmem S1x16x8192 .f32) (harg14 : arg14.IsWhole) (arg15 : Memref sig .tc .vmem S64x16x128 .f32) (harg15 : arg15.IsWhole) (arg16 : Memref sig .tc .vmem S64x16x128 .f32) (harg16 : arg16.IsWhole) (arg17 : Memref sig .tc .vmem S4x64x128 .f32) (harg17 : arg17.IsWhole) (arg18 : Memref sig .tc .vmem S4x64x128 .f32) (harg18 : arg18.IsWhole) (arg19 : Memref sig .tc .vmem S64x512 .f32) (harg19 : arg19.IsWhole) (arg20 : Memref sig .tc .vmem S64x512 .f32) (harg20 : arg20.IsWhole) (arg21 : Memref sig .tc .vmem S4x200x128 .f32) (harg21 : arg21.IsWhole)
  (fx : Bf (F := F) c arg2) (fdt : Bf (F := F) c arg3) (fz : Bf (F := F) c arg4) (fs : Bf (F := F) c arg5) (fbt : Bf (F := F) c arg6) (fbs : Bf (F := F) c arg7) (fct : Bf (F := F) c arg8) (fcs : Bf (F := F) c arg9)
  (fa : Bf (F := F) c arg10) (fdd : Bf (F := F) c arg11) (fbi : Bf (F := F) c arg12) (fh : Bf (F := F) c arg14)
  (hX : ∀ x, arg2.view.read (Elt F) fx x = W.X (x 1).val (x 2).val) (hDT : ∀ x, arg3.view.read (Elt F) fdt x = W.DT (x 1).val (x 2).val)
  (hZ : ∀ x, arg4.view.read (Elt F) fz x = W.Z (x 1).val (x 2).val) (hS : ∀ x, arg5.view.read (Elt F) fs x = W.SC (x 1).val (x 2).val)
  (hBT : ∀ x, arg6.view.read (Elt F) fbt x = BT (x 2).val (x 3).val) (hBS : ∀ x, arg7.view.read (Elt F) fbs x = BS (x 3).val)
  (hCT : ∀ x, arg8.view.read (Elt F) fct x = CT (x 2).val (x 3).val) (hCS : ∀ x, arg9.view.read (Elt F) fcs x = CS (x 3).val)
  (hA : ∀ x, arg10.view.read (Elt F) fa x = W.A (x 0).val (x 1).val) (hD : ∀ x, arg11.view.read (Elt F) fdd x = W.DD (x 1).val)
  (hB : ∀ x, arg12.view.read (Elt F) fbi x = W.BI (x 1).val)
  (h0 : (i 1).val = 0 → ∀ n l, W.H0 n l = cZero) (h1 : (i 1).val ≠ 0 → ∀ y, arg14.view.read (Elt F) fh y = W.H0 (y 1).val (y 2).val)
  (hWB : ∀ T n, W.B T n = FloatOps.mulf (FloatOps.extf .f32 bitsLt_fp8e4m3_f32 (BT n T)) (BS T))
  (hWC : ∀ T n, W.C T n = FloatOps.mulf (FloatOps.extf .f32 bitsLt_fp8e4m3_f32 (CT n T)) (CS T))

theorem k0_t1_trips : k0_t1_loop.trips = 16 := by decide +kernel

theorem rd_bt (M : Memref sig .tc .vmem S1x1x16x64 .fp8e4m3) (f : Bf (F := F) c M) (G : ℕ → ℕ → F .fp8e4m3) (h : ∀ x, M.view.read (Elt F) f x = G (x 2).val (x 3).val)
    (ho : ∀ a, (![0, 0, 0, 0] : Fin 4 → ℕ) a + S1x1x16x64.size a ≤ S1x1x16x64.size a) (x : S1x1x16x64.Idx) :
    View.readAt (Elt F) M.view (Rect.unit (s := S1x1x16x64) ![0, 0, 0, 0] S1x1x16x64.size ho).toLoadRect f x = G (x 2).val (x 3).val := by
  refine (h _).trans ?_
  show G (0 + 1 * (x 2).val) (0 + 1 * (x 3).val) = _
  congr 1 <;> omega
theorem rd_bs (M : Memref sig .tc .vmem S1x1x1x64 .f32) (f : Bf (F := F) c M) (G : ℕ → F .f32) (h : ∀ x, M.view.read (Elt F) f x = G (x 3).val)
    (ho : ∀ a, (![0, 0, 0, 0] : Fin 4 → ℕ) a + S1x1x1x64.size a ≤ S1x1x1x64.size a) (x : S1x1x1x64.Idx) :
    View.readAt (Elt F) M.view (Rect.unit (s := S1x1x1x64) ![0, 0, 0, 0] S1x1x1x64.size ho).toLoadRect f x = G (x 3).val := by
  refine (h _).trans ?_
  show G (0 + 1 * (x 3).val) = _
  congr 1; omega

include hX hDT hZ hS hBT hBS hCT hCS hA hD hB h0 h1 hWB hWC in
set_option pp.maxSteps 200 in
set_option maxHeartbeats 400000 in
theorem wp_point (Q : PUnit → sProp 𝕄) :
    iprop((held c arg2 fx ∗ held c arg3 fdt ∗ held c arg4 fz ∗ held c arg5 fs ∗ held c arg6 fbt ∗ held c arg7 fbs ∗ held c arg8 fct ∗ held c arg9 fcs ∗ held c arg10 fa ∗ held c arg11 fdd ∗ held c arg12 fbi ∗
      (∃ f, held c arg13 f) ∗ held c arg14 fh ∗ (∃ f, held c arg15 f) ∗ (∃ f, held c arg16 f) ∗ (∃ f, held c arg17 f) ∗ (∃ f, held c arg18 f) ∗ (∃ f, held c arg19 f) ∗ (∃ f, held c arg20 f) ∗ (∃ f, held c arg21 f)) ∗
      ((held c arg2 fx ∗ held c arg3 fdt ∗ held c arg4 fz ∗ held c arg5 fs ∗ held c arg6 fbt ∗ held c arg7 fbs ∗ held c arg8 fct ∗ held c arg9 fcs ∗ held c arg10 fa ∗ held c arg11 fdd ∗ held c arg12 fbi ∗
        (∃ f, ⌜YOk W.OUT 16 (arg13.view.read (Elt F) f)⌝ ∗ held c arg13 f) ∗ (∃ f, ⌜HOk (W.HS 64) W.H0 16 0 (arg14.view.read (Elt F) f)⌝ ∗ held c arg14 f) ∗
        (∃ f, held c arg15 f) ∗ (∃ f, held c arg16 f) ∗ (∃ f, held c arg17 f) ∗ (∃ f, held c arg18 f) ∗ (∃ f, held c arg19 f) ∗ (∃ f, held c arg20 f) ∗ (∃ f, held c arg21 f)) -∗ Q ⟨⟩))
      ⊢ wpc c (cc0_mamba_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  rw [cc0_mamba_scan_eq_skeleton]
  unfold wpc cc0_mamba_scan_skel
  simp only [k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  unfold k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel
  iintro ⟨⟨H2, H3, H4, H5, H6, H7, H8, H9, H10, H11, H12, ⟨%fyo, H13⟩, H14, ⟨%f15, H15⟩, ⟨%f16, H16⟩, ⟨%fde, H17⟩, ⟨%fu, H18⟩, ⟨%fxf, H19⟩, ⟨%ft, H20⟩, ⟨%fy, H21⟩⟩, HK⟩
  rw [wp_bind]
  iapply (wp_reset c (i 1) arg14 (W.HS 64) W.H0 fh h0 h1 _ _ _ rfl)
  isplitl [H14]; · iexact H14
  iintro %fh' %hh H14
  dsimp only [wpc]
  sl_exec
  dsimp only
  have e9 : ∀ i : S16x64.Idx, k0_pay241 _ _ i = W.B (i 1).val (i 0).val := fun i =>
    (scaled_apply _ _ BT BS (rd_bt c arg6 fbt BT hBT inb_S1x1x16x64_S1x1x16x64_0_0_0_0) (rd_bs c arg7 fbs BS hBS inb_S1x1x1x64_S1x1x1x64_0_0_0_0) i).1.trans (hWB _ _).symm
  have e16 : ∀ i : S16x64.Idx, k0_pay242 _ _ i = W.C (i 1).val (i 0).val := fun i =>
    (scaled_apply _ _ CT CS (rd_bt c arg8 fct CT hCT inb_S1x1x16x64_S1x1x16x64_0_0_0_0) (rd_bs c arg9 fcs CS hCS inb_S1x1x1x64_S1x1x1x64_0_0_0_0) i).2.trans (hWC _ _).symm
  ihave HB : iprop(∃ f, ⌜FillOk W.B 64 (arg15.view.read (Elt F) f)⌝ ∗ held c arg15 f) $$ [H15]
  · iexists _
    isplitr
    swap; · iexact H15
    ipureintro
    iterate 64 refine fillOk_cons c arg15 _ W.B _ _ _ _ (fun x => col_apply _ W.B e9 _ (by decide) x) ?_
    exact fun y h => absurd h (Nat.not_lt_zero _)
  ihave HC : iprop(∃ f, ⌜FillOk W.C 64 (arg16.view.read (Elt F) f)⌝ ∗ held c arg16 f) $$ [H16]
  · iexists _
    isplitr
    swap; · iexact H16
    ipureintro
    iterate 64 refine fillOk_cons c arg16 _ W.C _ _ _ _ (fun x => col_apply _ W.C e16 _ (by decide) x) ?_
    exact fun y h => absurd h (Nat.not_lt_zero _)
  icases HB with ⟨%fb, %hfb, H15⟩
  icases HC with ⟨%fc, %hfc, H16⟩
  rw [wp_bind]
  iapply (Scf.wp_for frame (wpE (defs₀ (F := F)) Variants.none (c : Thread nD τ) none) Set.univ k0_t1_loop.lb k0_t1_loop.ub k0_t1_loop.st k0_t1_ok ⟨⟩
    (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 0#32)
    (fun k _ => chunkR c W arg2 arg3 arg4 arg5 arg10 arg11 arg12 arg13 arg14 arg15 arg16 arg17 arg18 arg19 arg20 arg21 fx fdt fz fs fa fdd fbi fb fc k) (by
      intro j acc
      refine BIBase.Entails.trans ?_ (wp_chunk c W i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 fx fdt fz fs fa fdd fbi fb fc hX hDT hZ hS hA hD hB (fun x => hfb x (x 0).isLt) (fun x => hfc x (x 0).isLt) j
        (fun _ => chunkR c W arg2 arg3 arg4 arg5 arg10 arg11 arg12 arg13 arg14 arg15 arg16 arg17 arg18 arg19 arg20 arg21 fx fdt fz fs fa fdd fbi fb fc (j.val + 1)))
      iintro HR
      isplitl [HR]; · iexact HR
      iintro HR; iexact HR))
  isplitl [H2 H3 H4 H5 H10 H11 H12 H13 H14 H15 H16 H17 H18 H19 H20 H21]
  · unfold chunkR
    isplitl [H2]; · iexact H2
    isplitl [H3]; · iexact H3
    isplitl [H4]; · iexact H4
    isplitl [H5]; · iexact H5
    isplitl [H10]; · iexact H10
    isplitl [H11]; · iexact H11
    isplitl [H12]; · iexact H12
    isplitl [H13]
    · iexists _
      isplitr
      swap; · iexact H13
      ipureintro; exact fun y h => absurd h (Nat.not_lt_zero _)
    isplitl [H14]
    · iexists _
      isplitr
      swap; · iexact H14
      ipureintro; exact hh
    isplitl [H15]; · iexact H15
    isplitl [H16]; · iexact H16
    isplitl [H17]; · iexists _; iexact H17
    isplitl [H18]; · iexists _; iexact H18
    isplitl [H19]; · iexists _; iexact H19
    isplitl [H20]; · iexists _; iexact H20
    iexists _; iexact H21
  iintro %acc HR
  rw [show Scf.trips k0_t1_loop.lb k0_t1_loop.ub k0_t1_loop.st = 16 from k0_t1_trips]
  sl_step
  unfold chunkR
  icases HR with ⟨H2, H3, H4, H5, H10, H11, H12, H13, H14, H15, H16, H17, H18, H19, H20, H21⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  isplitl [H19]; · iexact H19
  isplitl [H20]; · iexact H20
  iexact H21
end
end Cert.Proof.KernelIdeal
-- ==== Proof.KernelIdeal.Blocks.lean ====
/- The arrays the region reads, and the blocks the grid stages. -/
module

public import proofs.«01_k».proof.Proof.KernelIdeal.Prologue
public import proofs.«01_k».proof.Proof.Gen.KernelIdeal.Frame
public import Idealize.ShloMosaic.Lib.Exec
public import Idealize.ShloMosaic.Lib.Pointwise.Reshape
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays the region reads, as tables of natural indices -/

abbrev ix2 {n₀ n₁ : ℕ} (h₀ : 0 < n₀) (h₁ : 0 < n₁) (a b : ℕ) : (⟨2, ![n₀, n₁]⟩ : Shape).Idx :=
  fun k => match k with | ⟨0, _⟩ => ⟨a % n₀, Nat.mod_lt _ h₀⟩ | ⟨1, _⟩ => ⟨b % n₁, Nat.mod_lt _ h₁⟩
abbrev ix3 {n₀ n₁ n₂ : ℕ} (h₀ : 0 < n₀) (h₁ : 0 < n₁) (h₂ : 0 < n₂) (a b c : ℕ) : (⟨3, ![n₀, n₁, n₂]⟩ : Shape).Idx :=
  fun k => match k with | ⟨0, _⟩ => ⟨a % n₀, Nat.mod_lt _ h₀⟩ | ⟨1, _⟩ => ⟨b % n₁, Nat.mod_lt _ h₁⟩ | ⟨2, _⟩ => ⟨c % n₂, Nat.mod_lt _ h₂⟩
abbrev ix4 {n₀ n₁ n₂ n₃ : ℕ} (h₀ : 0 < n₀) (h₁ : 0 < n₁) (h₂ : 0 < n₂) (h₃ : 0 < n₃) (a b c d : ℕ) : (⟨4, ![n₀, n₁, n₂, n₃]⟩ : Shape).Idx :=
  fun k => match k with | ⟨0, _⟩ => ⟨a % n₀, Nat.mod_lt _ h₀⟩ | ⟨1, _⟩ => ⟨b % n₁, Nat.mod_lt _ h₁⟩ | ⟨2, _⟩ => ⟨c % n₂, Nat.mod_lt _ h₂⟩ | ⟨3, _⟩ => ⟨d % n₃, Nat.mod_lt _ h₃⟩

def aX (c : Dev nD) (b T l : ℕ) : F .fp8e4m3 := (V m c main_arg0 : S2x6144x8192.Idx → F .fp8e4m3) (ix3 (by decide) (by decide) (by decide) b T l)
def aDT (c : Dev nD) (b T l : ℕ) : F .fp8e4m3 := (V m c main_arg2 : S2x6144x8192.Idx → F .fp8e4m3) (ix3 (by decide) (by decide) (by decide) b T l)
def aZ (c : Dev nD) (b T l : ℕ) : F .bf16 := (V m c main_arg8 : S2x6144x8192.Idx → F .bf16) (ix3 (by decide) (by decide) (by decide) b T l)
def aSC (c : Dev nD) (b T k : ℕ) : F .f32 := (V m c main_v8 : S2x6144x4.Idx → F .f32) (ix3 (by decide) (by decide) (by decide) b T k)
def aBT (c : Dev nD) (b T n : ℕ) : F .fp8e4m3 := (V m c main_v10 : S2x96x16x64.Idx → F .fp8e4m3) (ix4 (by decide) (by decide) (by decide) (by decide) b (T / 64) n T)
def aBS (c : Dev nD) (b T : ℕ) : F .f32 := (V m c main_v13 : S2x96x1x64.Idx → F .f32) (ix4 (by decide) (by decide) (by decide) (by decide) b (T / 64) 0 T)
def aCT (c : Dev nD) (b T n : ℕ) : F .fp8e4m3 := (V m c main_v12 : S2x96x16x64.Idx → F .fp8e4m3) (ix4 (by decide) (by decide) (by decide) (by decide) b (T / 64) n T)
def aCS (c : Dev nD) (b T : ℕ) : F .f32 := (V m c main_v14 : S2x96x1x64.Idx → F .f32) (ix4 (by decide) (by decide) (by decide) (by decide) b (T / 64) 0 T)
def aA (c : Dev nD) (n l : ℕ) : F .f32 := (V m c main_v19 : S16x8192.Idx → F .f32) (ix2 (by decide) (by decide) n l)
def aD (c : Dev nD) (l : ℕ) : F .f32 := (V m c main_v20 : S1x8192.Idx → F .f32) (ix2 (by decide) (by decide) 0 l)
def aBI (c : Dev nD) (l : ℕ) : F .f32 := (V m c main_v21 : S1x8192.Idx → F .f32) (ix2 (by decide) (by decide) 0 l)

/-- The whole sequence of batch `b`. -/
def Wg (c : Dev nD) (b : ℕ) : Tabs F where
  X := aX m c b
  DT := aDT m c b
  Z := aZ m c b
  SC := aSC m c b
  A := aA m c
  B T n := FloatOps.mulf (FloatOps.extf .f32 bitsLt_fp8e4m3_f32 (aBT m c b T n)) (aBS m c b T)
  C T n := FloatOps.mulf (FloatOps.extf .f32 bitsLt_fp8e4m3_f32 (aCT m c b T n)) (aCS m c b T)
  H0 _ _ := cZero
  DD := aD m c
  BI := aBI m c

/-- The 64 tokens of grid point `t`. -/
abbrev Wt (c : Dev nD) (t : ℕ) : Tabs F := (Wg m c (t / 96)).from_ (64 * (t % 96))

theorem co_0 : ∀ t : Fin 192, (grid0.coords t 0).val = t.val / 96 := by decide +kernel
theorem co_1 : ∀ t : Fin 192, (grid0.coords t 1).val = t.val % 96 := by decide +kernel
theorem tr_0 : ∀ t : Fin 192, cc0_transform_0 (grid0.coords t) = ![t.val / 96, t.val % 96, 0] := by decide +kernel
theorem tr_1 : ∀ t : Fin 192, cc0_transform_1 (grid0.coords t) = ![t.val / 96, t.val % 96, 0] := by decide +kernel
theorem tr_2 : ∀ t : Fin 192, cc0_transform_2 (grid0.coords t) = ![t.val / 96, t.val % 96, 0] := by decide +kernel
theorem tr_3 : ∀ t : Fin 192, cc0_transform_3 (grid0.coords t) = ![t.val / 96, t.val % 96, 0] := by decide +kernel
theorem tr_4 : ∀ t : Fin 192, cc0_transform_4 (grid0.coords t) = ![t.val / 96, t.val % 96, 0, 0] := by decide +kernel
theorem tr_5 : ∀ t : Fin 192, cc0_transform_5 (grid0.coords t) = ![t.val / 96, t.val % 96, 0, 0] := by decide +kernel
theorem tr_6 : ∀ t : Fin 192, cc0_transform_6 (grid0.coords t) = ![t.val / 96, t.val % 96, 0, 0] := by decide +kernel
theorem tr_7 : ∀ t : Fin 192, cc0_transform_7 (grid0.coords t) = ![t.val / 96, t.val % 96, 0, 0] := by decide +kernel
theorem tr_8 : ∀ t : Fin 192, cc0_transform_8 (grid0.coords t) = ![0, 0] := by decide +kernel
theorem tr_9 : ∀ t : Fin 192, cc0_transform_9 (grid0.coords t) = ![0, 0] := by decide +kernel
theorem tr_10 : ∀ t : Fin 192, cc0_transform_10 (grid0.coords t) = ![0, 0] := by decide +kernel
theorem tr_11 : ∀ t : Fin 192, cc0_transform_11 (grid0.coords t) = ![t.val / 96, t.val % 96, 0] := by decide +kernel
theorem tr_12 : ∀ t : Fin 192, cc0_transform_12 (grid0.coords t) = ![t.val / 96, 0, 0] := by decide +kernel

/-! ## The blocks are the tables -/

set_option maxHeartbeats 400000 in
theorem iblk_0 (c : Dev nD) (t : Fin 192) (x : S1x64x8192.Idx) : (iblk m c 0 t : S1x64x8192.Idx → F .fp8e4m3) x = aX m c (t.val / 96) (64 * (t.val % 96) + (x 1).val) (x 2).val := by
  have ht := t.isLt
  have h0 : (x 0).val < 1 := (x 0).isLt
  have h1 : (x 1).val < 64 := (x 1).isLt
  have h2 : (x 2).val < 8192 := (x 2).isLt
  unfold aX
  show (V m c main_arg0) _ = (V m c main_arg0) _
  refine congrArg _ (funext fun a => Fin.ext ?_)
  match a with
  | ⟨0, _⟩ =>
    show cc0_transform_0 (grid0.coords t) 0 * 1 + 1 * (x 0).val = (t.val / 96) % 2
    rw [tr_0]
    show t.val / 96 * 1 + 1 * (x 0).val = _
    omega
  | ⟨1, _⟩ =>
    show cc0_transform_0 (grid0.coords t) 1 * 64 + 1 * (x 1).val = (64 * (t.val % 96) + (x 1).val) % 6144
    rw [tr_0]
    show t.val % 96 * 64 + 1 * (x 1).val = _
    omega
  | ⟨2, _⟩ =>
    show cc0_transform_0 (grid0.coords t) 2 * 8192 + 1 * (x 2).val = ((x 2).val) % 8192
    rw [tr_0]
    show 0 * 8192 + 1 * (x 2).val = _
    omega
set_option maxHeartbeats 400000 in
theorem iblk_1 (c : Dev nD) (t : Fin 192) (x : S1x64x8192.Idx) : (iblk m c 1 t : S1x64x8192.Idx → F .fp8e4m3) x = aDT m c (t.val / 96) (64 * (t.val % 96) + (x 1).val) (x 2).val := by
  have ht := t.isLt
  have h0 : (x 0).val < 1 := (x 0).isLt
  have h1 : (x 1).val < 64 := (x 1).isLt
  have h2 : (x 2).val < 8192 := (x 2).isLt
  unfold aDT
  show (V m c main_arg2) _ = (V m c main_arg2) _
  refine congrArg _ (funext fun a => Fin.ext ?_)
  match a with
  | ⟨0, _⟩ =>
    show cc0_transform_1 (grid0.coords t) 0 * 1 + 1 * (x 0).val = (t.val / 96) % 2
    rw [tr_1]
    show t.val / 96 * 1 + 1 * (x 0).val = _
    omega
  | ⟨1, _⟩ =>
    show cc0_transform_1 (grid0.coords t) 1 * 64 + 1 * (x 1).val = (64 * (t.val % 96) + (x 1).val) % 6144
    rw [tr_1]
    show t.val % 96 * 64 + 1 * (x 1).val = _
    omega
  | ⟨2, _⟩ =>
    show cc0_transform_1 (grid0.coords t) 2 * 8192 + 1 * (x 2).val = ((x 2).val) % 8192
    rw [tr_1]
    show 0 * 8192 + 1 * (x 2).val = _
    omega
set_option maxHeartbeats 400000 in
theorem iblk_2 (c : Dev nD) (t : Fin 192) (x : S1x64x8192.Idx) : (iblk m c 2 t : S1x64x8192.Idx → F .bf16) x = aZ m c (t.val / 96) (64 * (t.val % 96) + (x 1).val) (x 2).val := by
  have ht := t.isLt
  have h0 : (x 0).val < 1 := (x 0).isLt
  have h1 : (x 1).val < 64 := (x 1).isLt
  have h2 : (x 2).val < 8192 := (x 2).isLt
  unfold aZ
  show (V m c main_arg8) _ = (V m c main_arg8) _
  refine congrArg _ (funext fun a => Fin.ext ?_)
  match a with
  | ⟨0, _⟩ =>
    show cc0_transform_2 (grid0.coords t) 0 * 1 + 1 * (x 0).val = (t.val / 96) % 2
    rw [tr_2]
    show t.val / 96 * 1 + 1 * (x 0).val = _
    omega
  | ⟨1, _⟩ =>
    show cc0_transform_2 (grid0.coords t) 1 * 64 + 1 * (x 1).val = (64 * (t.val % 96) + (x 1).val) % 6144
    rw [tr_2]
    show t.val % 96 * 64 + 1 * (x 1).val = _
    omega
  | ⟨2, _⟩ =>
    show cc0_transform_2 (grid0.coords t) 2 * 8192 + 1 * (x 2).val = ((x 2).val) % 8192
    rw [tr_2]
    show 0 * 8192 + 1 * (x 2).val = _
    omega
set_option maxHeartbeats 400000 in
theorem iblk_3 (c : Dev nD) (t : Fin 192) (x : S1x64x4.Idx) : (iblk m c 3 t : S1x64x4.Idx → F .f32) x = aSC m c (t.val / 96) (64 * (t.val % 96) + (x 1).val) (x 2).val := by
  have ht := t.isLt
  have h0 : (x 0).val < 1 := (x 0).isLt
  have h1 : (x 1).val < 64 := (x 1).isLt
  have h2 : (x 2).val < 4 := (x 2).isLt
  unfold aSC
  show (V m c main_v8) _ = (V m c main_v8) _
  refine congrArg _ (funext fun a => Fin.ext ?_)
  match a with
  | ⟨0, _⟩ =>
    show cc0_transform_3 (grid0.coords t) 0 * 1 + 1 * (x 0).val = (t.val / 96) % 2
    rw [tr_3]
    show t.val / 96 * 1 + 1 * (x 0).val = _
    omega
  | ⟨1, _⟩ =>
    show cc0_transform_3 (grid0.coords t) 1 * 64 + 1 * (x 1).val = (64 * (t.val % 96) + (x 1).val) % 6144
    rw [tr_3]
    show t.val % 96 * 64 + 1 * (x 1).val = _
    omega
  | ⟨2, _⟩ =>
    show cc0_transform_3 (grid0.coords t) 2 * 4 + 1 * (x 2).val = ((x 2).val) % 4
    rw [tr_3]
    show 0 * 4 + 1 * (x 2).val = _
    omega
set_option maxHeartbeats 400000 in
theorem iblk_4 (c : Dev nD) (t : Fin 192) (x : S1x1x16x64.Idx) : (iblk m c 4 t : S1x1x16x64.Idx → F .fp8e4m3) x = aBT m c (t.val / 96) (64 * (t.val % 96) + (x 3).val) (x 2).val := by
  have ht := t.isLt
  have h0 : (x 0).val < 1 := (x 0).isLt
  have h1 : (x 1).val < 1 := (x 1).isLt
  have h2 : (x 2).val < 16 := (x 2).isLt
  have h3 : (x 3).val < 64 := (x 3).isLt
  unfold aBT
  show (V m c main_v10) _ = (V m c main_v10) _
  refine congrArg _ (funext fun a => Fin.ext ?_)
  match a with
  | ⟨0, _⟩ =>
    show cc0_transform_4 (grid0.coords t) 0 * 1 + 1 * (x 0).val = (t.val / 96) % 2
    rw [tr_4]
    show t.val / 96 * 1 + 1 * (x 0).val = _
    omega
  | ⟨1, _⟩ =>
    show cc0_transform_4 (grid0.coords t) 1 * 1 + 1 * (x 1).val = ((64 * (t.val % 96) + (x 3).val) / 64) % 96
    rw [tr_4]
    show t.val % 96 * 1 + 1 * (x 1).val = _
    omega
  | ⟨2, _⟩ =>
    show cc0_transform_4 (grid0.coords t) 2 * 16 + 1 * (x 2).val = ((x 2).val) % 16
    rw [tr_4]
    show 0 * 16 + 1 * (x 2).val = _
    omega
  | ⟨3, _⟩ =>
    show cc0_transform_4 (grid0.coords t) 3 * 64 + 1 * (x 3).val = (64 * (t.val % 96) + (x 3).val) % 64
    rw [tr_4]
    show 0 * 64 + 1 * (x 3).val = _
    omega
set_option maxHeartbeats 400000 in
theorem iblk_5 (c : Dev nD) (t : Fin 192) (x : S1x1x1x64.Idx) : (iblk m c 5 t : S1x1x1x64.Idx → F .f32) x = aBS m c (t.val / 96) (64 * (t.val % 96) + (x 3).val) := by
  have ht := t.isLt
  have h0 : (x 0).val < 1 := (x 0).isLt
  have h1 : (x 1).val < 1 := (x 1).isLt
  have h2 : (x 2).val < 1 := (x 2).isLt
  have h3 : (x 3).val < 64 := (x 3).isLt
  unfold aBS
  show (V m c main_v13) _ = (V m c main_v13) _
  refine congrArg _ (funext fun a => Fin.ext ?_)
  match a with
  | ⟨0, _⟩ =>
    show cc0_transform_5 (grid0.coords t) 0 * 1 + 1 * (x 0).val = (t.val / 96) % 2
    rw [tr_5]
    show t.val / 96 * 1 + 1 * (x 0).val = _
    omega
  | ⟨1, _⟩ =>
    show cc0_transform_5 (grid0.coords t) 1 * 1 + 1 * (x 1).val = ((64 * (t.val % 96) + (x 3).val) / 64) % 96
    rw [tr_5]
    show t.val % 96 * 1 + 1 * (x 1).val = _
    omega
  | ⟨2, _⟩ =>
    show cc0_transform_5 (grid0.coords t) 2 * 1 + 1 * (x 2).val = (0) % 1
    rw [tr_5]
    show 0 * 1 + 1 * (x 2).val = _
    omega
  | ⟨3, _⟩ =>
    show cc0_transform_5 (grid0.coords t) 3 * 64 + 1 * (x 3).val = (64 * (t.val % 96) + (x 3).val) % 64
    rw [tr_5]
    show 0 * 64 + 1 * (x 3).val = _
    omega
set_option maxHeartbeats 400000 in
theorem iblk_6 (c : Dev nD) (t : Fin 192) (x : S1x1x16x64.Idx) : (iblk m c 6 t : S1x1x16x64.Idx → F .fp8e4m3) x = aCT m c (t.val / 96) (64 * (t.val % 96) + (x 3).val) (x 2).val := by
  have ht := t.isLt
  have h0 : (x 0).val < 1 := (x 0).isLt
  have h1 : (x 1).val < 1 := (x 1).isLt
  have h2 : (x 2).val < 16 := (x 2).isLt
  have h3 : (x 3).val < 64 := (x 3).isLt
  unfold aCT
  show (V m c main_v12) _ = (V m c main_v12) _
  refine congrArg _ (funext fun a => Fin.ext ?_)
  match a with
  | ⟨0, _⟩ =>
    show cc0_transform_6 (grid0.coords t) 0 * 1 + 1 * (x 0).val = (t.val / 96) % 2
    rw [tr_6]
    show t.val / 96 * 1 + 1 * (x 0).val = _
    omega
  | ⟨1, _⟩ =>
    show cc0_transform_6 (grid0.coords t) 1 * 1 + 1 * (x 1).val = ((64 * (t.val % 96) + (x 3).val) / 64) % 96
    rw [tr_6]
    show t.val % 96 * 1 + 1 * (x 1).val = _
    omega
  | ⟨2, _⟩ =>
    show cc0_transform_6 (grid0.coords t) 2 * 16 + 1 * (x 2).val = ((x 2).val) % 16
    rw [tr_6]
    show 0 * 16 + 1 * (x 2).val = _
    omega
  | ⟨3, _⟩ =>
    show cc0_transform_6 (grid0.coords t) 3 * 64 + 1 * (x 3).val = (64 * (t.val % 96) + (x 3).val) % 64
    rw [tr_6]
    show 0 * 64 + 1 * (x 3).val = _
    omega
set_option maxHeartbeats 400000 in
theorem iblk_7 (c : Dev nD) (t : Fin 192) (x : S1x1x1x64.Idx) : (iblk m c 7 t : S1x1x1x64.Idx → F .f32) x = aCS m c (t.val / 96) (64 * (t.val % 96) + (x 3).val) := by
  have ht := t.isLt
  have h0 : (x 0).val < 1 := (x 0).isLt
  have h1 : (x 1).val < 1 := (x 1).isLt
  have h2 : (x 2).val < 1 := (x 2).isLt
  have h3 : (x 3).val < 64 := (x 3).isLt
  unfold aCS
  show (V m c main_v14) _ = (V m c main_v14) _
  refine congrArg _ (funext fun a => Fin.ext ?_)
  match a with
  | ⟨0, _⟩ =>
    show cc0_transform_7 (grid0.coords t) 0 * 1 + 1 * (x 0).val = (t.val / 96) % 2
    rw [tr_7]
    show t.val / 96 * 1 + 1 * (x 0).val = _
    omega
  | ⟨1, _⟩ =>
    show cc0_transform_7 (grid0.coords t) 1 * 1 + 1 * (x 1).val = ((64 * (t.val % 96) + (x 3).val) / 64) % 96
    rw [tr_7]
    show t.val % 96 * 1 + 1 * (x 1).val = _
    omega
  | ⟨2, _⟩ =>
    show cc0_transform_7 (grid0.coords t) 2 * 1 + 1 * (x 2).val = (0) % 1
    rw [tr_7]
    show 0 * 1 + 1 * (x 2).val = _
    omega
  | ⟨3, _⟩ =>
    show cc0_transform_7 (grid0.coords t) 3 * 64 + 1 * (x 3).val = (64 * (t.val % 96) + (x 3).val) % 64
    rw [tr_7]
    show 0 * 64 + 1 * (x 3).val = _
    omega
set_option maxHeartbeats 400000 in
theorem iblk_8 (c : Dev nD) (t : Fin 192) (x : S16x8192.Idx) : (iblk m c 8 t : S16x8192.Idx → F .f32) x = aA m c (x 0).val (x 1).val := by
  have ht := t.isLt
  have h0 : (x 0).val < 16 := (x 0).isLt
  have h1 : (x 1).val < 8192 := (x 1).isLt
  unfold aA
  show (V m c main_v19) _ = (V m c main_v19) _
  refine congrArg _ (funext fun a => Fin.ext ?_)
  match a with
  | ⟨0, _⟩ =>
    show cc0_transform_8 (grid0.coords t) 0 * 16 + 1 * (x 0).val = ((x 0).val) % 16
    rw [tr_8]
    show 0 * 16 + 1 * (x 0).val = _
    omega
  | ⟨1, _⟩ =>
    show cc0_transform_8 (grid0.coords t) 1 * 8192 + 1 * (x 1).val = ((x 1).val) % 8192
    rw [tr_8]
    show 0 * 8192 + 1 * (x 1).val = _
    omega
set_option maxHeartbeats 400000 in
theorem iblk_9 (c : Dev nD) (t : Fin 192) (x : S1x8192.Idx) : (iblk m c 9 t : S1x8192.Idx → F .f32) x = aD m c (x 1).val := by
  have ht := t.isLt
  have h0 : (x 0).val < 1 := (x 0).isLt
  have h1 : (x 1).val < 8192 := (x 1).isLt
  unfold aD
  show (V m c main_v20) _ = (V m c main_v20) _
  refine congrArg _ (funext fun a => Fin.ext ?_)
  match a with
  | ⟨0, _⟩ =>
    show cc0_transform_9 (grid0.coords t) 0 * 1 + 1 * (x 0).val = (0) % 1
    rw [tr_9]
    show 0 * 1 + 1 * (x 0).val = _
    omega
  | ⟨1, _⟩ =>
    show cc0_transform_9 (grid0.coords t) 1 * 8192 + 1 * (x 1).val = ((x 1).val) % 8192
    rw [tr_9]
    show 0 * 8192 + 1 * (x 1).val = _
    omega
set_option maxHeartbeats 400000 in
theorem iblk_10 (c : Dev nD) (t : Fin 192) (x : S1x8192.Idx) : (iblk m c 10 t : S1x8192.Idx → F .f32) x = aBI m c (x 1).val := by
  have ht := t.isLt
  have h0 : (x 0).val < 1 := (x 0).isLt
  have h1 : (x 1).val < 8192 := (x 1).isLt
  unfold aBI
  show (V m c main_v21) _ = (V m c main_v21) _
  refine congrArg _ (funext fun a => Fin.ext ?_)
  match a with
  | ⟨0, _⟩ =>
    show cc0_transform_10 (grid0.coords t) 0 * 1 + 1 * (x 0).val = (0) % 1
    rw [tr_10]
    show 0 * 1 + 1 * (x 0).val = _
    omega
  | ⟨1, _⟩ =>
    show cc0_transform_10 (grid0.coords t) 1 * 8192 + 1 * (x 1).val = ((x 1).val) % 8192
    rw [tr_10]
    show 0 * 8192 + 1 * (x 1).val = _
    omega

end Cert.Proof.KernelIdeal
-- ==== Proof.KernelIdeal.Run.lean ====
/- The arrays the region reads, and the blocks the grid stages. -/
module

public import proofs.«01_k».proof.Proof.KernelIdeal.Blocks
public import proofs.«01_k».proof.Proof.Gen.KernelIdeal.Frame
public import Idealize.ShloMosaic.Lib.Claim
public import Idealize.ShloMosaic.Lib.Exec
public import Idealize.ShloMosaic.Lib.Pointwise.Reshape
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What each staging buffer holds after the body at a grid point: an input its block, the results the specification's
    values at the point's 64 tokens and the state after them. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (fun x => (Wt m c t.val).OUT (x 1).val (x 2).val : S1x64x8192.Idx → F .bf16)
    | ⟨12, _⟩ => (fun x => (Wt m c t.val).HS 64 (x 1).val (x 2).val : S1x16x8192.Idx → F .f32)
  Φ _ := Pipeline.ΦA spec0 c
  q _ := fullShare
  owed _ := 0

abbrev dats : (p : Fin 1) → (c : Dev nD) → Dat τ (Elt F) Unit ℕ (UR sig nD τ) ℕ (cfgs p) c := fun | 0 => fun c => dat0 m c

theorem A_eq0 (c : Dev nD) (w : Fin cfg0.W) : (dat0 m c).A w = V m c (Pipeline.arrRef spec0 w) := by dsimp only [dat0]

theorem after_0 (c : Dev nD) (t : Fin cfg0.N) : (dat0 m c).after 0 t = iblk m c 0 t := by dsimp only [dat0]
theorem after_1 (c : Dev nD) (t : Fin cfg0.N) : (dat0 m c).after 1 t = iblk m c 1 t := by dsimp only [dat0]
theorem after_2 (c : Dev nD) (t : Fin cfg0.N) : (dat0 m c).after 2 t = iblk m c 2 t := by dsimp only [dat0]
theorem after_3 (c : Dev nD) (t : Fin cfg0.N) : (dat0 m c).after 3 t = iblk m c 3 t := by dsimp only [dat0]
theorem after_4 (c : Dev nD) (t : Fin cfg0.N) : (dat0 m c).after 4 t = iblk m c 4 t := by dsimp only [dat0]
theorem after_5 (c : Dev nD) (t : Fin cfg0.N) : (dat0 m c).after 5 t = iblk m c 5 t := by dsimp only [dat0]
theorem after_6 (c : Dev nD) (t : Fin cfg0.N) : (dat0 m c).after 6 t = iblk m c 6 t := by dsimp only [dat0]
theorem after_7 (c : Dev nD) (t : Fin cfg0.N) : (dat0 m c).after 7 t = iblk m c 7 t := by dsimp only [dat0]
theorem after_8 (c : Dev nD) (t : Fin cfg0.N) : (dat0 m c).after 8 t = iblk m c 8 t := by dsimp only [dat0]
theorem after_9 (c : Dev nD) (t : Fin cfg0.N) : (dat0 m c).after 9 t = iblk m c 9 t := by dsimp only [dat0]
theorem after_10 (c : Dev nD) (t : Fin cfg0.N) : (dat0 m c).after 10 t = iblk m c 10 t := by dsimp only [dat0]
theorem after_11 (c : Dev nD) (t : Fin cfg0.N) : (dat0 m c).after 11 t = (fun x => (Wt m c t.val).OUT (x 1).val (x 2).val : S1x64x8192.Idx → F .bf16) := by dsimp only [dat0]
theorem after_12 (c : Dev nD) (t : Fin cfg0.N) : (dat0 m c).after 12 t = (fun x => (Wt m c t.val).HS 64 (x 1).val (x 2).val : S1x16x8192.Idx → F .f32) := by dsimp only [dat0]

theorem before_0 (c : Dev nD) (t : Fin cfg0.N) (d) : (dat0 m c).before 0 t d = iblk m c 0 t := before0_0_of m (dat0 m c) (A_eq0 m c 0) (after_0 m c) t d
theorem before_1 (c : Dev nD) (t : Fin cfg0.N) (d) : (dat0 m c).before 1 t d = iblk m c 1 t := before0_1_of m (dat0 m c) (A_eq0 m c 1) (after_1 m c) t d
theorem before_2 (c : Dev nD) (t : Fin cfg0.N) (d) : (dat0 m c).before 2 t d = iblk m c 2 t := before0_2_of m (dat0 m c) (A_eq0 m c 2) (after_2 m c) t d
theorem before_3 (c : Dev nD) (t : Fin cfg0.N) (d) : (dat0 m c).before 3 t d = iblk m c 3 t := before0_3_of m (dat0 m c) (A_eq0 m c 3) (after_3 m c) t d
theorem before_4 (c : Dev nD) (t : Fin cfg0.N) (d) : (dat0 m c).before 4 t d = iblk m c 4 t := before0_4_of m (dat0 m c) (A_eq0 m c 4) (after_4 m c) t d
theorem before_5 (c : Dev nD) (t : Fin cfg0.N) (d) : (dat0 m c).before 5 t d = iblk m c 5 t := before0_5_of m (dat0 m c) (A_eq0 m c 5) (after_5 m c) t d
theorem before_6 (c : Dev nD) (t : Fin cfg0.N) (d) : (dat0 m c).before 6 t d = iblk m c 6 t := before0_6_of m (dat0 m c) (A_eq0 m c 6) (after_6 m c) t d
theorem before_7 (c : Dev nD) (t : Fin cfg0.N) (d) : (dat0 m c).before 7 t d = iblk m c 7 t := before0_7_of m (dat0 m c) (A_eq0 m c 7) (after_7 m c) t d
theorem before_8 (c : Dev nD) (t : Fin cfg0.N) (d) : (dat0 m c).before 8 t d = iblk m c 8 t := before0_8_of m (dat0 m c) (A_eq0 m c 8) (after_8 m c) t d
theorem before_9 (c : Dev nD) (t : Fin cfg0.N) (d) : (dat0 m c).before 9 t d = iblk m c 9 t := before0_9_of m (dat0 m c) (A_eq0 m c 9) (after_9 m c) t d
theorem before_10 (c : Dev nD) (t : Fin cfg0.N) (d) : (dat0 m c).before 10 t d = iblk m c 10 t := before0_10_of m (dat0 m c) (A_eq0 m c 10) (after_10 m c) t d

/-- The state a later point of a batch finds is the one the point before left. -/
theorem before_12 (c : Dev nD) (t : Fin cfg0.N) (ht : t.val % 96 ≠ 0) (d) (x : S1x16x8192.Idx) :
    ((dat0 m c).before 12 t d : S1x16x8192.Idx → F .f32) x = (Wg m c (t.val / 96)).HS (64 * (t.val % 96)) (x 1).val (x 2).val := by
  have h0 : t.val ≠ 0 := fun h => ht (by rw [h])
  have e := Dat.before_out_kept (dat := dat0 m c) 12 rfl t h0 (Bool.eq_false_iff.mpr fun h => by
    have := (flush0_12 _).mp h
    dsimp only at this
    omega) (fun _ => rfl) (fun _ _ => rfl) d
  rw [e, after_12]
  show (Wt m c (t.val - 1)).HS 64 _ _ = _
  rw [Tabs.from_HS, show (t.val - 1) / 96 = t.val / 96 from by omega, show 64 * ((t.val - 1) % 96) + 64 = 64 * (t.val % 96) from by omega]

theorem held_whole (c : Dev nD) (b : Ref sig .tc) (f : Buf (Elt F) ((c : Thread nD τ).loc b)) :
    (held c (Memref.whole b) f : sProp 𝕄) = (((c : Thread nD τ).loc b) ↦{fullShare} f) := by
  show (((c : Thread nD τ).loc b) ↦[(View.whole b : View sig .tc _ _ _).set]{fullShare} f : sProp 𝕄) = _
  rw [View.set_whole]

/-! ## The body at a grid point -/

def bodyPre (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d))
    ∗ (∃ d, owns (c : Thread nD τ) (st0_6 t) fullShare ((dat0 m c).before 6 t d))
    ∗ (∃ d, owns (c : Thread nD τ) (st0_7 t) fullShare ((dat0 m c).before 7 t d))
    ∗ (∃ d, owns (c : Thread nD τ) (st0_8 t) fullShare ((dat0 m c).before 8 t d))
    ∗ (∃ d, owns (c : Thread nD τ) (st0_9 t) fullShare ((dat0 m c).before 9 t d))
    ∗ (∃ d, owns (c : Thread nD τ) (st0_10 t) fullShare ((dat0 m c).before 10 t d))
    ∗ (∃ d, owns (c : Thread nD τ) (st0_11 t) fullShare ((dat0 m c).before 11 t d))
    ∗ (∃ d, owns (c : Thread nD τ) (st0_12 t) fullShare ((dat0 m c).before 12 t d)))

def bodyPost (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t)
    ∗ owns (c : Thread nD τ) (st0_6 t) fullShare ((dat0 m c).after 6 t)
    ∗ owns (c : Thread nD τ) (st0_7 t) fullShare ((dat0 m c).after 7 t)
    ∗ owns (c : Thread nD τ) (st0_8 t) fullShare ((dat0 m c).after 8 t)
    ∗ owns (c : Thread nD τ) (st0_9 t) fullShare ((dat0 m c).after 9 t)
    ∗ owns (c : Thread nD τ) (st0_10 t) fullShare ((dat0 m c).after 10 t)
    ∗ owns (c : Thread nD τ) (st0_11 t) fullShare ((dat0 m c).after 11 t)
    ∗ owns (c : Thread nD τ) (st0_12 t) fullShare ((dat0 m c).after 12 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dat0 m c).Φ t.succ = Pipeline.ΦA spec0 c from rfl, show (dat0 m c).Φ t.castSucc = Pipeline.ΦA spec0 c from rfl,
    show (dat0 m c).owesAt () t.succ = (dat0 m c).owesAt () t.castSucc from rfl,
    after_0, after_1, after_2, after_3, after_4, after_5, after_6, after_7, after_8, after_9, after_10, after_11, after_12]
  unfold Pipeline.ΦA
  rw [scopedRest0_eq]
  simp only [← held_whole]
  unfold owns
  iintro ⟨⟨⟨S0, S1, S2, S3, S4, S5, S6⟩, HP⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩⟩
  have hN : t.val < 192 := t.isLt
  iapply (wp_point c (Wt m c t.val) (fun n T => aBT m c (t.val / 96) (64 * (t.val % 96) + T) n) (fun n T => aCT m c (t.val / 96) (64 * (t.val % 96) + T) n)
    (fun T => aBS m c (t.val / 96) (64 * (t.val % 96) + T)) (fun T => aCS m c (t.val / 96) (64 * (t.val % 96) + T)) (grid0.coords t)
    (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    f0 f1 f2 f3 f4 f5 f6 f7 f8 f9 f10 f12
    (fun x => (congrFun hf0 x).trans (iblk_0 m c t x))
    (fun x => (congrFun hf1 x).trans (iblk_1 m c t x))
    (fun x => (congrFun hf2 x).trans (iblk_2 m c t x))
    (fun x => (congrFun hf3 x).trans (iblk_3 m c t x))
    (fun x => (congrFun hf4 x).trans (iblk_4 m c t x))
    (fun x => (congrFun hf5 x).trans (iblk_5 m c t x))
    (fun x => (congrFun hf6 x).trans (iblk_6 m c t x))
    (fun x => (congrFun hf7 x).trans (iblk_7 m c t x))
    (fun x => (congrFun hf8 x).trans (iblk_8 m c t x))
    (fun x => (congrFun hf9 x).trans (iblk_9 m c t x))
    (fun x => (congrFun hf10 x).trans (iblk_10 m c t x))
    (fun h n l => by
      have h' : t.val % 96 = 0 := (co_1 t).symm.trans h
      show (Wg m c (t.val / 96)).HS (64 * (t.val % 96)) n l = _
      rw [h']; rfl)
    (fun h y => (congrFun hf12 y).trans (before_12 m c t (fun e => h ((co_1 t).trans e)) _ y))
    (fun _ _ => rfl) (fun _ _ => rfl))
  isplitl [S0 S1 S2 S3 S4 S5 S6 H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, H8, H9, H10, ⟨%fy, %hy, H11⟩, ⟨%fh, %hh, H12⟩, S0, S1, S2, S3, S4, S5, S6⟩
  isplitl [S0 S1 S2 S3 S4 S5 S6 HP]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact HP
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists fy; isplitr
    · ipureintro; exact funext fun y => hy y (y 2).isLt
    iexact H11
  iexists fh; isplitr
  · ipureintro; exact funext fun y => (hh y).1 (Or.inl (y 2).isLt)
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat0 (F := F) m c) (defs₀ (F := F)) Variants.none () Set.univ := fun t => by
  rw [bigSep_W0, bigSep_W0, defs₀_row]
  exact triple_restated (sound_body m c t) rfl .rfl fun _ => .rfl

/-! ## The run -/

/-- Every run ends with each array at the contents the proof data name, and the machine at rest. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame cfgs (dats m) 0 launch0 defs₀ Variants.none m ρ main
    (hbody := fun c => Idealize.ShloMosaic.Pipeline.BodyObligation.loose _ (body_obligation m c)) (hshare := fun c w => by fin_cases w <;> rfl) (howed := fun _ _ => rfl) (V := V m)
    (hmain := hmain m Variants.none) (hA := fun c w => A_eq0 m c w) (hΦ := fun _ _ => rfl) (Q' := _) (hQ' := fun _ h => h)

theorem run_frame : θ_run defs (onTc (τ := τ) (main (F := F))) ⟨m, fun _ => 0, ρ⟩ (Pipeline.FramePost cfgs (dats m) 0 (V m)) :=
  (θ_run defs _ _).mono (fun _ h => (h : _ ∧ _).1) (run_main m ρ)

/-- Every run ends with the arguments unchanged and the machine at rest. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨h.2, h.1.2⟩)
    (θ_run_and (run_main m ρ) (frame_of m ρ (dats m) (fun c w => A_eq0 m c w) (run_frame m ρ)))

end Cert.Proof.KernelIdeal
-- ==== Proof.Precondition.lean ====
/- The precondition, read at an index: the resets are zero or one, and `exp(A_log)` is no smaller than the least normal number. -/
module

public import proofs.«01_k».proof.Pre_in_range
public import Idealize.ShloMosaic.PureOps.Ideal
public import Idealize.ShloMosaic.Lib.ReduceAll
public import Idealize.ShloMosaic.Lib.Pointwise

@[expose] public section

set_option maxRecDepth 16384

noncomputable section

namespace Cert.Proof

open Idealize.ShloMosaic
open Cert.Pre_in_range

theorem pre_facts : Cert.Pre_in_range.Facts where
  bcast_S_S2x6144 := by decide
  reducesTo_S2x6144_S_d0_1 := by decide
  h_S_ := by decide
  bcast_S_S8192x16 := by decide
  reducesTo_S8192x16_S_d0_1 := by decide

/-- The least positive normal number of binary32. -/
def fltMin : EReal := Ideal.ofBits .f32 0x00800000#32

theorem or_one (a b : BitVec 1) (h : a ||| b = 1#1) : a = 1#1 ∨ b = 1#1 := by
  revert a b; decide

theorem and_one (a b : BitVec 1) (h : a &&& b = 1#1) : a = 1#1 ∧ b = 1#1 := by
  revert a b; decide

theorem pre_read [hPre : Facts] (x : FVec Ideal S2x6144x8192 .fp8e4m3) (xs : FVec Ideal S2x6144 .f32) (dt : FVec Ideal S2x6144x8192 .fp8e4m3)
    (ds : FVec Ideal S2x6144 .f32) (Bq : FVec Ideal S2x6144x16 .fp8e4m3) (bs : FVec Ideal S2x6144 .f32) (Cq : FVec Ideal S2x6144x16 .fp8e4m3)
    (cs : FVec Ideal S2x6144 .f32) (z : FVec Ideal S2x6144x8192 .bf16) (al : FVec Ideal S8192x16 .f32) (dd bias : FVec Ideal S8192 .f32)
    (rs : IVec S2x6144 32)
    (h : Cert.Pre_in_range.fn (F := Ideal) x xs dt ds Bq bs Cq cs z al dd bias rs = fun _ => 1#1) :
    (∀ i, rs i = 0#32 ∨ rs i = 1#32) ∧ ∀ i, fltMin ≤ Ideal.exp (al i) := by
  have h0 := congrFun h (fun k => k.elim0)
  unfold Cert.Pre_in_range.fn at h0
  obtain ⟨h5, h9⟩ := and_one _ _ h0
  haveI : Subsingleton S_.Idx := ⟨fun a b => funext fun k => k.elim0⟩
  constructor
  · intro i
    have e := Host.reduce_andi_all _ _ _ _ _ h5 i
    rcases or_one _ _ e with e | e
    · left
      have e' : BitVec.ofBool (rs i == 0#32) = 1#1 := e
      by_contra hne
      rw [beq_eq_false_iff_ne.2 hne] at e'
      exact absurd e' (by decide)
    · right
      have e' : BitVec.ofBool (rs i == 1#32) = 1#1 := e
      by_contra hne
      rw [beq_eq_false_iff_ne.2 hne] at e'
      exact absurd e' (by decide)
  · intro i
    have e := Host.reduce_andi_all _ _ _ _ _ h9 i
    have e' : BitVec.ofBool (decide (fltMin ≤ Ideal.exp (al i))) = 1#1 := e
    by_contra hne
    rw [decide_eq_false hne] at e'
    exact absurd e' (by decide)

end Cert.Proof

end
-- ==== Proof.KernelIdeal.Value.lean ====
/- The two arrays the kernel leaves: the scan's output and its final state. -/
module

public import proofs.«01_k».proof.Proof.KernelIdeal.Run
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]
variable (m : (ℓ : Loc nD τ sig) → Buf (Elt F) ℓ) (c : Dev nD)

theorem arr_11 : @Eq (S2x6144x8192.Idx → F .bf16) ((dat0 m c).arrAt 11 cfg0.N) fun i => (Wg m c (i 0).val).OUT (i 1).val (i 2).val := by
  refine (dat0 m c).arrAt_eq_of_covers 11 _ (by decide +kernel) fun t hf y => ?_
  blk_simp
  rw [after_11]
  have ht : t.val < 192 := t.isLt
  show (Wt m c t.val).OUT (y 1).val (y 2).val = (Wg m c (cc0_transform_11 (grid0.coords t) 0)).OUT
    (cc0_transform_11 (grid0.coords t) 1 * 64 + (y 1).val) (cc0_transform_11 (grid0.coords t) 2 * 8192 + (y 2).val)
  rw [tr_11 t, Tabs.from_OUT]
  show (Wg m c (t.val / 96)).OUT _ _ = (Wg m c (t.val / 96)).OUT (t.val % 96 * 64 + (y 1).val) (0 * 8192 + (y 2).val)
  congr 1 <;> omega

theorem arr_12 : @Eq (S2x16x8192.Idx → F .f32) ((dat0 m c).arrAt 12 cfg0.N) fun i => (Wg m c (i 0).val).HS 6144 (i 1).val (i 2).val := by
  refine (dat0 m c).arrAt_eq_of_covers 12 _ (by decide +kernel) fun t hf y => ?_
  blk_simp
  rw [after_12]
  have ht : t.val < 192 := t.isLt
  have hl := (flush0_12 t).mp hf
  show (Wt m c t.val).HS 64 (y 1).val (y 2).val = (Wg m c (cc0_transform_12 (grid0.coords t) 0)).HS 6144
    (cc0_transform_12 (grid0.coords t) 1 * 16 + (y 1).val) (cc0_transform_12 (grid0.coords t) 2 * 8192 + (y 2).val)
  rw [tr_12 t, Tabs.from_HS, hl]
  show (Wg m c (t.val / 96)).HS 6144 _ _ = (Wg m c (t.val / 96)).HS 6144 (0 * 16 + (y 1).val) (0 * 8192 + (y 2).val)
  congr 1 <;> omega

end Cert.Proof.KernelIdeal

end
-- ==== Proof.KernelIdeal.Operands.lean ====
/- What the host code hands the region, over the extended reals, as functions of the arguments. -/
module

public import proofs.«01_k».proof.Proof.Gen.KernelIdeal.Frame
public import Idealize.ShloMosaic.Lib.Pointwise
public import Idealize.ShloMosaic.Lib.Tactic.CleanTypes

@[expose] public section

set_option maxRecDepth 16384

noncomputable section

namespace Cert.Proof.Operands

open Cert.KernelIdeal Cert.KernelIdeal.Gen
open Idealize.ShloMosaic Idealize.ShloMosaic.TcCoe Idealize.ShloMosaic.StableHlo

section
variable (V : Valuation τ sig (Elt Ideal))
variable (xs ds rs bs : S2x6144.Idx → EReal) (Bq : S2x6144x16.Idx → EReal) (al : S8192x16.Idx → EReal) (dd : S8192.Idx → EReal)

theorem op_8 (h1 : V (Proc.devRef .tc main_arg1) = xs) (h2 : V (Proc.devRef .tc main_v2) = rs) (h3 : V (Proc.devRef .tc main_arg3) = ds) :
    @Eq (S2x6144x4.Idx → EReal) (after hostOps0_2 V (Proc.devRef .tc main_v8))
      fun i => if (i 2).val = 0 then ds (ix2 (i 0) (i 1)) else if (i 2).val = 3 then rs (ix2 (i 0) (i 1)) else xs (ix2 (i 0) (i 1)) := by
  subst h1 h2 h3; after_results; clean_types; simp only [id_eq]; funext i; idx_vars i; pointwise
  rcases i2 with ⟨k, hk⟩
  interval_cases k
  · refine Eq.trans (dif_pos (by dsimp only; omega)) ?_
    after_results; clean_types; pointwise
  · refine Eq.trans (dif_neg (by dsimp only; omega)) (Eq.trans (dif_pos (by dsimp only; omega)) ?_)
    after_results; clean_types; pointwise
  · refine Eq.trans (dif_neg (by dsimp only; omega)) (Eq.trans (dif_neg (by dsimp only; omega)) (Eq.trans (dif_pos (by dsimp only; omega)) ?_))
    after_results; clean_types; pointwise
  · refine Eq.trans (dif_neg (by dsimp only; omega)) (Eq.trans (dif_neg (by dsimp only; omega)) (Eq.trans (dif_neg (by dsimp only; omega)) ?_))
    after_results; clean_types; simp only [id_eq]; pointwise

theorem op_10 (h : V (Proc.devRef .tc main_arg4) = Bq) :
    @Eq (S2x96x16x64.Idx → EReal) (after hostOps0_2 V (Proc.devRef .tc main_v10))
      fun i => Bq (ix3 (i 0) (Fin.ofNat 6144 (64 * (i 1).val + (i 3).val)) (i 2)) := by
  subst h; after_results; clean_types; funext i; idx_vars i; pointwise
  congr 2
  refine Fin.ext ?_
  show i1.val * 64 + i3.val = (64 * i1.val + i3.val) % 6144
  omega

theorem op_12 (h : V (Proc.devRef .tc main_arg6) = Bq) :
    @Eq (S2x96x16x64.Idx → EReal) (after hostOps0_2 V (Proc.devRef .tc main_v12))
      fun i => Bq (ix3 (i 0) (Fin.ofNat 6144 (64 * (i 1).val + (i 3).val)) (i 2)) := by
  subst h; after_results; clean_types; funext i; idx_vars i; pointwise
  congr 2
  refine Fin.ext ?_
  show i1.val * 64 + i3.val = (64 * i1.val + i3.val) % 6144
  omega

theorem op_13 (h : V (Proc.devRef .tc main_arg5) = bs) :
    @Eq (S2x96x1x64.Idx → EReal) (after hostOps0_2 V (Proc.devRef .tc main_v13))
      fun i => bs (ix2 (i 0) (Fin.ofNat 6144 (64 * (i 1).val + (i 3).val))) := by
  subst h; after_results; clean_types; funext i; idx_vars i; pointwise
  congr 2
  refine Fin.ext ?_
  show i1.val * 64 + i3.val = (64 * i1.val + i3.val) % 6144
  omega

theorem op_14 (h : V (Proc.devRef .tc main_arg7) = bs) :
    @Eq (S2x96x1x64.Idx → EReal) (after hostOps0_2 V (Proc.devRef .tc main_v14))
      fun i => bs (ix2 (i 0) (Fin.ofNat 6144 (64 * (i 1).val + (i 3).val))) := by
  subst h; after_results; clean_types; funext i; idx_vars i; pointwise
  congr 2
  refine Fin.ext ?_
  show i1.val * 64 + i3.val = (64 * i1.val + i3.val) % 6144
  omega

theorem op_19 (h : V (Proc.devRef .tc main_arg9) = al) :
    @Eq (S16x8192.Idx → EReal) (after hostOps0_2 V (Proc.devRef .tc main_v19))
      fun i => min (-(Ideal.exp (al (ix2 (i 1) (i 0))))) (Ideal.ofBits .f32 0x80800000#32) := by
  subst h; after_results; clean_types; funext i; idx_vars i; pointwise

theorem op_20 (h : V (Proc.devRef .tc main_arg10) = dd) :
    @Eq (S1x8192.Idx → EReal) (after hostOps0_2 V (Proc.devRef .tc main_v20)) fun i => dd (ix1 (i 1)) := by
  subst h; after_results; clean_types; funext i; idx_vars i; pointwise

theorem op_21 (h : V (Proc.devRef .tc main_arg11) = dd) :
    @Eq (S1x8192.Idx → EReal) (after hostOps0_2 V (Proc.devRef .tc main_v21)) fun i => dd (ix1 (i 1)) := by
  subst h; after_results; clean_types; funext i; idx_vars i; pointwise

/-- Infinity where the reset flag is set, zero where not. -/
def rsK (r : BitVec 32) : EReal := if r = 0#32 then 0 else ⊤

theorem op_1 (rs : S2x6144.Idx → BitVec 32) (h : V (Proc.devRef .tc main_arg12) = rs) :
    @Eq (S2x6144.Idx → BitVec 1) (after hostOps0 V (Proc.devRef .tc main_v1)) fun i => BitVec.ofBool (rs i != 0#32) := by
  subst h; after_results; clean_types; funext i; rfl

theorem op_inf : @Eq (S_.Idx → EReal) (after hostOps0 V (Proc.devRef .tc main_cst)) fun _ => ⊤ := by
  after_results; clean_types; funext i
  show Ideal.ofBits .f32 0x7F800000#32 = ⊤
  simp [Ideal.ofBits, Ideal.ieee]

theorem op_zero : @Eq (S_.Idx → EReal) (after hostOps0 V (Proc.devRef .tc main_cst_0)) fun _ => 0 := by
  after_results; clean_types; funext i
  exact Ideal.ofBits_zero_f32

set_option maxRecDepth 100000 in
theorem op_2 (rs : S2x6144.Idx → BitVec 32) (hp : V (Proc.devRef .tc main_v1) = fun i : S2x6144.Idx => BitVec.ofBool (rs i != 0#32))
    (ha : V (Proc.devRef .tc main_cst) = fun _ : S_.Idx => (⊤ : EReal)) (hb : V (Proc.devRef .tc main_cst_0) = fun _ : S_.Idx => (0 : EReal)) :
    @Eq (S2x6144.Idx → EReal) (after hostOps0_1 V (Proc.devRef .tc main_v2)) fun i => rsK (rs i) := by
  after_results
  rw [hp, ha, hb]
  funext i
  refine Eq.trans (show _ = (if BitVec.ofBool (rs i != 0#32) = 1 then (⊤ : EReal) else 0) from rfl) ?_
  unfold rsK
  by_cases h : rs i = 0#32
  · rw [if_pos h, h]; rfl
  · rw [if_neg h, bne_iff_ne.2 h]; rfl

/-- The first two stretches write none of the arguments. -/
theorem st_args : ∀ a ∈ [main_arg1, main_arg3, main_arg4, main_arg5, main_arg6, main_arg7, main_arg9, main_arg10, main_arg11],
    after hostOps0_1 (after hostOps0 V) (Proc.devRef .tc a) = V (Proc.devRef .tc a) := fun a ha => by
  have w0 : (hostOps0 (F := Ideal)).Forall fun op => op.writes ⊆ (([main_c, main_v0, main_v1, main_cst, main_cst_0] : List (Ref sig .tc)).map (Proc.devRef (τ := τ) .tc)).toFinset := by
    simp only [List.Forall]; repeat' apply And.intro
    all_goals exact (by decide +kernel)
  have w1 : (hostOps0_1 (F := Ideal)).Forall fun op => op.writes ⊆ (([main_call0_v0, main_call0_v1, main_v2] : List (Ref sig .tc)).map (Proc.devRef (τ := τ) .tc)).toFinset := by
    simp only [List.Forall]; repeat' apply And.intro
    all_goals exact (by decide +kernel)
  refine (after_of_writes_sub _ _ w1 ?_).trans (after_of_writes_sub _ _ w0 ?_)
  · revert a; decide +kernel
  · revert a; decide +kernel

end

end Cert.Proof.Operands

end
-- ==== Proof.ReferenceIdeal.Trip.lean ====
module

public import proofs.«01_k».proof.Proof.Gen.ReferenceIdeal.Frame
public import Idealize.ShloMosaic.Lib.Pointwise
public import Idealize.ShloMosaic.Lib.Pointwise.Reshape
public import Idealize.ShloMosaic.Lib.WordArith.Masks
public import Idealize.ShloMosaic.Lib.Tactic.CleanTypes

@[expose] public section

set_option maxRecDepth 16384

/-! # One trip of the reference's scan, read at an element -/

noncomputable section

namespace Cert.Proof.ReferenceIdeal

open Idealize.ShloMosaic Idealize.ShloMosaic.TcCoe Idealize.ShloMosaic.StableHlo
open Cert.ReferenceIdeal Cert.ReferenceIdeal.Gen

/-- The trip counter read as a signed number. -/
theorem iv_toInt (k : ℕ) (hk : k < 6144) : (Scf.iv 0#32 1#32 k).toInt = k := by
  have h : (Scf.iv 0#32 1#32 k).toNat = k := WordArith.toNat_iv_zero_one _ (by omega)
  rw [BitVec.toInt_eq_toNat_of_lt (by omega), h]

/-- A `6144 × a × b` array's row `k`, sliced out and its unit axis dropped. -/
theorem row3 {a b : ℕ} (x : (⟨3, ![6144, a, b]⟩ : Shape).Idx → EReal) (start : Fin 3 → ℤ) (h) (hc)
    (k : ℕ) (hk : k < 6144) (h0 : start 0 = k) (h1 : start 1 = 0) (h2 : start 2 = 0) (i : (⟨2, ![a, b]⟩ : Shape).Idx) :
    shapeCast ⟨2, ![a, b]⟩ (Host.dynamicSlice ⟨3, ![1, a, b]⟩ x start h) hc i = x (ix3 ⟨k, hk⟩ (i 0) (i 1)) := by
  obtain ⟨p, q, rfl⟩ : ∃ (p : Fin a) (q : Fin b), i = ix2 p q := ⟨i 0, i 1, eq_ix2 i⟩
  have e : Shape.reshapeEquiv hc (ix2 p q) = ix3 0 p q := by
    refine Shape.reshapeEquiv_eq_of_rowMajor _ ?_
    rw [rowMajor_val2 _ b rfl, rowMajor_val3 _ (a * b) b rfl rfl]
    show 0 * (a * b) + p.val * b + q.val = p.val * b + q.val
    rw [Nat.zero_mul, Nat.zero_add]
  refine (congrArg (Host.dynamicSlice ⟨3, ![1, a, b]⟩ x start h) e).trans ?_
  refine congrArg x (funext fun r => Fin.ext ?_)
  have c0 := Host.clampedStart_of_le (s := ⟨3, ![6144, a, b]⟩) (t := ⟨3, ![1, a, b]⟩) h.1 start 0 k h0 (by show k + 1 ≤ 6144; omega)
  have c1 := Host.clampedStart_of_le (s := ⟨3, ![6144, a, b]⟩) (t := ⟨3, ![1, a, b]⟩) h.1 start 1 0 h1 (by show 0 + a ≤ a; omega)
  have c2 := Host.clampedStart_of_le (s := ⟨3, ![6144, a, b]⟩) (t := ⟨3, ![1, a, b]⟩) h.1 start 2 0 h2 (by show 0 + b ≤ b; omega)
  match r with
  | ⟨0, _⟩ => show Host.clampedStart ⟨3, ![6144, a, b]⟩ ⟨3, ![1, a, b]⟩ h.1 start 0 + 0 = k; rw [c0]; rfl
  | ⟨1, _⟩ => show Host.clampedStart ⟨3, ![6144, a, b]⟩ ⟨3, ![1, a, b]⟩ h.1 start 1 + p.val = p.val; rw [c1]; exact Nat.zero_add _
  | ⟨2, _⟩ => show Host.clampedStart ⟨3, ![6144, a, b]⟩ ⟨3, ![1, a, b]⟩ h.1 start 2 + q.val = q.val; rw [c2]; exact Nat.zero_add _

variable (V : Valuation τ sig (Elt Ideal)) (k : ℕ) (hk : k < 6144)

set_option maxRecDepth 100000 in
theorem row_delta (hV : V (Proc.devRef .tc main_v31_6) = fun _ => Scf.iv 0#32 1#32 k) (i : S2x8192.Idx) :
    after while0Ops0 V (Proc.devRef .tc main_while0b_v41) i
      = V (Proc.devRef .tc main_v31_0) (ix3 ⟨k, hk⟩ (i 0) (i 1)) := by
  after_results
  refine row3 (V (Proc.devRef .tc main_v31_0)) _ sliceFits_S6144x2x8192_S1x2x8192 shapeCasts_S1x2x8192_S2x8192 k hk ?_ ?_ ?_ i
  · show BitVec.toInt (V (Proc.devRef .tc main_v31_6) _) = _
    rw [hV]; exact iv_toInt k hk
  · rfl
  · rfl

set_option maxRecDepth 100000 in
theorem row_u (hV : V (Proc.devRef .tc main_v31_6) = fun _ => Scf.iv 0#32 1#32 k) (i : S2x8192.Idx) :
    after while0Ops0_1 V (Proc.devRef .tc main_while0b_v42) i
      = V (Proc.devRef .tc main_v31_1) (ix3 ⟨k, hk⟩ (i 0) (i 1)) := by
  after_results
  refine row3 (V (Proc.devRef .tc main_v31_1)) _ sliceFits_S6144x2x8192_S1x2x8192 shapeCasts_S1x2x8192_S2x8192 k hk ?_ ?_ ?_ i
  · show BitVec.toInt (V (Proc.devRef .tc main_v31_6) _) = _
    rw [hV]; exact iv_toInt k hk
  · rfl
  · rfl

set_option maxRecDepth 100000 in
theorem row_B (hV : V (Proc.devRef .tc main_v31_6) = fun _ => Scf.iv 0#32 1#32 k) (i : S2x16.Idx) :
    after while0Ops0_2 V (Proc.devRef .tc main_while0b_v43) i
      = V (Proc.devRef .tc main_v31_2) (ix3 ⟨k, hk⟩ (i 0) (i 1)) := by
  after_results
  refine row3 (V (Proc.devRef .tc main_v31_2)) _ sliceFits_S6144x2x16_S1x2x16 shapeCasts_S1x2x16_S2x16 k hk ?_ ?_ ?_ i
  · show BitVec.toInt (V (Proc.devRef .tc main_v31_6) _) = _
    rw [hV]; exact iv_toInt k hk
  · rfl
  · rfl

set_option maxRecDepth 100000 in
theorem row_C (hV : V (Proc.devRef .tc main_v31_6) = fun _ => Scf.iv 0#32 1#32 k) (i : S2x16.Idx) :
    after while0Ops0_3 V (Proc.devRef .tc main_while0b_v44) i
      = V (Proc.devRef .tc main_v31_3) (ix3 ⟨k, hk⟩ (i 0) (i 1)) := by
  after_results
  refine row3 (V (Proc.devRef .tc main_v31_3)) _ sliceFits_S6144x2x16_S1x2x16 shapeCasts_S1x2x16_S2x16 k hk ?_ ?_ ?_ i
  · show BitVec.toInt (V (Proc.devRef .tc main_v31_6) _) = _
    rw [hV]; exact iv_toInt k hk
  · rfl
  · rfl

/-- A `6144 × a` array's row `k`, sliced out and its unit axis dropped. -/
theorem row2 {a : ℕ} (x : (⟨2, ![6144, a]⟩ : Shape).Idx → EReal) (start : Fin 2 → ℤ) (h) (hc)
    (k : ℕ) (hk : k < 6144) (h0 : start 0 = k) (h1 : start 1 = 0) (i : (⟨1, ![a]⟩ : Shape).Idx) :
    shapeCast ⟨1, ![a]⟩ (Host.dynamicSlice ⟨2, ![1, a]⟩ x start h) hc i = x (ix2 ⟨k, hk⟩ (i 0)) := by
  obtain ⟨p, rfl⟩ : ∃ p : Fin a, i = ix1 p := ⟨i 0, eq_ix1 i⟩
  have e : Shape.reshapeEquiv hc (ix1 p) = ix2 0 p := by
    refine Shape.reshapeEquiv_eq_of_rowMajor _ ?_
    rw [rowMajor_val1, rowMajor_val2 _ a rfl]
    show 0 * a + p.val = p.val
    rw [Nat.zero_mul, Nat.zero_add]
  refine (congrArg (Host.dynamicSlice ⟨2, ![1, a]⟩ x start h) e).trans ?_
  refine congrArg x (funext fun r => Fin.ext ?_)
  have c0 := Host.clampedStart_of_le (s := ⟨2, ![6144, a]⟩) (t := ⟨2, ![1, a]⟩) h.1 start 0 k h0 (by show k + 1 ≤ 6144; omega)
  have c1 := Host.clampedStart_of_le (s := ⟨2, ![6144, a]⟩) (t := ⟨2, ![1, a]⟩) h.1 start 1 0 h1 (by show 0 + a ≤ a; omega)
  match r with
  | ⟨0, _⟩ => show Host.clampedStart ⟨2, ![6144, a]⟩ ⟨2, ![1, a]⟩ h.1 start 0 + 0 = k; rw [c0]; rfl
  | ⟨1, _⟩ => show Host.clampedStart ⟨2, ![6144, a]⟩ ⟨2, ![1, a]⟩ h.1 start 1 + p.val = p.val; rw [c1]; exact Nat.zero_add _

set_option maxRecDepth 100000 in
theorem row_keep (hV : V (Proc.devRef .tc main_v31_6) = fun _ => Scf.iv 0#32 1#32 k) (i : S2.Idx) :
    after while0Ops0_4 V (Proc.devRef .tc main_while0b_v45) i
      = V (Proc.devRef .tc main_v31_4) (ix2 ⟨k, hk⟩ (i 0)) := by
  after_results
  refine row2 (V (Proc.devRef .tc main_v31_4)) _ sliceFits_S6144x2_S1x2 shapeCasts_S1x2_S2 k hk ?_ ?_ i
  · show BitVec.toInt (V (Proc.devRef .tc main_v31_6) _) = _
    rw [hV]; exact iv_toInt k hk
  · rfl

/-- The state after the trip's arithmetic. -/
theorem state_step (D U : S2x8192.Idx → EReal) (A : S16x8192.Idx → EReal) (H : S2x16x8192.Idx → EReal) (K : S2.Idx → EReal)
    (B : S2x16.Idx → EReal)
    (hD : V (Proc.devRef .tc main_while0b_v41) = D) (hU : V (Proc.devRef .tc main_while0b_v42) = U)
    (hB : V (Proc.devRef .tc main_while0b_v43) = B) (hK : V (Proc.devRef .tc main_while0b_v45) = K)
    (hA : V (Proc.devRef .tc main_v31_5) = A) (hH : V (Proc.devRef .tc main_v31_7) = H) :
    @Eq (S2x16x8192.Idx → EReal) (after while0Ops0_5 V (Proc.devRef .tc main_while0b_v61))
      fun i => Ideal.exp (D (ix2 (i 0) (i 2)) * A (ix2 (i 1) (i 2))) * H i * K (ix1 (i 0)) + U (ix2 (i 0) (i 2)) * B (ix2 (i 0) (i 1)) := by
  subst hD hU hB hK hA hH
  after_results
  clean_types
  funext i
  idx_vars i
  pointwise

/-- The output row after the trip's arithmetic. -/
theorem row_step (C : S2x16.Idx → EReal) (H' : S2x16x8192.Idx → EReal) (hC : V (Proc.devRef .tc main_while0b_v44) = C)
    (hH : after while0Ops0_5 V (Proc.devRef .tc main_while0b_v61) = H') :
    @Eq (S2x8192.Idx → EReal) (after while0Ops0_5 V (Proc.devRef .tc main_while0b_v65))
      fun i => ∑ n : Fin 16, H' (ix3 (i 0) n (i 1)) * C (ix2 (i 0) n) := by
  subst hC hH
  funext i
  after_results
  clean_types
  idx_vars i
  pointwise

/-- A `6144 × a × b` array with row `k` overwritten. -/
theorem upd3 {a b : ℕ} (x : (⟨3, ![6144, a, b]⟩ : Shape).Idx → EReal) (u : (⟨3, ![1, a, b]⟩ : Shape).Idx → EReal)
    (start : Fin 3 → ℤ) (h) (k : ℕ) (hk : k < 6144) (h0 : start 0 = k) (h1 : start 1 = 0) (h2 : start 2 = 0)
    (i : (⟨3, ![6144, a, b]⟩ : Shape).Idx) :
    Host.dynamicUpdateSlice x u start h i = if (i 0).val = k then u (ix3 0 (i 1) (i 2)) else x i := by
  obtain ⟨t, p, q, rfl⟩ : ∃ (t : Fin 6144) (p : Fin a) (q : Fin b), i = ix3 t p q := ⟨i 0, i 1, i 2, eq_ix3 i⟩
  have c0 := Host.clampedStart_of_le (s := ⟨3, ![6144, a, b]⟩) (t := ⟨3, ![1, a, b]⟩) h.1 start 0 k h0 (by show k + 1 ≤ 6144; omega)
  have c1 := Host.clampedStart_of_le (s := ⟨3, ![6144, a, b]⟩) (t := ⟨3, ![1, a, b]⟩) h.1 start 1 0 h1 (by show 0 + a ≤ a; omega)
  have c2 := Host.clampedStart_of_le (s := ⟨3, ![6144, a, b]⟩) (t := ⟨3, ![1, a, b]⟩) h.1 start 2 0 h2 (by show 0 + b ≤ b; omega)
  have hp := p.isLt
  have hq := q.isLt
  rw [Host.dynamicUpdateSlice_apply]
  by_cases e : t.val = k
  · rw [dif_pos, if_pos (show ((ix3 t p q : (⟨3, ![6144, a, b]⟩ : Shape).Idx) 0).val = k from e)]
    · refine congrArg u (funext fun r => Fin.ext ?_)
      match r with
      | ⟨0, _⟩ => show t.val - Host.clampedStart ⟨3, ![6144, a, b]⟩ ⟨3, ![1, a, b]⟩ h.1 start 0 = 0; rw [c0, e]; exact Nat.sub_self _
      | ⟨1, _⟩ => show p.val - Host.clampedStart ⟨3, ![6144, a, b]⟩ ⟨3, ![1, a, b]⟩ h.1 start 1 = p.val; rw [c1]; rfl
      | ⟨2, _⟩ => show q.val - Host.clampedStart ⟨3, ![6144, a, b]⟩ ⟨3, ![1, a, b]⟩ h.1 start 2 = q.val; rw [c2]; rfl
    · intro r
      match r with
      | ⟨0, _⟩ =>
        show Host.clampedStart ⟨3, ![6144, a, b]⟩ ⟨3, ![1, a, b]⟩ h.1 start 0 ≤ t.val ∧ t.val < Host.clampedStart ⟨3, ![6144, a, b]⟩ ⟨3, ![1, a, b]⟩ h.1 start 0 + 1
        rw [c0]; omega
      | ⟨1, _⟩ =>
        show Host.clampedStart ⟨3, ![6144, a, b]⟩ ⟨3, ![1, a, b]⟩ h.1 start 1 ≤ p.val ∧ p.val < Host.clampedStart ⟨3, ![6144, a, b]⟩ ⟨3, ![1, a, b]⟩ h.1 start 1 + a
        rw [c1]; omega
      | ⟨2, _⟩ =>
        show Host.clampedStart ⟨3, ![6144, a, b]⟩ ⟨3, ![1, a, b]⟩ h.1 start 2 ≤ q.val ∧ q.val < Host.clampedStart ⟨3, ![6144, a, b]⟩ ⟨3, ![1, a, b]⟩ h.1 start 2 + b
        rw [c2]; omega
  · rw [dif_neg, if_neg (show ¬ ((ix3 t p q : (⟨3, ![6144, a, b]⟩ : Shape).Idx) 0).val = k from e)]
    intro hin
    have h := hin 0
    rw [c0] at h
    have h' : k ≤ t.val ∧ t.val < k + 1 := h
    omega

set_option maxRecDepth 100000 in
/-- The rows of outputs after the trip: row `k` is the new one. -/
theorem rows_step (hk : k < 6144) (hV : V (Proc.devRef .tc main_v31_6) = fun _ => Scf.iv 0#32 1#32 k) (R : S2x8192.Idx → EReal)
    (Y : S6144x2x8192.Idx → EReal) (hR : V (Proc.devRef .tc main_while0b_v65) = R) (hY : V (Proc.devRef .tc main_v31_8) = Y) :
    @Eq (S6144x2x8192.Idx → EReal) (after while0Ops0_6 V (Proc.devRef .tc main_while0b_v66))
      fun i => if (i 0).val = k then R (ix2 (i 1) (i 2)) else Y i := by
  subst hR hY
  after_results
  funext i
  refine (upd3 (V (Proc.devRef .tc main_v31_8)) (broadcastInDim S1x2x8192 ![1, 2] bcast_S2x8192_S1x2x8192_1_2 (V (Proc.devRef .tc main_while0b_v65)))
    _ updateFits_S6144x2x8192_S1x2x8192 k hk ?_ ?_ ?_ i).trans ?_
  · show BitVec.toInt (V (Proc.devRef .tc main_v31_6) _) = _
    rw [hV]; exact iv_toInt k hk
  · rfl
  · rfl
  · idx_vars i
    pointwise

theorem copy_7 : after while0Ops0_7 V (Proc.devRef .tc main_v31_7) = V (Proc.devRef .tc main_while0b_v61) := by
  after_results
  rfl

theorem copy_8 : after while0Ops0_7 V (Proc.devRef .tc main_v31_8) = V (Proc.devRef .tc main_while0b_v66) := by
  after_results
  rfl

end Cert.Proof.ReferenceIdeal

end
-- ==== Proof.ReferenceIdeal.Loop.lean ====
module

public import proofs.«01_k».proof.Proof.ReferenceIdeal.Trip

@[expose] public section

set_option maxRecDepth 16384

/-! # The reference's scan: the state and the output rows after any number of trips -/

noncomputable section

namespace Cert.Proof.ReferenceIdeal

open Idealize.ShloMosaic Idealize.ShloMosaic.TcCoe Idealize.ShloMosaic.StableHlo
open Cert.ReferenceIdeal Cert.ReferenceIdeal.Gen

/-- Time step `k` as a position on the time axis. -/
abbrev tm (k : ℕ) : Fin 6144 := Fin.ofNat 6144 k

theorem tm_of_lt (k : ℕ) (hk : k < 6144) : (⟨k, hk⟩ : Fin 6144) = tm k := Fin.ext (Nat.mod_eq_of_lt hk).symm

/-- The scan's state after `k` steps. -/
def hR (D U : S6144x2x8192.Idx → EReal) (B : S6144x2x16.Idx → EReal) (K : S6144x2.Idx → EReal) (A : S16x8192.Idx → EReal)
    (H : S2x16x8192.Idx → EReal) : ℕ → S2x16x8192.Idx → EReal
  | 0 => H
  | k + 1 => fun i => Ideal.exp (D (ix3 (tm k) (i 0) (i 2)) * A (ix2 (i 1) (i 2))) * hR D U B K A H k i * K (ix2 (tm k) (i 0))
      + U (ix3 (tm k) (i 0) (i 2)) * B (ix3 (tm k) (i 0) (i 1))

/-- The scan's output at a step, from the state after it. -/
def yR (C : S6144x2x16.Idx → EReal) (h : ℕ → S2x16x8192.Idx → EReal) (t : Fin 6144) (b : Fin 2) (l : Fin 8192) : EReal :=
  ∑ n : Fin 16, h (t.val + 1) (ix3 b n l) * C (ix3 t b n)

/-- What no stretch of the loop writes. -/
structure Kept (r : Ref sig .tc) : Prop where
  cond : r ∉ condOps_W
  s : r ∉ while0Ops0_W
  s_1 : r ∉ while0Ops0_1_W
  s_2 : r ∉ while0Ops0_2_W
  s_3 : r ∉ while0Ops0_3_W
  s_4 : r ∉ while0Ops0_4_W
  s_5 : r ∉ while0Ops0_5_W
  s_6 : r ∉ while0Ops0_6_W
  s_7 : r ∉ while0Ops0_7_W

variable (m : (b : Loc nD τ sig) → Buf (Elt Ideal) b) (ρ : Dev nD → PrngReg)

/-- A buffer the loop does not write holds at every trip what it held at entry. -/
theorem kept {r : Ref sig .tc} (h : Kept r) (c : Dev nD) : ∀ k, Wk m ρ k c (Proc.devRef .tc r) = Went m ρ c (Proc.devRef .tc r)
  | 0 => rfl
  | k + 1 => by
    rw [show Wk m ρ (k + 1) c = afterL bodyI (after condOps (Wk m ρ k c)) from rfl]
    simp only [afterL_cons, afterL_nil]
    rw [after_of_writes_sub while0Ops0_7 _ while0Ops0_7_writes h.s_7, after_of_writes_sub while0Ops0_6 _ while0Ops0_6_writes h.s_6, after_of_writes_sub while0Ops0_5 _ while0Ops0_5_writes h.s_5, after_of_writes_sub while0Ops0_4 _ while0Ops0_4_writes h.s_4, after_of_writes_sub while0Ops0_3 _ while0Ops0_3_writes h.s_3, after_of_writes_sub while0Ops0_2 _ while0Ops0_2_writes h.s_2, after_of_writes_sub while0Ops0_1 _ while0Ops0_1_writes h.s_1, after_of_writes_sub while0Ops0 _ while0Ops0_writes h.s, after_of_writes_sub condOps _ condOps_writes h.cond]
    exact kept h c k

theorem kept_0 : Kept main_v31_0 := by constructor <;> decide +kernel
theorem kept_1 : Kept main_v31_1 := by constructor <;> decide +kernel
theorem kept_2 : Kept main_v31_2 := by constructor <;> decide +kernel
theorem kept_3 : Kept main_v31_3 := by constructor <;> decide +kernel
theorem kept_4 : Kept main_v31_4 := by constructor <;> decide +kernel
theorem kept_5 : Kept main_v31_5 := by constructor <;> decide +kernel

/-- One trip, from the values the carried buffers hold before it. -/
theorem trip (V : Valuation τ sig (Elt Ideal)) (k : ℕ) (hk : k < 6144) (hV : V (Proc.devRef .tc main_v31_6) = fun _ => Scf.iv 0#32 1#32 k)
    (D U : S6144x2x8192.Idx → EReal) (B C : S6144x2x16.Idx → EReal) (K : S6144x2.Idx → EReal) (A : S16x8192.Idx → EReal)
    (H : S2x16x8192.Idx → EReal) (Y : S6144x2x8192.Idx → EReal)
    (h0 : V (Proc.devRef .tc main_v31_0) = D) (h1 : V (Proc.devRef .tc main_v31_1) = U) (h2 : V (Proc.devRef .tc main_v31_2) = B)
    (h3 : V (Proc.devRef .tc main_v31_3) = C) (h4 : V (Proc.devRef .tc main_v31_4) = K) (h5 : V (Proc.devRef .tc main_v31_5) = A)
    (h7 : V (Proc.devRef .tc main_v31_7) = H) (h8 : V (Proc.devRef .tc main_v31_8) = Y) :
    @Eq (S2x16x8192.Idx → EReal) (afterL bodyI V (Proc.devRef .tc main_v31_7))
        (fun i => Ideal.exp (D (ix3 ⟨k, hk⟩ (i 0) (i 2)) * A (ix2 (i 1) (i 2))) * H i * K (ix2 ⟨k, hk⟩ (i 0))
          + U (ix3 ⟨k, hk⟩ (i 0) (i 2)) * B (ix3 ⟨k, hk⟩ (i 0) (i 1)))
      ∧ @Eq (S6144x2x8192.Idx → EReal) (afterL bodyI V (Proc.devRef .tc main_v31_8))
        (fun i => if (i 0).val = k then ∑ n : Fin 16, (Ideal.exp (D (ix3 ⟨k, hk⟩ (i 1) (i 2)) * A (ix2 n (i 2))) * H (ix3 (i 1) n (i 2)) * K (ix2 ⟨k, hk⟩ (i 1))
          + U (ix3 ⟨k, hk⟩ (i 1) (i 2)) * B (ix3 ⟨k, hk⟩ (i 1) n)) * C (ix3 ⟨k, hk⟩ (i 1) n) else Y i) := by
  simp only [afterL_cons, afterL_nil]
  have g0 : V (Proc.devRef .tc main_v31_6) = _ := hV
  generalize e1 : after while0Ops0 V = V1
  generalize e2 : after while0Ops0_1 V1 = V2
  generalize e3 : after while0Ops0_2 V2 = V3
  generalize e4 : after while0Ops0_3 V3 = V4
  generalize e5 : after while0Ops0_4 V4 = V5
  generalize e6 : after while0Ops0_5 V5 = V6
  generalize e7 : after while0Ops0_6 V6 = V7
  have k1 : ∀ r : Ref sig .tc, r ∉ while0Ops0_W → V1 (Proc.devRef .tc r) = V (Proc.devRef .tc r) :=
    fun r h => e1 ▸ after_of_writes_sub while0Ops0 V while0Ops0_writes h
  have g1 : V1 (Proc.devRef .tc main_v31_6) = fun _ => Scf.iv 0#32 1#32 k := (k1 _ (by decide +kernel)).trans g0
  have k2 : ∀ r : Ref sig .tc, r ∉ while0Ops0_1_W → V2 (Proc.devRef .tc r) = V1 (Proc.devRef .tc r) :=
    fun r h => e2 ▸ after_of_writes_sub while0Ops0_1 V1 while0Ops0_1_writes h
  have g2 : V2 (Proc.devRef .tc main_v31_6) = fun _ => Scf.iv 0#32 1#32 k := (k2 _ (by decide +kernel)).trans g1
  have k3 : ∀ r : Ref sig .tc, r ∉ while0Ops0_2_W → V3 (Proc.devRef .tc r) = V2 (Proc.devRef .tc r) :=
    fun r h => e3 ▸ after_of_writes_sub while0Ops0_2 V2 while0Ops0_2_writes h
  have g3 : V3 (Proc.devRef .tc main_v31_6) = fun _ => Scf.iv 0#32 1#32 k := (k3 _ (by decide +kernel)).trans g2
  have k4 : ∀ r : Ref sig .tc, r ∉ while0Ops0_3_W → V4 (Proc.devRef .tc r) = V3 (Proc.devRef .tc r) :=
    fun r h => e4 ▸ after_of_writes_sub while0Ops0_3 V3 while0Ops0_3_writes h
  have g4 : V4 (Proc.devRef .tc main_v31_6) = fun _ => Scf.iv 0#32 1#32 k := (k4 _ (by decide +kernel)).trans g3
  have k5 : ∀ r : Ref sig .tc, r ∉ while0Ops0_4_W → V5 (Proc.devRef .tc r) = V4 (Proc.devRef .tc r) :=
    fun r h => e5 ▸ after_of_writes_sub while0Ops0_4 V4 while0Ops0_4_writes h
  have g5 : V5 (Proc.devRef .tc main_v31_6) = fun _ => Scf.iv 0#32 1#32 k := (k5 _ (by decide +kernel)).trans g4
  have k6 : ∀ r : Ref sig .tc, r ∉ while0Ops0_5_W → V6 (Proc.devRef .tc r) = V5 (Proc.devRef .tc r) :=
    fun r h => e6 ▸ after_of_writes_sub while0Ops0_5 V5 while0Ops0_5_writes h
  have g6 : V6 (Proc.devRef .tc main_v31_6) = fun _ => Scf.iv 0#32 1#32 k := (k6 _ (by decide +kernel)).trans g5
  have k7 : ∀ r : Ref sig .tc, r ∉ while0Ops0_6_W → V7 (Proc.devRef .tc r) = V6 (Proc.devRef .tc r) :=
    fun r h => e7 ▸ after_of_writes_sub while0Ops0_6 V6 while0Ops0_6_writes h
  have d : V5 (Proc.devRef .tc main_while0b_v41) = (fun i => D (ix3 ⟨k, hk⟩ (i 0) (i 1)) : S2x8192.Idx → EReal) := by
    rw [k5 _ (by decide +kernel), k4 _ (by decide +kernel), k3 _ (by decide +kernel), k2 _ (by decide +kernel), ← e1]
    funext i
    rw [row_delta V k hk hV i, h0]
  have u : V5 (Proc.devRef .tc main_while0b_v42) = (fun i => U (ix3 ⟨k, hk⟩ (i 0) (i 1)) : S2x8192.Idx → EReal) := by
    rw [k5 _ (by decide +kernel), k4 _ (by decide +kernel), k3 _ (by decide +kernel), ← e2]
    funext i
    rw [row_u V1 k hk g1 i, k1 _ (by decide +kernel), h1]
  have b : V5 (Proc.devRef .tc main_while0b_v43) = (fun i => B (ix3 ⟨k, hk⟩ (i 0) (i 1)) : S2x16.Idx → EReal) := by
    rw [k5 _ (by decide +kernel), k4 _ (by decide +kernel), ← e3]
    funext i
    rw [row_B V2 k hk g2 i, k2 _ (by decide +kernel), k1 _ (by decide +kernel), h2]
  have cc : V5 (Proc.devRef .tc main_while0b_v44) = (fun i => C (ix3 ⟨k, hk⟩ (i 0) (i 1)) : S2x16.Idx → EReal) := by
    rw [k5 _ (by decide +kernel), ← e4]
    funext i
    rw [row_C V3 k hk g3 i, k3 _ (by decide +kernel), k2 _ (by decide +kernel), k1 _ (by decide +kernel), h3]
  have kp : V5 (Proc.devRef .tc main_while0b_v45) = (fun i => K (ix2 ⟨k, hk⟩ (i 0)) : S2.Idx → EReal) := by
    rw [← e5]
    funext i
    rw [row_keep V4 k hk g4 i, k4 _ (by decide +kernel), k3 _ (by decide +kernel), k2 _ (by decide +kernel), k1 _ (by decide +kernel), h4]
  have aa : V5 (Proc.devRef .tc main_v31_5) = A := by rw [k5 _ (by decide +kernel), k4 _ (by decide +kernel), k3 _ (by decide +kernel), k2 _ (by decide +kernel), k1 _ (by decide +kernel), h5]
  have hh : V5 (Proc.devRef .tc main_v31_7) = H := by rw [k5 _ (by decide +kernel), k4 _ (by decide +kernel), k3 _ (by decide +kernel), k2 _ (by decide +kernel), k1 _ (by decide +kernel), h7]
  have yy : V6 (Proc.devRef .tc main_v31_8) = Y := by rw [k6 _ (by decide +kernel), k5 _ (by decide +kernel), k4 _ (by decide +kernel), k3 _ (by decide +kernel), k2 _ (by decide +kernel), k1 _ (by decide +kernel), h8]
  have st := state_step V5 _ _ _ _ _ _ d u b kp aa hh
  have rw5 := row_step V5 _ _ cc st
  rw [e6] at st rw5
  have ys := rows_step V6 k hk g6 _ _ rw5 yy
  rw [e7] at ys
  refine ⟨(copy_7 V7).trans ((k7 _ (by decide +kernel)).trans st), (copy_8 V7).trans ys⟩

/-- The carried buffers before trip `k`. -/
theorem loop (c : Dev nD) (D U : S6144x2x8192.Idx → EReal) (B C : S6144x2x16.Idx → EReal) (K : S6144x2.Idx → EReal) (A : S16x8192.Idx → EReal)
    (H : S2x16x8192.Idx → EReal) (Y : S6144x2x8192.Idx → EReal)
    (h0 : Went m ρ c (Proc.devRef .tc main_v31_0) = D) (h1 : Went m ρ c (Proc.devRef .tc main_v31_1) = U)
    (h2 : Went m ρ c (Proc.devRef .tc main_v31_2) = B) (h3 : Went m ρ c (Proc.devRef .tc main_v31_3) = C)
    (h4 : Went m ρ c (Proc.devRef .tc main_v31_4) = K) (h5 : Went m ρ c (Proc.devRef .tc main_v31_5) = A)
    (h7 : Went m ρ c (Proc.devRef .tc main_v31_7) = H) (h8 : Went m ρ c (Proc.devRef .tc main_v31_8) = Y) :
    ∀ k ≤ 6144, @Eq (S2x16x8192.Idx → EReal) (Wk m ρ k c (Proc.devRef .tc main_v31_7)) (hR D U B K A H k)
      ∧ @Eq (S6144x2x8192.Idx → EReal) (Wk m ρ k c (Proc.devRef .tc main_v31_8))
          (fun i => if (i 0).val < k then yR C (hR D U B K A H) (i 0) (i 1) (i 2) else Y i)
  | 0, _ => ⟨h7, by funext i; rw [if_neg (Nat.not_lt_zero _)]; exact congrFun h8 i⟩
  | k + 1, hk => by
    have ih := loop c D U B C K A H Y h0 h1 h2 h3 h4 h5 h7 h8 k (by omega)
    rw [show Wk m ρ (k + 1) c = afterL bodyI (after condOps (Wk m ρ k c)) from rfl]
    have q : ∀ r : Ref sig .tc, r ∉ condOps_W → after condOps (Wk m ρ k c) (Proc.devRef .tc r) = Wk m ρ k c (Proc.devRef .tc r) :=
      fun r h => after_of_writes_sub condOps _ condOps_writes h
    have t := trip (after condOps (Wk m ρ k c)) k (by omega) ((q _ (by decide +kernel)).trans (atK_ctr m ρ c k)) D U B C K A _ _
      ((q _ (by decide +kernel)).trans ((kept m ρ kept_0 c k).trans h0)) ((q _ (by decide +kernel)).trans ((kept m ρ kept_1 c k).trans h1))
      ((q _ (by decide +kernel)).trans ((kept m ρ kept_2 c k).trans h2)) ((q _ (by decide +kernel)).trans ((kept m ρ kept_3 c k).trans h3))
      ((q _ (by decide +kernel)).trans ((kept m ρ kept_4 c k).trans h4)) ((q _ (by decide +kernel)).trans ((kept m ρ kept_5 c k).trans h5))
      ((q _ (by decide +kernel)).trans ih.1) ((q _ (by decide +kernel)).trans ih.2)
    rw [tm_of_lt] at t
    refine ⟨t.1, t.2.trans (funext fun i => ?_)⟩
    obtain ⟨j, p, l, rfl⟩ : ∃ (j : Fin 6144) (p : Fin 2) (l : Fin 8192), i = ix3 j p l := ⟨i 0, i 1, i 2, eq_ix3 i⟩
    show (if j.val = k then _ else if j.val < k then _ else _) = if j.val < k + 1 then yR C (hR D U B K A H) j p l else _
    by_cases e : j.val = k
    · rw [if_pos e, if_pos (by omega)]
      subst e
      have ej : tm j.val = j := (tm_of_lt j.val j.isLt).symm
      unfold yR
      rw [ej]
      refine Finset.sum_congr rfl fun n _ => ?_
      show _ = (Ideal.exp (D (ix3 (tm j.val) p l) * A (ix2 n l)) * hR D U B K A H j.val (ix3 p n l) * K (ix2 (tm j.val) p)
        + U (ix3 (tm j.val) p l) * B (ix3 (tm j.val) p n)) * _
      rw [ej]
      rfl
    · rw [if_neg e]
      by_cases e' : j.val < k
      · rw [if_pos e', if_pos (by omega)]; rfl
      · rw [if_neg e', if_neg (by omega)]

end Cert.Proof.ReferenceIdeal

end
-- ==== Proof.ReferenceIdeal.Widen.lean ====
module

public import proofs.«01_k».proof.Proof.Gen.ReferenceIdeal.Frame
public import Idealize.ShloMosaic.Lib.Pointwise
public import Idealize.ShloMosaic.Lib.Pipeline.ValueKit

@[expose] public section

set_option maxRecDepth 16384

/-! # The four widened operands: over the extended reals each is its operand -/

noncomputable section

namespace Cert.Proof.ReferenceIdeal

open Idealize.ShloMosaic Idealize.ShloMosaic.TcCoe Idealize.ShloMosaic.Tactic
open Cert.ReferenceIdeal Cert.ReferenceIdeal.Gen

variable (m : (ℓ : Loc nD τ sig) → Buf (Elt Ideal) ℓ) (ρ : Dev nD → PrngReg) (c : Dev nD)

theorem widen_x : @Eq (S2x6144x8192.Idx → EReal) (W1 m ρ c (Proc.devRef .tc main_v0_0)) (m ((c : Thread nD τ).loc main_arg0)) := by
  refine (W1_arr m ρ c 4).trans ?_
  refine (dat0 (V0 m ρ) c).arrAt_eq_of_covers 4 _ (by decide +kernel) fun t hf y => ?_
  blk_simp
  rw [after0_4]
  frame_out
  rfl

theorem widen_dt : @Eq (S2x6144x8192.Idx → EReal) (W1 m ρ c (Proc.devRef .tc main_v0_1)) (m ((c : Thread nD τ).loc main_arg2)) := by
  refine (W1_arr m ρ c 5).trans ?_
  refine (dat0 (V0 m ρ) c).arrAt_eq_of_covers 5 _ (by decide +kernel) fun t hf y => ?_
  blk_simp
  rw [after0_5]
  frame_out
  rfl

theorem widen_B : @Eq (S2x6144x16.Idx → EReal) (W1 m ρ c (Proc.devRef .tc main_v0_2)) (m ((c : Thread nD τ).loc main_arg4)) := by
  refine (W1_arr m ρ c 6).trans ?_
  refine (dat0 (V0 m ρ) c).arrAt_eq_of_covers 6 _ (by decide +kernel) fun t hf y => ?_
  blk_simp
  rw [after0_6]
  frame_out
  rfl

theorem widen_C : @Eq (S2x6144x16.Idx → EReal) (W1 m ρ c (Proc.devRef .tc main_v0_3)) (m ((c : Thread nD τ).loc main_arg6)) := by
  refine (W1_arr m ρ c 7).trans ?_
  refine (dat0 (V0 m ρ) c).arrAt_eq_of_covers 7 _ (by decide +kernel) fun t hf y => ?_
  blk_simp
  rw [after0_7]
  frame_out
  rfl

end Cert.Proof.ReferenceIdeal

end
-- ==== Proof.ReferenceIdeal.Entry.lean ====
module

public import proofs.«01_k».proof.Proof.Gen.ReferenceIdeal.Frame
public import Idealize.ShloMosaic.Lib.Pointwise
public import Idealize.ShloMosaic.Lib.Tactic.CleanTypes

@[expose] public section

set_option maxRecDepth 16384

/-! # The reference's arrays at the entry of its scan -/

noncomputable section

namespace Cert.Proof.ReferenceIdeal

open Idealize.ShloMosaic Idealize.ShloMosaic.TcCoe Idealize.ShloMosaic.StableHlo
open Cert.ReferenceIdeal Cert.ReferenceIdeal.Gen

variable (V : Valuation τ sig (Elt Ideal))

theorem entry_v3 (X : S2x6144x8192.Idx → EReal) (s : S2x6144.Idx → EReal) (hX : V (Proc.devRef .tc main_v0_0) = X)
    (hs : V (Proc.devRef .tc main_arg1) = s) :
    @Eq (S2x6144x8192.Idx → EReal) (after hostOps1 V (Proc.devRef .tc main_v3)) fun i => X i * s (ix2 (i 0) (i 1)) := by
  subst hX hs
  after_results
  clean_types
  funext i
  idx_vars i
  pointwise

theorem entry_v9 (B : S2x6144x16.Idx → EReal) (s : S2x6144.Idx → EReal) (hB : V (Proc.devRef .tc main_v0_2) = B)
    (hs : V (Proc.devRef .tc main_arg5) = s) :
    @Eq (S2x6144x16.Idx → EReal) (after hostOps1 V (Proc.devRef .tc main_v9)) fun i => B i * s (ix2 (i 0) (i 1)) := by
  subst hB hs
  after_results
  clean_types
  funext i
  idx_vars i
  pointwise

theorem entry_v12 (C : S2x6144x16.Idx → EReal) (s : S2x6144.Idx → EReal) (hC : V (Proc.devRef .tc main_v0_3) = C)
    (hs : V (Proc.devRef .tc main_arg7) = s) :
    @Eq (S2x6144x16.Idx → EReal) (after hostOps1 V (Proc.devRef .tc main_v12)) fun i => C i * s (ix2 (i 0) (i 1)) := by
  subst hC hs
  after_results
  clean_types
  funext i
  idx_vars i
  pointwise

theorem entry_v15 (T : S2x6144x8192.Idx → EReal) (s : S2x6144.Idx → EReal) (bias : S8192.Idx → EReal)
    (hT : V (Proc.devRef .tc main_v0_1) = T) (hs : V (Proc.devRef .tc main_arg3) = s) (hb : V (Proc.devRef .tc main_arg11) = bias) :
    @Eq (S2x6144x8192.Idx → EReal) (after hostOps1 V (Proc.devRef .tc main_v15)) fun i => T i * s (ix2 (i 0) (i 1)) + bias (ix1 (i 2)) := by
  subst hT hs hb
  after_results
  clean_types
  funext i
  idx_vars i
  pointwise

/-- Softplus as the reference computes it over the extended reals. -/
def spR (v : EReal) : EReal := max v 0 + Ideal.log1p (Ideal.exp (-(max v (-v))))

set_option maxRecDepth 100000 in
theorem entry_v16 (v : S2x6144x8192.Idx → EReal) (hv : V (Proc.devRef .tc main_v15) = v) :
    @Eq (S2x6144x8192.Idx → EReal) (after hostOps1_1 V (Proc.devRef .tc main_v16)) fun i => spR (v i) := by
  after_results
  rw [hv]
  funext i
  refine Eq.trans (show _ = select (cmpf .une (subf v (broadcastInDim S2x6144x8192 ![] bcast_S_S2x6144x8192 (constant (F := Ideal) S_ .f32 0x00000000#32)))
      (subf v (broadcastInDim S2x6144x8192 ![] bcast_S_S2x6144x8192 (constant (F := Ideal) S_ .f32 0x00000000#32))))
      (addf v (broadcastInDim S2x6144x8192 ![] bcast_S_S2x6144x8192 (constant (F := Ideal) S_ .f32 0x00000000#32)))
      (addf (maximumf v (broadcastInDim S2x6144x8192 ![] bcast_S_S2x6144x8192 (constant (F := Ideal) S_ .f32 0x00000000#32)))
        (Host.log1p (Host.exp (Host.negf (Host.absf (subf v (broadcastInDim S2x6144x8192 ![] bcast_S_S2x6144x8192 (constant (F := Ideal) S_ .f32 0x00000000#32)))))))) i from rfl) ?_
  pointwise [spR]
  rw [if_neg (fun h => h rfl)]
  rfl

section
variable (dl xf : S2x6144x8192.Idx → EReal) (B C : S2x6144x16.Idx → EReal) (al : S8192x16.Idx → EReal) (rs : S2x6144.Idx → BitVec 32)

theorem entry_0 (h : V (Proc.devRef .tc main_v16) = dl) :
    @Eq (S6144x2x8192.Idx → EReal) (after hostOps1_2 V (Proc.devRef .tc main_v31_0)) fun i => dl (ix3 (i 1) (i 0) (i 2)) := by
  subst h; after_results; clean_types; simp only [id_eq]; funext i; idx_vars i; pointwise

theorem entry_1 (h : V (Proc.devRef .tc main_v16) = dl) (h' : V (Proc.devRef .tc main_v3) = xf) :
    @Eq (S6144x2x8192.Idx → EReal) (after hostOps1_2 V (Proc.devRef .tc main_v31_1))
      fun i => dl (ix3 (i 1) (i 0) (i 2)) * xf (ix3 (i 1) (i 0) (i 2)) := by
  subst h h'; after_results; clean_types; simp only [id_eq]; funext i; idx_vars i; pointwise

theorem entry_2 (h : V (Proc.devRef .tc main_v9) = B) :
    @Eq (S6144x2x16.Idx → EReal) (after hostOps1_2 V (Proc.devRef .tc main_v31_2)) fun i => B (ix3 (i 1) (i 0) (i 2)) := by
  subst h; after_results; clean_types; simp only [id_eq]; funext i; idx_vars i; pointwise

theorem entry_3 (h : V (Proc.devRef .tc main_v12) = C) :
    @Eq (S6144x2x16.Idx → EReal) (after hostOps1_2 V (Proc.devRef .tc main_v31_3)) fun i => C (ix3 (i 1) (i 0) (i 2)) := by
  subst h; after_results; clean_types; simp only [id_eq]; funext i; idx_vars i; pointwise

/-- One less the reset flag, as a number. -/
def keepR (r : BitVec 32) : EReal := FloatOps.sitofp (F := Ideal) .f32 (IntOp.subi 1#32 r)

theorem entry_4 (h : V (Proc.devRef .tc main_arg12) = rs) :
    @Eq (S6144x2.Idx → EReal) (after hostOps1_2 V (Proc.devRef .tc main_v31_4)) fun i => keepR (rs (ix2 (i 1) (i 0))) := by
  subst h; after_results; clean_types; simp only [id_eq]; funext i; idx_vars i; pointwise [keepR]

theorem entry_5 (h : V (Proc.devRef .tc main_arg9) = al) :
    @Eq (S16x8192.Idx → EReal) (after hostOps1_2 V (Proc.devRef .tc main_v31_5)) fun i => -(Ideal.exp (al (ix2 (i 1) (i 0)))) := by
  subst h; after_results; clean_types; simp only [id_eq]; funext i; idx_vars i; pointwise

theorem entry_7 : @Eq (S2x16x8192.Idx → EReal) (after hostOps1_2 V (Proc.devRef .tc main_v31_7)) fun _ => 0 := by
  after_results; clean_types; simp only [id_eq]; funext i; idx_vars i; pointwise

end

section
variable (Y : S6144x2x8192.Idx → EReal) (xf z w : S2x6144x8192.Idx → EReal) (dd : S8192.Idx → EReal)

theorem exit_36 (hY : V (Proc.devRef .tc main_v31_8) = Y) (hx : V (Proc.devRef .tc main_v3) = xf) (hd : V (Proc.devRef .tc main_arg10) = dd) :
    @Eq (S2x6144x8192.Idx → EReal) (after hostOps1_3 V (Proc.devRef .tc main_v36))
      fun i => Y (ix3 (i 1) (i 0) (i 2)) + dd (ix1 (i 2)) * xf i := by
  subst hY hx hd; after_results; clean_types; funext i; idx_vars i; pointwise

theorem exit_37 (hz : V (Proc.devRef .tc main_arg8) = z) :
    @Eq (S2x6144x8192.Idx → EReal) (after hostOps1_3 V (Proc.devRef .tc main_v37)) z := by
  subst hz; after_results; clean_types; funext i; idx_vars i; pointwise

/-- `z · logistic z` as the reference computes it. -/
def siluR (z : EReal) : EReal := z * Ideal.div 1 (1 + Ideal.exp (-z))

set_option maxRecDepth 100000 in
theorem exit_38 (hz : V (Proc.devRef .tc main_v37) = z) :
    @Eq (S2x6144x8192.Idx → EReal) (after hostOps1_4 V (Proc.devRef .tc main_v38)) fun i => siluR (z i) := by
  after_results
  rw [hz]
  funext i
  refine Eq.trans (show _ = mulf z (Host.divf (broadcastInDim S2x6144x8192 ![] bcast_S_S2x6144x8192 (constant (F := Ideal) S_ .f32 0x3F800000#32))
    (addf (broadcastInDim S2x6144x8192 ![] bcast_S_S2x6144x8192 (constant (F := Ideal) S_ .f32 0x3F800000#32)) (Host.exp (Host.negf z)))) i from rfl) ?_
  pointwise [siluR]

theorem exit_40 (hz : V (Proc.devRef .tc main_v36) = z) (hw : V (Proc.devRef .tc main_v38) = w) :
    @Eq (S2x6144x8192.Idx → EReal) (after hostOps1_5 V (Proc.devRef .tc main_v40)) fun i => z i * w i := by
  subst hz hw; after_results; clean_types; funext i; idx_vars i; pointwise

end

end Cert.Proof.ReferenceIdeal

end
-- ==== Proof.ReferenceIdeal.Result.lean ====
module

public import proofs.«01_k».proof.Proof.ReferenceIdeal.Loop
public import proofs.«01_k».proof.Proof.ReferenceIdeal.Widen
public import proofs.«01_k».proof.Proof.ReferenceIdeal.Entry

@[expose] public section

set_option maxRecDepth 16384

/-! # The reference's two results, as functions of its arguments -/

noncomputable section

namespace Cert.Proof.ReferenceIdeal

open Idealize.ShloMosaic Idealize.ShloMosaic.TcCoe Idealize.ShloMosaic.StableHlo
open Cert.ReferenceIdeal Cert.ReferenceIdeal.Gen

section
variable (x dt z : S2x6144x8192.Idx → EReal) (xs ds bs cs : S2x6144.Idx → EReal) (Bq Cq : S2x6144x16.Idx → EReal)
  (al : S8192x16.Idx → EReal) (dd bias : S8192.Idx → EReal) (rs : S2x6144.Idx → BitVec 32)

def dlR : S2x6144x8192.Idx → EReal := fun i => spR (dt i * ds (ix2 (i 0) (i 1)) + bias (ix1 (i 2)))
def xfR : S2x6144x8192.Idx → EReal := fun i => x i * xs (ix2 (i 0) (i 1))
def quR (B : S2x6144x16.Idx → EReal) (s : S2x6144.Idx → EReal) : S6144x2x16.Idx → EReal :=
  fun i => B (ix3 (i 1) (i 0) (i 2)) * s (ix2 (i 1) (i 0))

/-- The state after `k` steps, from the arguments. -/
def stR : ℕ → S2x16x8192.Idx → EReal :=
  hR (fun i => dlR dt ds bias (ix3 (i 1) (i 0) (i 2)))
    (fun i => dlR dt ds bias (ix3 (i 1) (i 0) (i 2)) * xfR x xs (ix3 (i 1) (i 0) (i 2)))
    (quR Bq bs) (fun i => keepR (rs (ix2 (i 1) (i 0)))) (fun i => -(Ideal.exp (al (ix2 (i 1) (i 0))))) (fun _ => 0)

/-- The first result. -/
def outR : S2x6144x8192.Idx → EReal := fun i =>
  (yR (quR Cq cs) (stR x dt xs ds bs Bq al bias rs) (i 1) (i 0) (i 2) + dd (ix1 (i 2)) * xfR x xs i) * siluR (z i)

end

variable (m : (ℓ : Loc nD τ sig) → Buf (Elt Ideal) ℓ) (ρ : Dev nD → PrngReg) (c : Dev nD)
variable (x dt z : S2x6144x8192.Idx → EReal) (xs ds bs cs : S2x6144.Idx → EReal) (Bq Cq : S2x6144x16.Idx → EReal)
  (al : S8192x16.Idx → EReal) (dd bias : S8192.Idx → EReal) (rs : S2x6144.Idx → BitVec 32)

theorem kept_x : Kept main_v3 := by constructor <;> decide +kernel

theorem result
    (h0 : m ((c : Thread nD τ).loc main_arg0) = x) (h1 : m ((c : Thread nD τ).loc main_arg1) = xs)
    (h2 : m ((c : Thread nD τ).loc main_arg2) = dt) (h3 : m ((c : Thread nD τ).loc main_arg3) = ds)
    (h4 : m ((c : Thread nD τ).loc main_arg4) = Bq) (h5 : m ((c : Thread nD τ).loc main_arg5) = bs)
    (h6 : m ((c : Thread nD τ).loc main_arg6) = Cq) (h7 : m ((c : Thread nD τ).loc main_arg7) = cs)
    (h8 : m ((c : Thread nD τ).loc main_arg8) = z) (h9 : m ((c : Thread nD τ).loc main_arg9) = al)
    (h10 : m ((c : Thread nD τ).loc main_arg10) = dd) (h11 : m ((c : Thread nD τ).loc main_arg11) = bias)
    (h12 : m ((c : Thread nD τ).loc main_arg12) = rs) :
    @Eq (S2x16x8192.Idx → EReal) (WN m ρ c (Proc.devRef .tc main_v31_7)) (stR x dt xs ds bs Bq al bias rs 6144)
      ∧ @Eq (S2x6144x8192.Idx → EReal) (WN m ρ c (Proc.devRef .tc main_v40)) (outR x dt z xs ds bs cs Bq Cq al dd bias rs) := by
  -- the arguments before and after the stretches
  have a1 : ∀ a ∈ argRefs, W1 m ρ c (Proc.devRef .tc a) = m ((c : Thread nD τ).loc a) := W1_args m ρ c
  have v3 := entry_v3 (W1 m ρ c) x xs ((widen_x m ρ c).trans h0) ((a1 main_arg1 (by decide)).trans h1)
  have v9 := entry_v9 (W1 m ρ c) Bq bs ((widen_B m ρ c).trans h4) ((a1 main_arg5 (by decide)).trans h5)
  have v12 := entry_v12 (W1 m ρ c) Cq cs ((widen_C m ρ c).trans h6) ((a1 main_arg7 (by decide)).trans h7)
  have v15 := entry_v15 (W1 m ρ c) dt ds bias ((widen_dt m ρ c).trans h2) ((a1 main_arg3 (by decide)).trans h3) ((a1 main_arg11 (by decide)).trans h11)
  have v16 := entry_v16 (W2 m ρ c) _ v15
  have w3 := (W3_of m ρ c main_v3 (by decide +kernel)).trans v3
  have w9 := (W3_of m ρ c main_v9 (by decide +kernel)).trans v9
  have w12 := (W3_of m ρ c main_v12 (by decide +kernel)).trans v12
  have lp := loop m ρ c _ _ _ _ _ _ _ _
    (entry_0 (W3 m ρ c) _ v16) (entry_1 (W3 m ρ c) _ _ v16 w3) (entry_2 (W3 m ρ c) _ w9) (entry_3 (W3 m ρ c) _ w12)
    (entry_4 (W3 m ρ c) rs ((W3_args m ρ c main_arg12 (by decide)).trans h12)) (entry_5 (W3 m ρ c) al ((W3_args m ρ c main_arg9 (by decide)).trans h9))
    (entry_7 (W3 m ρ c)) rfl 6144 (le_refl _)
  have q : ∀ r : Ref sig .tc, r ∉ condOps_W → Wexit m ρ c (Proc.devRef .tc r) = Wk m ρ nT c (Proc.devRef .tc r) :=
    fun r h => after_of_writes_sub condOps _ condOps_writes h
  have s7 : Wexit m ρ c (Proc.devRef .tc main_v31_7) = stR x dt xs ds bs Bq al bias rs 6144 := (q _ (by decide +kernel)).trans lp.1
  have x3 : Wexit m ρ c (Proc.devRef .tc main_v3) = xfR x xs :=
    (q _ (by decide +kernel)).trans ((kept m ρ kept_x c nT).trans ((W4_of m ρ c main_v3 (by decide +kernel)).trans w3))
  have y8 := (q main_v31_8 (by decide +kernel)).trans lp.2
  have e36 := exit_36 (Wexit m ρ c) _ _ dd y8 x3 ((W5_args m ρ c main_arg10 (by decide)).trans h10)
  have e37 := exit_37 (Wexit m ρ c) z ((W5_args m ρ c main_arg8 (by decide)).trans h8)
  have e38 := exit_38 (W6 m ρ c) z e37
  have e40 := exit_40 (W7 m ρ c) _ _ ((W7_of m ρ c main_v36 (by decide +kernel)).trans e36) e38
  constructor
  · exact (W8_of m ρ c main_v31_7 (by decide +kernel)).trans ((W7_of m ρ c main_v31_7 (by decide +kernel)).trans ((W6_of m ρ c main_v31_7 (by decide +kernel)).trans s7))
  · refine e40.trans (funext fun i => ?_)
    obtain ⟨p, j, l, rfl⟩ : ∃ (p : Fin 2) (j : Fin 6144) (l : Fin 8192), i = ix3 p j l := ⟨i 0, i 1, i 2, eq_ix3 i⟩
    show ((if j.val < 6144 then _ else _) + _) * _ = _
    rw [if_pos j.isLt]
    rfl

end Cert.Proof.ReferenceIdeal

end
-- ==== Proof.Equal.Scalar.lean ====
/- The scalar identities between the two programs over the extended reals. -/
module

public import proofs.«01_k».proof.Proof.KernelIdeal.ChunkSpec
public import proofs.«01_k».proof.Proof.ReferenceIdeal.Entry
public import Idealize.ShloMosaic.Lib.IdealHost

@[expose] public section

set_option maxRecDepth 16384

noncomputable section

namespace Cert.Proof.Equal

open Idealize.ShloMosaic
open Cert.Proof.KernelIdeal (dlS deS uS xfS outS cLog2e cNegLog2e cLn2 cZero cOne)
open Cert.Proof.ReferenceIdeal (spR siluR keepR)

/-- The natural logarithm of two and its inverse. -/
abbrev L : ℝ := Real.log 2
abbrev K : ℝ := (Real.log 2)⁻¹

theorem L_pos : 0 < L := Real.log_pos (by norm_num)
theorem K_pos : 0 < K := inv_pos.2 L_pos

theorem cLog2e_eq : @Eq EReal (cLog2e (F := Ideal)) (K : EReal) := rfl
theorem cNegLog2e_eq : @Eq EReal (cNegLog2e (F := Ideal)) ((-K : ℝ) : EReal) := rfl
theorem cLn2_eq : @Eq EReal (cLn2 (F := Ideal)) (L : EReal) := rfl
theorem cZero_eq : @Eq EReal (cZero (F := Ideal)) 0 := Ideal.ofBits_zero_f32
theorem cOne_eq : @Eq EReal (cOne (F := Ideal)) 1 := Ideal.ofBits_one_f32

theorem LK : ((L : ℝ) : EReal) * (K : EReal) = 1 := by
  rw [← EReal.coe_mul, mul_inv_cancel₀ L_pos.ne']; rfl

theorem K_nonneg : (0 : EReal) ≤ (K : EReal) := EReal.coe_nonneg.2 K_pos.le

theorem K_add (a b : EReal) : (K : EReal) * (a + b) = K * a + K * b :=
  EReal.left_distrib_of_nonneg_of_ne_top K_nonneg (EReal.coe_ne_top _) a b

theorem K_max (a b : EReal) : (K : EReal) * max a b = max ((K : EReal) * a) (K * b) :=
  (show Monotone fun x : EReal => (K : EReal) * x from fun _ _ h => mul_le_mul_of_nonneg_left h K_nonneg).map_max

theorem exp2_K (v : EReal) : Ideal.exp2 ((K : EReal) * v) = Ideal.exp v := by
  induction v using EReal.rec with
  | bot => rw [EReal.coe_mul_bot_of_pos K_pos]; rfl
  | top => rw [EReal.coe_mul_top_of_pos K_pos]; rfl
  | coe r =>
    rw [← EReal.coe_mul]
    show ((Real.rpow 2 (K * r) : ℝ) : EReal) = (Real.exp r : ℝ)
    congr 1
    show (2 : ℝ) ^ (K * r) = _
    rw [Real.rpow_def_of_pos (by norm_num)]
    congr 1
    rw [← mul_assoc, mul_inv_cancel₀ L_pos.ne', one_mul]

theorem exp_nonneg (v : EReal) : 0 ≤ Ideal.exp v := by
  induction v using EReal.rec with
  | bot => exact le_refl (0 : EReal)
  | top => exact le_top
  | coe r => exact EReal.coe_nonneg.2 (Real.exp_pos r).le

/-- The exponential of a number below infinity is a real number that is not negative. -/
theorem exp_real (v : EReal) (h : v ≠ ⊤) : ∃ r : ℝ, 0 ≤ r ∧ Ideal.exp v = r := by
  induction v using EReal.rec with
  | bot => exact ⟨0, le_refl _, rfl⟩
  | top => exact absurd rfl h
  | coe r => exact ⟨Real.exp r, (Real.exp_pos r).le, rfl⟩

theorem abs_ne (v : EReal) : -(max v (-v)) ≠ ⊤ := by
  rw [Ne, EReal.neg_eq_top_iff]
  intro h
  have h1 := max_eq_bot.1 h
  have h2 := h1.2
  rw [h1.1] at h2
  exact absurd h2 (by decide)

theorem log1p_nonneg (r : ℝ) (h : 0 ≤ r) : 0 ≤ Ideal.log (1 + (r : EReal)) := by
  have e : (1 : EReal) + (r : EReal) = ((1 + r : ℝ) : EReal) := by rw [EReal.coe_add]; rfl
  rw [e]
  show 0 ≤ (if 1 + r ≤ 0 then ⊥ else (Real.log (1 + r) : EReal))
  rw [if_neg (by linarith)]
  exact EReal.coe_nonneg.2 (Real.log_nonneg (by linarith))

theorem spR_nonneg (v : EReal) : 0 ≤ spR v := by
  obtain ⟨r, hr, e⟩ := exp_real _ (abs_ne v)
  unfold spR Ideal.log1p
  rw [e]
  exact add_nonneg (le_max_right _ _) (log1p_nonneg r hr)

/-- The correction of the base-two softplus vanishes. -/
theorem corr (r : ℝ) : ((r : EReal) - ((1 + (r : EReal)) - 1)) = 0 := by
  have e : (1 : EReal) = ((1 : ℝ) : EReal) := rfl
  rw [e, ← EReal.coe_add, ← EReal.coe_sub, ← EReal.coe_sub]
  rw [show r - (1 + r - 1) = 0 by ring]
  rfl

/-- The kernel's step size is the reference's, times the base-two logarithm of Euler's number. -/
theorem dl_eq (dt s b : EReal) : @Eq EReal (dlS (F := Ideal) dt s b) ((K : EReal) * spR (dt * s + b)) := by
  show max (dt * (s * cLog2e (F := Ideal)) + b * cLog2e (F := Ideal) : EReal) (cZero (F := Ideal))
    + (Ideal.log (cOne (F := Ideal) + Ideal.exp2 (cZero (F := Ideal) - max (dt * (s * cLog2e (F := Ideal)) + b * cLog2e (F := Ideal) : EReal) (-(dt * (s * cLog2e (F := Ideal)) + b * cLog2e (F := Ideal) : EReal)))) * cLog2e (F := Ideal)
      + (Ideal.exp2 (cZero (F := Ideal) - max (dt * (s * cLog2e (F := Ideal)) + b * cLog2e (F := Ideal) : EReal) (-(dt * (s * cLog2e (F := Ideal)) + b * cLog2e (F := Ideal) : EReal)))
        - ((cOne (F := Ideal) + Ideal.exp2 (cZero (F := Ideal) - max (dt * (s * cLog2e (F := Ideal)) + b * cLog2e (F := Ideal) : EReal) (-(dt * (s * cLog2e (F := Ideal)) + b * cLog2e (F := Ideal) : EReal)))) - cOne (F := Ideal))) * cLog2e (F := Ideal)) = _
  rw [cLog2e_eq, cZero_eq, cOne_eq]
  have ev : dt * (s * (K : EReal)) + b * (K : EReal) = (K : EReal) * (dt * s + b) := by
    rw [K_add]; congr 1
    · rw [← mul_assoc, mul_comm]
    · rw [mul_comm]
  rw [ev]
  generalize dt * s + b = v
  have ea : (0 : EReal) - max ((K : EReal) * v) (-((K : EReal) * v)) = (K : EReal) * (-(max v (-v))) := by
    rw [zero_sub, ← mul_neg, ← K_max, mul_neg]
  rw [ea, exp2_K]
  obtain ⟨r, hr, e⟩ := exp_real _ (abs_ne v)
  unfold spR Ideal.log1p
  rw [e, corr, zero_mul, add_zero, K_add, K_max, mul_zero, mul_comm (Ideal.log _)]

theorem u_eq (x s dl : EReal) : @Eq EReal (uS (F := Ideal) x s ((K : EReal) * dl)) (dl * (x * s)) := by
  show x * (s * cLn2 (F := Ideal)) * ((K : EReal) * dl) = _
  rw [cLn2_eq]
  calc x * (s * (L : EReal)) * ((K : EReal) * dl) = ((L : EReal) * (K : EReal)) * (dl * (x * s)) := by ac_rfl
    _ = _ := by rw [LK, one_mul]

theorem xf_eq (x s d : EReal) : @Eq EReal (xfS (F := Ideal) x s d) (d * (x * s)) := mul_comm _ _

theorem out_eq (z y xf : EReal) : @Eq EReal (outS (F := Ideal) z y xf) ((y + xf) * siluR z) := by
  show (y + xf) * (z * Ideal.div 1 (cOne (F := Ideal) + Ideal.exp2 (z * cNegLog2e (F := Ideal)))) = _
  rw [cOne_eq, cNegLog2e_eq]
  have e : z * ((-K : ℝ) : EReal) = (K : EReal) * (-z) := by
    rw [EReal.coe_neg, mul_neg, mul_neg, mul_comm]
  rw [e, exp2_K]
  rfl

/-- The decay without a reset. -/
theorem decay_keep (dl a : EReal) (h : 0 ≤ dl) : Ideal.exp2 (deS (F := Ideal) ((K : EReal) * dl) (0 : EReal) * a) = Ideal.exp (dl * a) := by
  have e : @Eq EReal (deS (F := Ideal) ((K : EReal) * dl) (0 : EReal)) ((K : EReal) * dl) :=
    max_eq_left (mul_nonneg K_nonneg h)
  rw [e, mul_assoc, exp2_K]

/-- The decay at a reset. -/
theorem decay_reset (dl a : EReal) (h : a < 0) : Ideal.exp2 (deS (F := Ideal) dl (⊤ : EReal) * a) = 0 := by
  have e : @Eq EReal (deS (F := Ideal) dl (⊤ : EReal)) ⊤ := max_eq_right le_top
  rw [e, EReal.top_mul_of_neg h]
  rfl

theorem keep_zero : @Eq EReal (keepR 0#32) 1 := by
  show (((1#32 - 0#32 : BitVec 32).toInt : ℝ) : EReal) = 1
  rw [show (1#32 - 0#32 : BitVec 32).toInt = 1 by decide]
  norm_num

theorem keep_one : @Eq EReal (keepR 1#32) 0 := by
  show (((1#32 - 1#32 : BitVec 32).toInt : ℝ) : EReal) = 0
  rw [show (1#32 - 1#32 : BitVec 32).toInt = 0 by decide]
  norm_num

end Cert.Proof.Equal

end
-- ==== Proof.Equal.Scan.lean ====
/- The two scans agree: the states by induction over the tokens, and then the outputs. -/
module

public import proofs.«01_k».proof.Proof.KernelIdeal.Tables
public import proofs.«01_k».proof.Proof.KernelIdeal.Operands
public import proofs.«01_k».proof.Proof.ReferenceIdeal.Result
public import proofs.«01_k».proof.Proof.Equal.Scalar

@[expose] public section

set_option maxRecDepth 16384

noncomputable section

namespace Cert.Proof.Equal

open Idealize.ShloMosaic
open Cert.ReferenceIdeal
open Cert.Proof.KernelIdeal (Tab Tabs sum8 prd ysum hst stepH dlS deS uS xfS outS)
open Cert.Proof.Operands (rsK)
open Cert.Proof.ReferenceIdeal

/-- The kernel's order of the sixteen products. -/
theorem sum16 (C hs : Tab Ideal) (T l : ℕ) :
    @Eq EReal (sum8 fun i => prd C hs T i l) (∑ n : Fin 16, (hs n.val l * C T n.val : EReal)) := by
  show ((((((((hs 0 l * C T 0 + hs 8 l * C T 8) + (hs 1 l * C T 1 + hs 9 l * C T 9)) + (hs 2 l * C T 2 + hs 10 l * C T 10))
    + (hs 3 l * C T 3 + hs 11 l * C T 11)) + (hs 4 l * C T 4 + hs 12 l * C T 12)) + (hs 5 l * C T 5 + hs 13 l * C T 13))
    + (hs 6 l * C T 6 + hs 14 l * C T 14)) + (hs 7 l * C T 7 + hs 15 l * C T 15) : EReal) = _
  simp only [Fin.sum_univ_castSucc, Fin.sum_univ_zero]
  show _ = ((((((((((((((((0 + hs 0 l * C T 0) + hs 1 l * C T 1) + hs 2 l * C T 2) + hs 3 l * C T 3) + hs 4 l * C T 4) + hs 5 l * C T 5)
    + hs 6 l * C T 6) + hs 7 l * C T 7) + hs 8 l * C T 8) + hs 9 l * C T 9) + hs 10 l * C T 10) + hs 11 l * C T 11) + hs 12 l * C T 12)
    + hs 13 l * C T 13) + hs 14 l * C T 14) + hs 15 l * C T 15 : EReal)
  rw [zero_add]
  generalize (hs 0 l * C T 0 : EReal) = a0
  generalize (hs 1 l * C T 1 : EReal) = a1
  generalize (hs 2 l * C T 2 : EReal) = a2
  generalize (hs 3 l * C T 3 : EReal) = a3
  generalize (hs 4 l * C T 4 : EReal) = a4
  generalize (hs 5 l * C T 5 : EReal) = a5
  generalize (hs 6 l * C T 6 : EReal) = a6
  generalize (hs 7 l * C T 7 : EReal) = a7
  generalize (hs 8 l * C T 8 : EReal) = a8
  generalize (hs 9 l * C T 9 : EReal) = a9
  generalize (hs 10 l * C T 10 : EReal) = a10
  generalize (hs 11 l * C T 11 : EReal) = a11
  generalize (hs 12 l * C T 12 : EReal) = a12
  generalize (hs 13 l * C T 13 : EReal) = a13
  generalize (hs 14 l * C T 14 : EReal) = a14
  generalize (hs 15 l * C T 15 : EReal) = a15
  abel

section
variable (x dt z : S2x6144x8192.Idx → EReal) (xs ds bs cs : S2x6144.Idx → EReal) (Bq Cq : S2x6144x16.Idx → EReal)
  (al : S8192x16.Idx → EReal) (dd bias : S8192.Idx → EReal) (rs : S2x6144.Idx → BitVec 32)

/-- A lane and a state row of natural index. -/
abbrev ln (l : ℕ) : Fin 8192 := Fin.ofNat 8192 l
abbrev rw16 (n : ℕ) : Fin 16 := Fin.ofNat 16 n

/-- The kernel's tables of batch `b` are these functions of the arguments. -/
structure Reads (b : Fin 2) (W : Tabs Ideal) : Prop where
  X : ∀ T l, @Eq EReal (W.X T l) (x (ix3 b (tm T) (ln l)))
  DT : ∀ T l, @Eq EReal (W.DT T l) (dt (ix3 b (tm T) (ln l)))
  Z : ∀ T l, @Eq EReal (W.Z T l) (z (ix3 b (tm T) (ln l)))
  S0 : ∀ T, @Eq EReal (W.SC T 0) (ds (ix2 b (tm T)))
  S1 : ∀ T, @Eq EReal (W.SC T 1) (xs (ix2 b (tm T)))
  S2 : ∀ T, @Eq EReal (W.SC T 2) (xs (ix2 b (tm T)))
  S3 : ∀ T, @Eq EReal (W.SC T 3) (rsK (rs (ix2 b (tm T))))
  A : ∀ n l, @Eq EReal (W.A n l) (min (-(Ideal.exp (al (ix2 (ln l) (rw16 n))))) (Ideal.ofBits .f32 0x80800000#32))
  B : ∀ T n, @Eq EReal (W.B T n) (Bq (ix3 b (tm T) (rw16 n)) * bs (ix2 b (tm T)))
  C : ∀ T n, @Eq EReal (W.C T n) (Cq (ix3 b (tm T) (rw16 n)) * cs (ix2 b (tm T)))
  H0 : ∀ n l, @Eq EReal (W.H0 n l) 0
  DD : ∀ l, @Eq EReal (W.DD l) (dd (ix1 (ln l)))
  BI : ∀ l, @Eq EReal (W.BI l) (bias (ix1 (ln l)))

variable {x dt z xs ds bs cs Bq Cq al dd bias rs}
variable {b : Fin 2} {W : Tabs Ideal} (R : Reads x dt z xs ds bs cs Bq Cq al dd bias rs b W)
  (hrs : ∀ i, rs i = 0#32 ∨ rs i = 1#32) (hal : ∀ i, Ideal.ofBits .f32 0x00800000#32 ≤ Ideal.exp (al i))

theorem min_pos : (0 : EReal) < Ideal.ofBits .f32 0x00800000#32 := by
  simp [Ideal.ofBits, Ideal.ieee]
  rw [← EReal.coe_mul]
  exact EReal.coe_pos.2 (by positivity)

theorem min_neg : Ideal.ofBits .f32 0x80800000#32 = -(Ideal.ofBits .f32 0x00800000#32) := by
  simp [Ideal.ofBits, Ideal.ieee]

include R in
theorem DL_eq (T l : ℕ) : @Eq EReal (W.DL T l) ((K : EReal) * dlR dt ds bias (ix3 b (tm T) (ln l))) := by
  refine (dl_eq (W.DT T l) (W.SC T 0) (W.BI l)).trans ?_
  rw [R.DT, R.S0, R.BI]
  rfl

include R in
theorem U_eq (T l : ℕ) : @Eq EReal (W.U T l) (dlR dt ds bias (ix3 b (tm T) (ln l)) * xfR x xs (ix3 b (tm T) (ln l))) := by
  refine (congrArg (uS (F := Ideal) (W.X T l) (W.SC T 2)) (DL_eq R T l)).trans ?_
  refine (u_eq _ _ _).trans ?_
  rw [R.X, R.S2]
  rfl

include R in
theorem XF_eq (T l : ℕ) : @Eq EReal (W.XF T l) (dd (ix1 (ln l)) * xfR x xs (ix3 b (tm T) (ln l))) := by
  refine (xf_eq _ _ _).trans ?_
  rw [R.X, R.S1, R.DD]
  rfl

include R hal in
theorem A_eq (n l : ℕ) : @Eq EReal (W.A n l) (-(Ideal.exp (al (ix2 (ln l) (rw16 n))))) := by
  rw [R.A, min_neg]
  exact min_eq_left (EReal.neg_le_neg_iff.2 (hal _))

include R hrs hal in
/-- One step's decay applied to a state. -/
theorem decay_eq (T n l : ℕ) (h : EReal) :
    @Eq EReal (Ideal.exp2 ((W.DE T l : EReal) * W.A n l) * h)
      (Ideal.exp (dlR dt ds bias (ix3 b (tm T) (ln l)) * -(Ideal.exp (al (ix2 (ln l) (rw16 n))))) * h * keepR (rs (ix2 b (tm T)))) := by
  have e : @Eq EReal (W.DE T l) (deS (F := Ideal) ((K : EReal) * dlR dt ds bias (ix3 b (tm T) (ln l))) (rsK (rs (ix2 b (tm T))))) :=
    congrArg₂ (deS (F := Ideal)) (DL_eq R T l) (R.S3 T)
  rw [e, A_eq R hal]
  rcases hrs (ix2 b (tm T)) with hr | hr
  · rw [hr, keep_zero, mul_one]
    exact congrArg (· * h) (decay_keep _ _ (spR_nonneg _))
  · rw [hr, keep_one, mul_zero]
    have hn : -(Ideal.exp (al (ix2 (ln l) (rw16 n)))) < 0 := by
      have := EReal.neg_lt_neg_iff.2 (lt_of_lt_of_le min_pos (hal (ix2 (ln l) (rw16 n))))
      rwa [neg_zero] at this
    exact (congrArg (· * h) (decay_reset _ _ hn)).trans (zero_mul h)

include R hrs hal in
theorem HS_eq (T n l : ℕ) : @Eq EReal (W.HS T n l) (stR x dt xs ds bs Bq al bias rs T (ix3 b (rw16 n) (ln l))) := by
  induction T with
  | zero => exact R.H0 n l
  | succ T ih =>
    show (Ideal.exp2 ((W.DE T l : EReal) * W.A n l) * W.HS T n l + W.U T l * W.B T n : EReal) = _
    rw [decay_eq R hrs hal, ih, U_eq R, R.B]
    rfl

include R hrs hal in
theorem OUT_eq (T : Fin 6144) (l : Fin 8192) :
    @Eq EReal (W.OUT T.val l.val) (outR x dt z xs ds bs cs Bq Cq al dd bias rs (ix3 b T l)) := by
  have et : tm T.val = T := Fin.ext (Nat.mod_eq_of_lt T.isLt)
  have el : ln l.val = l := Fin.ext (Nat.mod_eq_of_lt l.isLt)
  have ey : @Eq EReal (W.YS T.val l.val) (yR (quR Cq cs) (stR x dt xs ds bs Bq al bias rs) T b l) := by
    refine (sum16 W.C (W.HS (T.val + 1)) T.val l.val).trans ?_
    refine Finset.sum_congr rfl fun n _ => ?_
    have en : rw16 n.val = n := Fin.ext (Nat.mod_eq_of_lt n.isLt)
    rw [HS_eq R hrs hal, R.C, en, el, et]
    rfl
  refine (out_eq (W.Z T.val l.val) (W.YS T.val l.val) (W.XF T.val l.val)).trans ?_
  rw [ey, XF_eq R, R.Z, et, el]
  rfl

end

end Cert.Proof.Equal

end
-- ==== Proof.Equal.Reads.lean ====
/- The kernel's tables, read off its arguments. -/
module

public import proofs.«01_k».proof.Proof.KernelIdeal.Value
public import proofs.«01_k».proof.Proof.Equal.Scan

@[expose] public section

set_option maxRecDepth 16384

noncomputable section

namespace Cert.Proof.Equal

open Idealize.ShloMosaic Idealize.ShloMosaic.TcCoe Idealize.ShloMosaic.StableHlo
open Cert.KernelIdeal Cert.KernelIdeal.Gen
open Cert.Proof.KernelIdeal (Tab Tabs Wg aX aDT aZ aSC aBT aBS aCT aCS aA aD aBI)
open Cert.Proof.Operands
open Cert.Proof.ReferenceIdeal (tm)

variable (m : (ℓ : Loc nD τ sig) → Buf (Elt Ideal) ℓ) (c : Dev nD)
variable (x dt z : S2x6144x8192.Idx → EReal) (xs ds bs cs : S2x6144.Idx → EReal) (Bq Cq : S2x6144x16.Idx → EReal)
  (al : S8192x16.Idx → EReal) (dd bias : S8192.Idx → EReal) (rs : S2x6144.Idx → BitVec 32)

theorem V_split (r : Ref sig .tc) : V m c r = after hostOps0_2 (after hostOps0_1 (after hostOps0 fun b => m (c, b))) (Proc.devRef .tc r) := rfl

theorem at3 {n₀ n₁ n₂ : ℕ} (h₀ : 0 < n₀) (h₁ : 0 < n₁) (h₂ : 0 < n₂) (a b d : ℕ) :
    KernelIdeal.ix3 h₀ h₁ h₂ a b d = ix3 (⟨a % n₀, Nat.mod_lt _ h₀⟩ : Fin n₀) (⟨b % n₁, Nat.mod_lt _ h₁⟩ : Fin n₁) (⟨d % n₂, Nat.mod_lt _ h₂⟩ : Fin n₂) :=
  eq_ix3 _

theorem fin2 (b : Fin 2) (h : b.val % 2 < 2) : (⟨b.val % 2, h⟩ : Fin 2) = b := Fin.ext (Nat.mod_eq_of_lt b.isLt)

theorem tok (T : ℕ) (h : T / 64 % 96 < 96) (h' : T % 64 < 64) : Fin.ofNat 6144 (64 * (T / 64 % 96) + T % 64) = tm T :=
  Fin.ext (by show (64 * (T / 64 % 96) + T % 64) % 6144 = T % 6144; omega)

set_option maxHeartbeats 2000000 in
theorem reads (b : Fin 2)
    (h0 : m ((c : Thread nD τ).loc main_arg0) = x) (h1 : m ((c : Thread nD τ).loc main_arg1) = xs)
    (h2 : m ((c : Thread nD τ).loc main_arg2) = dt) (h3 : m ((c : Thread nD τ).loc main_arg3) = ds)
    (h4 : m ((c : Thread nD τ).loc main_arg4) = Bq) (h5 : m ((c : Thread nD τ).loc main_arg5) = bs)
    (h6 : m ((c : Thread nD τ).loc main_arg6) = Cq) (h7 : m ((c : Thread nD τ).loc main_arg7) = cs)
    (h8 : m ((c : Thread nD τ).loc main_arg8) = z) (h9 : m ((c : Thread nD τ).loc main_arg9) = al)
    (h10 : m ((c : Thread nD τ).loc main_arg10) = dd) (h11 : m ((c : Thread nD τ).loc main_arg11) = bias)
    (h12 : m ((c : Thread nD τ).loc main_arg12) = rs) :
    Reads x dt z xs ds bs cs Bq Cq al dd bias rs b (Wg m c b.val) := by
  have st : ∀ a ∈ [main_arg1, main_arg3, main_arg4, main_arg5, main_arg6, main_arg7, main_arg9, main_arg10, main_arg11],
      after hostOps0_1 (after hostOps0 fun b => m (c, b)) (Proc.devRef .tc a) = m ((c : Thread nD τ).loc a) := st_args _
  have e0 : V m c main_arg0 = x := (V_main_arg0 m c).trans h0
  have e2 : V m c main_arg2 = dt := (V_main_arg2 m c).trans h2
  have e8 : V m c main_arg8 = z := (V_main_arg8 m c).trans h8
  have v2 := op_2 (after hostOps0 fun b => m (c, b)) rs (op_1 (fun b => m (c, b)) rs h12) (op_inf _) (op_zero _)
  have v8 := op_8 (after hostOps0_1 (after hostOps0 fun b => m (c, b))) xs ds _ ((st main_arg1 (by decide)).trans h1) v2 ((st main_arg3 (by decide)).trans h3)
  have v10 := op_10 (after hostOps0_1 (after hostOps0 fun b => m (c, b))) Bq ((st main_arg4 (by decide)).trans h4)
  have v12 := op_12 (after hostOps0_1 (after hostOps0 fun b => m (c, b))) Cq ((st main_arg6 (by decide)).trans h6)
  have v13 := op_13 (after hostOps0_1 (after hostOps0 fun b => m (c, b))) bs ((st main_arg5 (by decide)).trans h5)
  have v14 := op_14 (after hostOps0_1 (after hostOps0 fun b => m (c, b))) cs ((st main_arg7 (by decide)).trans h7)
  have v19 := op_19 (after hostOps0_1 (after hostOps0 fun b => m (c, b))) al ((st main_arg9 (by decide)).trans h9)
  have v20 := op_20 (after hostOps0_1 (after hostOps0 fun b => m (c, b))) dd ((st main_arg10 (by decide)).trans h10)
  have v21 := op_21 (after hostOps0_1 (after hostOps0 fun b => m (c, b))) bias ((st main_arg11 (by decide)).trans h11)
  have hb : b.val % 2 = b.val := Nat.mod_eq_of_lt b.isLt
  have hs : ∀ T k, @Eq EReal ((Wg m c b.val).SC T k) (if k % 4 = 0 then ds (ix2 b (tm T)) else if k % 4 = 3 then rsK (rs (ix2 b (tm T))) else xs (ix2 b (tm T))) := by
    intro T k
    refine (congrFun ((V_split m c main_v8).trans v8) _).trans ?_
    show (if k % 4 = 0 then ds (ix2 (⟨b.val % 2, _⟩ : Fin 2) (tm T)) else if k % 4 = 3 then rsK (rs (ix2 (⟨b.val % 2, _⟩ : Fin 2) (tm T))) else xs (ix2 (⟨b.val % 2, _⟩ : Fin 2) (tm T))) = _
    simp only [fin2]
  constructor
  · intro T l
    refine (congrFun e0 _).trans (congrArg x ((at3 _ _ _ _ _ _).trans ?_))
    rw [fin2]; rfl
  · intro T l
    refine (congrFun e2 _).trans (congrArg dt ((at3 _ _ _ _ _ _).trans ?_))
    rw [fin2]; rfl
  · intro T l
    refine (congrFun e8 _).trans (congrArg z ((at3 _ _ _ _ _ _).trans ?_))
    rw [fin2]; rfl
  · intro T; exact hs T 0
  · intro T; exact hs T 1
  · intro T; exact hs T 2
  · intro T; exact hs T 3
  · intro n l
    exact congrFun ((V_split m c main_v19).trans v19) _
  · intro T n
    refine congrArg₂ (fun p q : EReal => p * q) ?_ ?_
    · refine (congrFun ((V_split m c main_v10).trans v10) _).trans ?_
      show Bq (ix3 (⟨b.val % 2, _⟩ : Fin 2) (Fin.ofNat 6144 (64 * (T / 64 % 96) + T % 64)) (rw16 n)) = _
      rw [fin2, tok T (Nat.mod_lt _ (by decide)) (Nat.mod_lt _ (by decide))]
    · refine (congrFun ((V_split m c main_v13).trans v13) _).trans ?_
      show bs (ix2 (⟨b.val % 2, _⟩ : Fin 2) (Fin.ofNat 6144 (64 * (T / 64 % 96) + T % 64))) = _
      rw [fin2, tok T (Nat.mod_lt _ (by decide)) (Nat.mod_lt _ (by decide))]
  · intro T n
    refine congrArg₂ (fun p q : EReal => p * q) ?_ ?_
    · refine (congrFun ((V_split m c main_v12).trans v12) _).trans ?_
      show Cq (ix3 (⟨b.val % 2, _⟩ : Fin 2) (Fin.ofNat 6144 (64 * (T / 64 % 96) + T % 64)) (rw16 n)) = _
      rw [fin2, tok T (Nat.mod_lt _ (by decide)) (Nat.mod_lt _ (by decide))]
    · refine (congrFun ((V_split m c main_v14).trans v14) _).trans ?_
      show cs (ix2 (⟨b.val % 2, _⟩ : Fin 2) (Fin.ofNat 6144 (64 * (T / 64 % 96) + T % 64))) = _
      rw [fin2, tok T (Nat.mod_lt _ (by decide)) (Nat.mod_lt _ (by decide))]
  · intro n l; exact cZero_eq
  · intro l
    exact congrFun ((V_split m c main_v20).trans v20) _
  · intro l
    exact congrFun ((V_split m c main_v21).trans v21) _

end Cert.Proof.Equal

end
-- ==== Proof.Equal.Algebraic.lean ====
/- The kernel and the reference compute the same two arrays over the extended reals. -/
module

public import proofs.«01_k».proof.Defs
public import proofs.«01_k».proof.Proof.Precondition
public import proofs.«01_k».proof.Proof.Equal.Reads

@[expose] public section

set_option maxRecDepth 16384

noncomputable section

namespace Cert.Proof.Equal

open Idealize.ShloMosaic Idealize.ShloMosaic.TcCoe
open Cert.Proof.ReferenceIdeal (stR outR)

local instance : Cert.KernelIdeal.Facts := Cert.KernelIdeal.Gen.facts
local instance : Cert.ReferenceIdeal.Facts := Cert.ReferenceIdeal.Gen.facts

section
variable (m : (ℓ : Loc Cert.KernelIdeal.nD Cert.KernelIdeal.τ Cert.KernelIdeal.sig) → Buf (Elt Ideal) ℓ)
  (g : Dev Cert.KernelIdeal.nD → PrngReg) (c : Dev Cert.KernelIdeal.nD)

/-- The first result, as a function of the kernel's arguments. -/
def res0 : Cert.KernelIdeal.S2x6144x8192.Idx → EReal :=
  outR (m ((c.tc : Thread _ Cert.KernelIdeal.τ).loc Cert.KernelIdeal.main_arg0)) (m ((c.tc : Thread _ Cert.KernelIdeal.τ).loc Cert.KernelIdeal.main_arg2))
    (m ((c.tc : Thread _ Cert.KernelIdeal.τ).loc Cert.KernelIdeal.main_arg8)) (m ((c.tc : Thread _ Cert.KernelIdeal.τ).loc Cert.KernelIdeal.main_arg1))
    (m ((c.tc : Thread _ Cert.KernelIdeal.τ).loc Cert.KernelIdeal.main_arg3)) (m ((c.tc : Thread _ Cert.KernelIdeal.τ).loc Cert.KernelIdeal.main_arg5))
    (m ((c.tc : Thread _ Cert.KernelIdeal.τ).loc Cert.KernelIdeal.main_arg7)) (m ((c.tc : Thread _ Cert.KernelIdeal.τ).loc Cert.KernelIdeal.main_arg4))
    (m ((c.tc : Thread _ Cert.KernelIdeal.τ).loc Cert.KernelIdeal.main_arg6)) (m ((c.tc : Thread _ Cert.KernelIdeal.τ).loc Cert.KernelIdeal.main_arg9))
    (m ((c.tc : Thread _ Cert.KernelIdeal.τ).loc Cert.KernelIdeal.main_arg10)) (m ((c.tc : Thread _ Cert.KernelIdeal.τ).loc Cert.KernelIdeal.main_arg11))
    (m ((c.tc : Thread _ Cert.KernelIdeal.τ).loc Cert.KernelIdeal.main_arg12))

/-- The second result, as a function of the kernel's arguments. -/
def res1 : Cert.KernelIdeal.S2x16x8192.Idx → EReal :=
  stR (m ((c.tc : Thread _ Cert.KernelIdeal.τ).loc Cert.KernelIdeal.main_arg0)) (m ((c.tc : Thread _ Cert.KernelIdeal.τ).loc Cert.KernelIdeal.main_arg2))
    (m ((c.tc : Thread _ Cert.KernelIdeal.τ).loc Cert.KernelIdeal.main_arg1)) (m ((c.tc : Thread _ Cert.KernelIdeal.τ).loc Cert.KernelIdeal.main_arg3))
    (m ((c.tc : Thread _ Cert.KernelIdeal.τ).loc Cert.KernelIdeal.main_arg5)) (m ((c.tc : Thread _ Cert.KernelIdeal.τ).loc Cert.KernelIdeal.main_arg4))
    (m ((c.tc : Thread _ Cert.KernelIdeal.τ).loc Cert.KernelIdeal.main_arg9)) (m ((c.tc : Thread _ Cert.KernelIdeal.τ).loc Cert.KernelIdeal.main_arg11))
    (m ((c.tc : Thread _ Cert.KernelIdeal.τ).loc Cert.KernelIdeal.main_arg12)) 6144

/-- The kernel's two arrays are those results. -/
theorem kernel_res (hrs : ∀ i, (m ((c.tc : Thread _ Cert.KernelIdeal.τ).loc Cert.KernelIdeal.main_arg12) : Cert.KernelIdeal.S2x6144.Idx → BitVec 32) i = 0#32
      ∨ (m ((c.tc : Thread _ Cert.KernelIdeal.τ).loc Cert.KernelIdeal.main_arg12) : Cert.KernelIdeal.S2x6144.Idx → BitVec 32) i = 1#32)
    (hal : ∀ i, fltMin ≤ Ideal.exp ((m ((c.tc : Thread _ Cert.KernelIdeal.τ).loc Cert.KernelIdeal.main_arg9) : Cert.KernelIdeal.S8192x16.Idx → EReal) i)) :
    @Eq (Cert.KernelIdeal.S2x6144x8192.Idx → EReal) ((KernelIdeal.dat0 m c).arrAt 11 Cert.KernelIdeal.cfg0.N) (res0 m c)
      ∧ @Eq (Cert.KernelIdeal.S2x16x8192.Idx → EReal) ((KernelIdeal.dat0 m c).arrAt 12 Cert.KernelIdeal.cfg0.N) (res1 m c) := by
  constructor
  · refine (KernelIdeal.arr_11 m c).trans (funext fun i => ?_)
    obtain ⟨p, j, l, rfl⟩ : ∃ (p : Fin 2) (j : Fin 6144) (l : Fin 8192), i = ix3 p j l := ⟨i 0, i 1, i 2, eq_ix3 i⟩
    exact OUT_eq (reads m c _ _ _ _ _ _ _ _ _ _ _ _ _ p rfl rfl rfl rfl rfl rfl rfl rfl rfl rfl rfl rfl rfl) hrs hal j l
  · refine (KernelIdeal.arr_12 m c).trans (funext fun i => ?_)
    obtain ⟨p, n, l, rfl⟩ : ∃ (p : Fin 2) (n : Fin 16) (l : Fin 8192), i = ix3 p n l := ⟨i 0, i 1, i 2, eq_ix3 i⟩
    refine (HS_eq (reads m c _ _ _ _ _ _ _ _ _ _ _ _ _ p rfl rfl rfl rfl rfl rfl rfl rfl rfl rfl rfl rfl rfl) hrs hal 6144 n.val l.val).trans ?_
    rw [show rw16 n.val = n from Fin.ext (Nat.mod_eq_of_lt n.isLt), show ln l.val = l from Fin.ext (Nat.mod_eq_of_lt l.isLt)]
    rfl

end

theorem algebraic : Cert.algebraic_KernelIdeal_ReferenceIdeal_pre_in_range (hPre_in_range := pre_facts) := by
  intro m g m' g' hpre hargs
  refine ⟨fun c => res0 m c, fun c => res1 m c, ?_, ?_⟩
  · refine (θ_run _ _ _).mono ?_ (θ_run_and (KernelIdeal.run_frame m g) (KernelIdeal.quiescent m g))
    rintro r ⟨hf, hq⟩ c
    have hp := pre_read (hPre := pre_facts) _ _ _ _ _ _ _ _ _ _ _ _ _ (hpre c)
    have hk := kernel_res m c hp.1 hp.2
    exact ⟨((hf c).1 11).trans hk.1, ((hf c).1 12).trans hk.2, hq.1 c⟩
  · refine (θ_run _ _ _).mono ?_ (θ_run_and (Cert.ReferenceIdeal.Gen.run_main m' g') (Cert.ReferenceIdeal.Gen.frame m' g'))
    rintro r ⟨hf, hq⟩ c
    obtain ⟨h0, h1, h2, h3, h4, h5, h6, h7, h8, h9, h10, h11, h12⟩ := hargs c
    have hr := ReferenceIdeal.result m' g' c _ _ _ _ _ _ _ _ _ _ _ _ _ h0 h1 h2 h3 h4 h5 h6 h7 h8 h9 h10 h11 h12
    exact ⟨(hf c _ (Cert.ReferenceIdeal.Gen.mem_uc Cert.ReferenceIdeal.main_v40 (by decide))).trans hr.2,
      (hf c _ (Cert.ReferenceIdeal.Gen.mem_uc Cert.ReferenceIdeal.main_v31_7 (by decide))).trans hr.1, hq.1 c⟩

end Cert.Proof.Equal

end
-- ==== Proof.lean ====
/- The proof of the claim: the frames of the three programs, the named constants, and the equality of the results. -/
module

public import proofs.«01_k».proof.Defs
public import proofs.«01_k».proof.Proof.Kernel.Run
public import proofs.«01_k».proof.Proof.KernelIdeal.Run
public import proofs.«01_k».proof.Proof.Gen.ReferenceIdeal.Frame
public import proofs.«01_k».proof.Proof.Equal.Algebraic
public import Idealize.ShloMosaic.Adequacy
public import Idealize.ShloMosaic.Init

@[expose] public section

noncomputable section

namespace Cert.Proof

open Idealize.ShloMosaic

theorem preserves : Cert.preserves_Kernel_KernelIdeal :=
  ⟨IdealRules.named_const.statement Cert.KernelIdeal.κ "log2e" .f32 0x3FB8AA3B#32 _ rfl,
    IdealRules.named_const.statement Cert.KernelIdeal.κ "ln2" .f32 0x3F317218#32 _ rfl,
    IdealRules.named_const.statement Cert.KernelIdeal.κ "neg_log2e" .f32 0xBFB8AA3B#32 _ rfl⟩

theorem claim : Cert.Claim :=
  ⟨Cert.Kernel.Gen.facts, Cert.KernelIdeal.Gen.facts, Cert.ReferenceIdeal.Gen.facts, pre_facts,
    fun m g _ => Cert.Proof.Kernel.quiescent m g,
    fun m g _ => Cert.Proof.KernelIdeal.quiescent m g,
    fun m g _ => Cert.Proof.KernelIdeal.quiescent m g,
    fun m g _ => Cert.ReferenceIdeal.Gen.frame m g,
    fun m g _ => Cert.ReferenceIdeal.Gen.frame m g,
    preserves,
    Equal.algebraic⟩

end Cert.Proof
